-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_KernelIdeal_in_range_finite [hPre_in_range_finite : Cert.Pre_in_range_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_finite [hPre_in_range_finite : Cert.Pre_in_range_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range_finite [hKernelIdeal : Cert.KernelIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range_finite [hReferenceIdeal : Cert.ReferenceIdeal.Facts] [hPre_in_range_finite : Cert.Pre_in_range_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_in_range_finite [hKernelIdeal : Cert.KernelIdeal.Facts] [hReferenceIdeal : Cert.ReferenceIdeal.Facts] [hPre_in_range_finite : Cert.Pre_in_range_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts) (hPre_in_range_finite : Cert.Pre_in_range_finite.Facts),
    quiescent_Kernel (hKernel := hKernel) (hPre_in_range := hPre_in_range)
    ∧ quiescent_KernelIdeal (hKernelIdeal := hKernelIdeal) (hPre_in_range := hPre_in_range)
    ∧ quiescent_KernelIdeal_pre_in_range_finite (hKernelIdeal := hKernelIdeal) (hPre_in_range_finite := hPre_in_range_finite)
    ∧ quiescent_ReferenceIdeal (hReferenceIdeal := hReferenceIdeal)
    ∧ quiescent_ReferenceIdeal_pre_in_range_finite (hReferenceIdeal := hReferenceIdeal) (hPre_in_range_finite := hPre_in_range_finite)
    ∧ preserves_Kernel_KernelIdeal
    ∧ algebraic_KernelIdeal_ReferenceIdeal_pre_in_range_finite (hKernelIdeal := hKernelIdeal) (hReferenceIdeal := hReferenceIdeal) (hPre_in_range_finite := hPre_in_range_finite)
-- ==== Pre_in_range.lean ====
abbrev S16384 : Shape := ⟨1, ![16384]⟩
abbrev S16384x10 : Shape := ⟨2, ![16384, 10]⟩
abbrev S1000000x16 : Shape := ⟨2, ![1000000, 16]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x10 : S_.BroadcastsInDim S16384x10 (![] : Fin 0 → Fin S16384x10.rank)
  reducesTo_S16384x10_S_d0_1 : S16384x10.ReducesTo [0, 1] S_

variable [Facts]

def fn_part1 {F : FTy → Type} [FloatOps F] (main_arg2 : IVec S16384x10 32) (main_v12 : IVec S_ 1) (main_v14 : IVec S16384x10 1) (main_v15 : IVec S16384x10 32) : IVec S_ 1 :=
  let main_v16 : IVec S16384x10 1 := cmpi .slt main_arg2 main_v15
  let main_v17 : IVec S16384x10 1 := andi main_v14 main_v16
  let main_c_7 : IVec S_ 1 := constantI S_ 1 1#1
  let main_v18 : IVec S_ 1 := (fun x v => Host.reduce IntOp.andi x v reducesTo_S16384x10_S_d0_1 h_S_) main_v17 main_c_7
  let main_v19 : IVec S_ 1 := andi main_v12 main_v18
  main_v19

def fn {F : FTy → Type} [FloatOps F] (main_arg0 : IVec S16384 32) (main_arg1 : IVec S16384 32) (main_arg2 : IVec S16384x10 32) (main_arg3 : FVec F S1000000x16 .f32) (main_arg4 : FVec F S1000000x16 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384x10 32 := broadcastInDim S16384x10 ![] bcast_S_S16384x10 main_c_5
  let main_v14 : IVec S16384x10 1 := cmpi .sge main_arg2 main_v13
  let main_c_6 : IVec S_ 32 := constantI S_ 32 1000000#32
  let main_v15 : IVec S16384x10 32 := broadcastInDim S16384x10 ![] bcast_S_S16384x10 main_c_6
  fn_part1 (F := F) main_arg2 main_v12 main_v14 main_v15
-- ==== Pre_in_range_finite.lean ====
abbrev S16384 : Shape := ⟨1, ![16384]⟩
abbrev S16384x10 : Shape := ⟨2, ![16384, 10]⟩
abbrev S1000000x16 : Shape := ⟨2, ![1000000, 16]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x10 : S_.BroadcastsInDim S16384x10 (![] : Fin 0 → Fin S16384x10.rank)
  reducesTo_S16384x10_S_d0_1 : S16384x10.ReducesTo [0, 1] S_
  bcast_S_S1000000x16 : S_.BroadcastsInDim S1000000x16 (![] : Fin 0 → Fin S1000000x16.rank)
  reducesTo_S1000000x16_S_d0_1 : S1000000x16.ReducesTo [0, 1] S_

variable [Facts]

def fn_part1 {F : FTy → Type} [FloatOps F] (main_arg2 : IVec S16384x10 32) (main_arg3 : FVec F S1000000x16 .f32) (main_v12 : IVec S_ 1) (main_v14 : IVec S16384x10 1) (main_v15 : IVec S16384x10 32) : IVec S_ 1 :=
  let main_v16 : IVec S16384x10 1 := cmpi .slt main_arg2 main_v15
  let main_v17 : IVec S16384x10 1 := andi main_v14 main_v16
  let main_c_7 : IVec S_ 1 := constantI S_ 1 1#1
  let main_v18 : IVec S_ 1 := (fun x v => Host.reduce IntOp.andi x v reducesTo_S16384x10_S_d0_1 h_S_) main_v17 main_c_7
  let main_v19 : IVec S_ 1 := andi main_v12 main_v18
  let main_v20 : FVec F S1000000x16 .f32 := Host.absf main_arg3
  let main_cst : FVec F S_ .f32 := constant S_ .f32 0x7F800000#32
  let main_v21 : FVec F S1000000x16 .f32 := broadcastInDim S1000000x16 ![] bcast_S_S1000000x16 main_cst
  let main_v22 : IVec S1000000x16 1 := cmpf .olt main_v20 main_v21
  let main_c_8 : IVec S_ 1 := constantI S_ 1 1#1
  let main_v23 : IVec S_ 1 := (fun x v => Host.reduce IntOp.andi x v reducesTo_S1000000x16_S_d0_1 h_S_) main_v22 main_c_8
  let main_v24 : IVec S_ 1 := andi main_v19 main_v23
  main_v24

def fn {F : FTy → Type} [FloatOps F] (main_arg0 : IVec S16384 32) (main_arg1 : IVec S16384 32) (main_arg2 : IVec S16384x10 32) (main_arg3 : FVec F S1000000x16 .f32) (main_arg4 : FVec F S1000000x16 .f32) : IVec S_ 1 :=
  let main_c : IVec S_ 32 := constantI S_ 32 0#32
  let main_v0 : IVec S16384 32 := broadcastInDim S16384 ![] bcast_S_S16384 main_c
  let main_v1 : IVec S16384 1 := cmpi .sge main_arg0 main_v0
  let main_c_0 : IVec S_ 32 := constantI S_ 32 1000000#32
  let main_v2 : IVec S16384 32 := broadcastInDim S16384 ![] bcast_S_S16384 main_c_0
  let main_v3 : IVec S16384 1 := cmpi .slt main_arg0 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_c_2 : IVec S_ 32 := constantI S_ 32 0#32
  let main_v6 : IVec S16384 32 := broadcastInDim S16384 ![] bcast_S_S16384 main_c_2
  let main_v7 : IVec S16384 1 := cmpi .sge main_arg1 main_v6
  let main_c_3 : IVec S_ 32 := constantI S_ 32 1000000#32
  let main_v8 : IVec S16384 32 := broadcastInDim S16384 ![] bcast_S_S16384 main_c_3
  let main_v9 : IVec S16384 1 := cmpi .slt main_arg1 main_v8
  let main_v10 : IVec S16384 1 := andi main_v7 main_v9
  let main_c_4 : IVec S_ 1 := constantI S_ 1 1#1
  let main_v11 : IVec S_ 1 := (fun x v => Host.reduce IntOp.andi x v reducesTo_S16384_S_d0 h_S_) main_v10 main_c_4
  let main_v12 : IVec S_ 1 := andi main_v5 main_v11
  let main_c_5 : IVec S_ 32 := constantI S_ 32 0#32
  let main_v13 : IVec S16384x10 32 := broadcastInDim S16384x10 ![] bcast_S_S16384x10 main_c_5
  let main_v14 : IVec S16384x10 1 := cmpi .sge main_arg2 main_v13
  let main_c_6 : IVec S_ 32 := constantI S_ 32 1000000#32
  let main_v15 : IVec S16384x10 32 := broadcastInDim S16384x10 ![] bcast_S_S16384x10 main_c_6
  fn_part1 (F := F) main_arg2 main_arg3 main_v12 main_v14 main_v15
-- ==== Kernel.lean ====
abbrev S16384 : Shape := ⟨1, ![16384]⟩
abbrev S16384x10 : Shape := ⟨2, ![16384, 10]⟩
abbrev S1000000x16 : Shape := ⟨2, ![1000000, 16]⟩
abbrev S125000x128 : Shape := ⟨2, ![125000, 128]⟩
abbrev S10x16384 : Shape := ⟨2, ![10, 16384]⟩
abbrev S32x4x128 : Shape := ⟨3, ![32, 4, 128]⟩
abbrev S_ : Shape := ⟨0, ![]⟩
abbrev S10x32x4x128 : Shape := ⟨4, ![10, 32, 4, 128]⟩
abbrev S32x10x4x128 : Shape := ⟨4, ![32, 10, 4, 128]⟩
abbrev S32x40x128 : Shape := ⟨3, ![32, 40, 128]⟩
abbrev S32x48x128 : Shape := ⟨3, ![32, 48, 128]⟩
abbrev S32x44x128 : Shape := ⟨3, ![32, 44, 128]⟩
abbrev S48x128 : Shape := ⟨2, ![48, 128]⟩
abbrev S128x128 : Shape := ⟨2, ![128, 128]⟩
abbrev S16x512 : Shape := ⟨2, ![16, 512]⟩
abbrev S44x128 : Shape := ⟨2, ![44, 128]⟩
abbrev S1x48x128 : Shape := ⟨3, ![1, 48, 128]⟩
abbrev S16 : Shape := ⟨1, ![16]⟩
abbrev S1x128 : Shape := ⟨2, ![1, 128]⟩
abbrev S128 : Shape := ⟨1, ![128]⟩
abbrev S1x16 : Shape := ⟨2, ![1, 16]⟩
abbrev S1x44x128 : Shape := ⟨3, ![1, 44, 128]⟩
abbrev S1x1 : Shape := ⟨2, ![1, 1]⟩
abbrev S1x32x44x128 : Shape := ⟨4, ![1, 32, 44, 128]⟩
abbrev S1 : Shape := ⟨1, ![1]⟩
abbrev S1x1x1x1 : Shape := ⟨4, ![1, 1, 1, 1]⟩

abbrev nBuf : Table → Nat
  | .hbm => 45
  | .local .tc .vmem => 1
  | .local .tc .smem => 1
  | .local .scVector .vmem => 6
  | _ => 0

abbrev bufTy : (tb : Table) → Fin (nBuf tb) → BufTy
  | .hbm, ⟨0, _⟩ => ⟨S16384, .i32⟩
  | .hbm, ⟨1, _⟩ => ⟨S16384, .i32⟩
  | .hbm, ⟨2, _⟩ => ⟨S16384x10, .i32⟩
  | .hbm, ⟨3, _⟩ => ⟨S1000000x16, .f32⟩
  | .hbm, ⟨4, _⟩ => ⟨S1000000x16, .f32⟩
  | .hbm, ⟨5, _⟩ => ⟨S125000x128, .f32⟩
  | .hbm, ⟨6, _⟩ => ⟨S125000x128, .f32⟩
  | .hbm, ⟨7, _⟩ => ⟨S10x16384, .i32⟩
  | .hbm, ⟨8, _⟩ => ⟨S32x4x128, .i32⟩
  | .hbm, ⟨9, _⟩ => ⟨S_, .i32⟩
  | .hbm, ⟨10, _⟩ => ⟨S32x4x128, .i32⟩
  | .hbm, ⟨11, _⟩ => ⟨S32x4x128, .i32⟩
  | .hbm, ⟨12, _⟩ => ⟨S_, .i32⟩
  | .hbm, ⟨13, _⟩ => ⟨S32x4x128, .i32⟩
  | .hbm, ⟨14, _⟩ => ⟨S32x4x128, .i32⟩
  | .hbm, ⟨15, _⟩ => ⟨S_, .i32⟩
  | .hbm, ⟨16, _⟩ => ⟨S32x4x128, .i32⟩
  | .hbm, ⟨17, _⟩ => ⟨S32x4x128, .i32⟩
  | .hbm, ⟨18, _⟩ => ⟨S32x4x128, .i32⟩
  | .hbm, ⟨19, _⟩ => ⟨S_, .i32⟩
  | .hbm, ⟨20, _⟩ => ⟨S32x4x128, .i32⟩
  | .hbm, ⟨21, _⟩ => ⟨S32x4x128, .i32⟩
  | .hbm, ⟨22, _⟩ => ⟨S_, .i32⟩
  | .hbm, ⟨23, _⟩ => ⟨S32x4x128, .i32⟩
  | .hbm, ⟨24, _⟩ => ⟨S32x4x128, .i32⟩
  | .hbm, ⟨25, _⟩ => ⟨S_, .i32⟩
  | .hbm, ⟨26, _⟩ => ⟨S32x4x128, .i32⟩
  | .hbm, ⟨27, _⟩ => ⟨S32x4x128, .i32⟩
  | .hbm, ⟨28, _⟩ => ⟨S10x32x4x128, .i32⟩
  | .hbm, ⟨29, _⟩ => ⟨S32x10x4x128, .i32⟩
  | .hbm, ⟨30, _⟩ => ⟨S32x40x128, .i32⟩
  | .hbm, ⟨31, _⟩ => ⟨S_, .i32⟩
  | .hbm, ⟨32, _⟩ => ⟨S32x40x128, .i32⟩
  | .hbm, ⟨33, _⟩ => ⟨S32x40x128, .i32⟩
  | .hbm, ⟨34, _⟩ => ⟨S_, .i32⟩
  | .hbm, ⟨35, _⟩ => ⟨S32x40x128, .i32⟩
  | .hbm, ⟨36, _⟩ => ⟨S32x40x128, .i32⟩
  | .hbm, ⟨37, _⟩ => ⟨S_, .i32⟩
  | .hbm, ⟨38, _⟩ => ⟨S32x40x128, .i32⟩
  | .hbm, ⟨39, _⟩ => ⟨S32x40x128, .i32⟩
  | .hbm, ⟨40, _⟩ => ⟨S32x48x128, .i32⟩
  | .hbm, ⟨41, _⟩ => ⟨S32x48x128, .i32⟩
  | .hbm, ⟨42, _⟩ => ⟨S32x44x128, .f32⟩
  | .hbm, ⟨43, _⟩ => ⟨S1x1, .f32⟩
  | .hbm, ⟨44, _⟩ => ⟨S_, .f32⟩
  | .local .tc .vmem, ⟨0, _⟩ => ⟨S32x44x128, .f32⟩
  | .local .tc .smem, ⟨0, _⟩ => ⟨S1x1, .f32⟩
  | .local .scVector .vmem, ⟨0, _⟩ => ⟨S48x128, .i32⟩
  | .local .scVector .vmem, ⟨1, _⟩ => ⟨S48x128, .i32⟩
  | .local .scVector .vmem, ⟨2, _⟩ => ⟨S128x128, .f32⟩
  | .local .scVector .vmem, ⟨3, _⟩ => ⟨S128x128, .f32⟩
  | .local .scVector .vmem, ⟨4, _⟩ => ⟨S16x512, .f32⟩
  | .local .scVector .vmem, ⟨5, _⟩ => ⟨S44x128, .f32⟩
  | _, _ => ⟨S16384, .i32⟩

abbrev bufScoped : (cs : CoreSpace) → Fin (nBuf (.local .tc cs)) → Bool
  | .vmem, ⟨0, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => true
  | ⟨6, _⟩ => true
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_c_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v0_scv : Ref sig .scVector := ⟨.hbm, 5, rfl⟩
abbrev main_v1_scv : Ref sig .scVector := ⟨.hbm, 6, rfl⟩
abbrev main_v26_scv : Ref sig .scVector := ⟨.hbm, 40, rfl⟩
abbrev main_v27_scv : Ref sig .scVector := ⟨.hbm, 41, rfl⟩
abbrev main_v28_scv : Ref sig .scVector := ⟨.hbm, 42, rfl⟩
abbrev cc1_stg0_0 : Ref sig .tc := ⟨.vmem, 0, rfl⟩
abbrev cc1_stg1_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc1_sem0_0 : DmaSem sig := 5
abbrev cc1_sem1_0 : DmaSem sig := 6
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_98_r0 : BitVec 32 := 0#32
  let c0_i32_99_r0 : BitVec 32 := 0#32
  ![v1.toNat, 0, 0]
@[reducible] def k0_t1_loop : Scf.Loop 32 :=
  let c0_i32_10 : BitVec 32 := 0#32
  let c8_i32 : BitVec 32 := 8#32
  let v12 : BitVec 32 := Scalar.addi c0_i32_10 c8_i32
  let c1_i32_11 : BitVec 32 := 1#32
  ⟨c0_i32_10, v12, c1_i32_11⟩
def k0_off2 (k0_t1 : Fin k0_t1_loop.trips) : Fin 2 → Nat :=
  let c0_i32_101 : BitVec 32 := 0#32
  let v72 : Index := Scalar.indexCast c0_i32_101
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_100 : BitVec 32 := 16#32
  let v71 : BitVec 32 := Scalar.muli v67 c16_i32_100
  let v73 : Index := Scalar.indexCast v71
  ![0, v73.toNat]

def k0_chk1 (v70 : IVec S16 32) (v76 : IVec S16 32) : Prop :=
  (∀ a x, ((![v70, v76] : Fin 2 → IVec S16 32) a x).toNat < S128x128.size a)
theorem k0_idx1_inb : ∀ (v70 : IVec S16 32) (v76 : IVec S16 32) (k0_hw1 : k0_chk1 v70 v76), ∀ a x, ((![v70, v76] : Fin 2 → IVec S16 32) a x).toNat < S128x128.size a := fun v70 v76 k0_hw1 => k0_hw1
def k0_off3 (k0_t1 : Fin k0_t1_loop.trips) : Fin 2 → Nat :=
  let c0_i32_105 : BitVec 32 := 0#32
  let v80 : Index := Scalar.indexCast c0_i32_105
  let c0_i32_104 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_103 : BitVec 32 := 16#32
  let v78 : BitVec 32 := Scalar.muli v67 c16_i32_103
  let v79 : BitVec 32 := Scalar.addi c0_i32_104 v78
  let v81 : Index := Scalar.indexCast v79
  ![0, v81.toNat]

def k0_chk2 (v70 : IVec S16 32) (v84 : IVec S16 32) : Prop :=
  (∀ a x, ((![v70, v84] : Fin 2 → IVec S16 32) a x).toNat < S128x128.size a)
theorem k0_idx2_inb : ∀ (v70 : IVec S16 32) (v84 : IVec S16 32) (k0_hw2 : k0_chk2 v70 v84), ∀ a x, ((![v70, v84] : Fin 2 → IVec S16 32) a x).toNat < S128x128.size a := fun v70 v84 k0_hw2 => k0_hw2
def k0_off4 (k0_t1 : Fin k0_t1_loop.trips) : Fin 2 → Nat :=
  let c1_i32_109 : BitVec 32 := 1#32
  let v88 : Index := Scalar.indexCast c1_i32_109
  let c0_i32_108 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_107 : BitVec 32 := 16#32
  let v86 : BitVec 32 := Scalar.muli v67 c16_i32_107
  let v87 : BitVec 32 := Scalar.addi c0_i32_108 v86
  let v89 : Index := Scalar.indexCast v87
  ![1, v89.toNat]

def k0_chk3 (v70 : IVec S16 32) (v92 : IVec S16 32) : Prop :=
  (∀ a x, ((![v70, v92] : Fin 2 → IVec S16 32) a x).toNat < S128x128.size a)
theorem k0_idx3_inb : ∀ (v70 : IVec S16 32) (v92 : IVec S16 32) (k0_hw3 : k0_chk3 v70 v92), ∀ a x, ((![v70, v92] : Fin 2 → IVec S16 32) a x).toNat < S128x128.size a := fun v70 v92 k0_hw3 => k0_hw3
def k0_off5 (k0_t1 : Fin k0_t1_loop.trips) : Fin 2 → Nat :=
  let c2_i32_113 : BitVec 32 := 2#32
  let v96 : Index := Scalar.indexCast c2_i32_113
  let c0_i32_112 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_111 : BitVec 32 := 16#32
  let v94 : BitVec 32 := Scalar.muli v67 c16_i32_111
  let v95 : BitVec 32 := Scalar.addi c0_i32_112 v94
  let v97 : Index := Scalar.indexCast v95
  ![2, v97.toNat]

def k0_chk4 (v70 : IVec S16 32) (v100 : IVec S16 32) : Prop :=
  (∀ a x, ((![v70, v100] : Fin 2 → IVec S16 32) a x).toNat < S128x128.size a)
theorem k0_idx4_inb : ∀ (v70 : IVec S16 32) (v100 : IVec S16 32) (k0_hw4 : k0_chk4 v70 v100), ∀ a x, ((![v70, v100] : Fin 2 → IVec S16 32) a x).toNat < S128x128.size a := fun v70 v100 k0_hw4 => k0_hw4
def k0_off6 (k0_t1 : Fin k0_t1_loop.trips) : Fin 2 → Nat :=
  let c3_i32_117 : BitVec 32 := 3#32
  let v104 : Index := Scalar.indexCast c3_i32_117
  let c0_i32_116 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_115 : BitVec 32 := 16#32
  let v102 : BitVec 32 := Scalar.muli v67 c16_i32_115
  let v103 : BitVec 32 := Scalar.addi c0_i32_116 v102
  let v105 : Index := Scalar.indexCast v103
  ![3, v105.toNat]

def k0_chk5 (v70 : IVec S16 32) (v108 : IVec S16 32) : Prop :=
  (∀ a x, ((![v70, v108] : Fin 2 → IVec S16 32) a x).toNat < S128x128.size a)
theorem k0_idx5_inb : ∀ (v70 : IVec S16 32) (v108 : IVec S16 32) (k0_hw5 : k0_chk5 v70 v108), ∀ a x, ((![v70, v108] : Fin 2 → IVec S16 32) a x).toNat < S128x128.size a := fun v70 v108 k0_hw5 => k0_hw5
def k0_off7 (k0_t1 : Fin k0_t1_loop.trips) : Fin 2 → Nat :=
  let c4_i32_121 : BitVec 32 := 4#32
  let v112 : Index := Scalar.indexCast c4_i32_121
  let c0_i32_120 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_119 : BitVec 32 := 16#32
  let v110 : BitVec 32 := Scalar.muli v67 c16_i32_119
  let v111 : BitVec 32 := Scalar.addi c0_i32_120 v110
  let v113 : Index := Scalar.indexCast v111
  ![4, v113.toNat]

def k0_chk6 (v70 : IVec S16 32) (v116 : IVec S16 32) : Prop :=
  (∀ a x, ((![v70, v116] : Fin 2 → IVec S16 32) a x).toNat < S128x128.size a)
theorem k0_idx6_inb : ∀ (v70 : IVec S16 32) (v116 : IVec S16 32) (k0_hw6 : k0_chk6 v70 v116), ∀ a x, ((![v70, v116] : Fin 2 → IVec S16 32) a x).toNat < S128x128.size a := fun v70 v116 k0_hw6 => k0_hw6
def k0_off8 (k0_t1 : Fin k0_t1_loop.trips) : Fin 2 → Nat :=
  let c5_i32_125 : BitVec 32 := 5#32
  let v120 : Index := Scalar.indexCast c5_i32_125
  let c0_i32_124 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_123 : BitVec 32 := 16#32
  let v118 : BitVec 32 := Scalar.muli v67 c16_i32_123
  let v119 : BitVec 32 := Scalar.addi c0_i32_124 v118
  let v121 : Index := Scalar.indexCast v119
  ![5, v121.toNat]

def k0_chk7 (v70 : IVec S16 32) (v124 : IVec S16 32) : Prop :=
  (∀ a x, ((![v70, v124] : Fin 2 → IVec S16 32) a x).toNat < S128x128.size a)
theorem k0_idx7_inb : ∀ (v70 : IVec S16 32) (v124 : IVec S16 32) (k0_hw7 : k0_chk7 v70 v124), ∀ a x, ((![v70, v124] : Fin 2 → IVec S16 32) a x).toNat < S128x128.size a := fun v70 v124 k0_hw7 => k0_hw7
def k0_off9 (k0_t1 : Fin k0_t1_loop.trips) : Fin 2 → Nat :=
  let c6_i32_129 : BitVec 32 := 6#32
  let v128 : Index := Scalar.indexCast c6_i32_129
  let c0_i32_128 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_127 : BitVec 32 := 16#32
  let v126 : BitVec 32 := Scalar.muli v67 c16_i32_127
  let v127 : BitVec 32 := Scalar.addi c0_i32_128 v126
  let v129 : Index := Scalar.indexCast v127
  ![6, v129.toNat]

def k0_chk8 (v70 : IVec S16 32) (v132 : IVec S16 32) : Prop :=
  (∀ a x, ((![v70, v132] : Fin 2 → IVec S16 32) a x).toNat < S128x128.size a)
theorem k0_idx8_inb : ∀ (v70 : IVec S16 32) (v132 : IVec S16 32) (k0_hw8 : k0_chk8 v70 v132), ∀ a x, ((![v70, v132] : Fin 2 → IVec S16 32) a x).toNat < S128x128.size a := fun v70 v132 k0_hw8 => k0_hw8
def k0_off10 (k0_t1 : Fin k0_t1_loop.trips) : Fin 2 → Nat :=
  let c7_i32_133 : BitVec 32 := 7#32
  let v136 : Index := Scalar.indexCast c7_i32_133
  let c0_i32_132 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_131 : BitVec 32 := 16#32
  let v134 : BitVec 32 := Scalar.muli v67 c16_i32_131
  let v135 : BitVec 32 := Scalar.addi c0_i32_132 v134
  let v137 : Index := Scalar.indexCast v135
  ![7, v137.toNat]

def k0_chk9 (v70 : IVec S16 32) (v140 : IVec S16 32) : Prop :=
  (∀ a x, ((![v70, v140] : Fin 2 → IVec S16 32) a x).toNat < S128x128.size a)
theorem k0_idx9_inb : ∀ (v70 : IVec S16 32) (v140 : IVec S16 32) (k0_hw9 : k0_chk9 v70 v140), ∀ a x, ((![v70, v140] : Fin 2 → IVec S16 32) a x).toNat < S128x128.size a := fun v70 v140 k0_hw9 => k0_hw9
def k0_off11 (k0_t1 : Fin k0_t1_loop.trips) : Fin 2 → Nat :=
  let c8_i32_137 : BitVec 32 := 8#32
  let v144 : Index := Scalar.indexCast c8_i32_137
  let c0_i32_136 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_135 : BitVec 32 := 16#32
  let v142 : BitVec 32 := Scalar.muli v67 c16_i32_135
  let v143 : BitVec 32 := Scalar.addi c0_i32_136 v142
  let v145 : Index := Scalar.indexCast v143
  ![8, v145.toNat]

def k0_chk10 (v70 : IVec S16 32) (v148 : IVec S16 32) : Prop :=
  (∀ a x, ((![v70, v148] : Fin 2 → IVec S16 32) a x).toNat < S128x128.size a)
theorem k0_idx10_inb : ∀ (v70 : IVec S16 32) (v148 : IVec S16 32) (k0_hw10 : k0_chk10 v70 v148), ∀ a x, ((![v70, v148] : Fin 2 → IVec S16 32) a x).toNat < S128x128.size a := fun v70 v148 k0_hw10 => k0_hw10
def k0_off12 (k0_t1 : Fin k0_t1_loop.trips) : Fin 2 → Nat :=
  let c9_i32_141 : BitVec 32 := 9#32
  let v152 : Index := Scalar.indexCast c9_i32_141
  let c0_i32_140 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_139 : BitVec 32 := 16#32
  let v150 : BitVec 32 := Scalar.muli v67 c16_i32_139
  let v151 : BitVec 32 := Scalar.addi c0_i32_140 v150
  let v153 : Index := Scalar.indexCast v151
  ![9, v153.toNat]

def k0_chk11 (v70 : IVec S16 32) (v156 : IVec S16 32) : Prop :=
  (∀ a x, ((![v70, v156] : Fin 2 → IVec S16 32) a x).toNat < S128x128.size a)
theorem k0_idx11_inb : ∀ (v70 : IVec S16 32) (v156 : IVec S16 32) (k0_hw11 : k0_chk11 v70 v156), ∀ a x, ((![v70, v156] : Fin 2 → IVec S16 32) a x).toNat < S128x128.size a := fun v70 v156 k0_hw11 => k0_hw11
def k0_off13 (k0_t1 : Fin k0_t1_loop.trips) : Fin 2 → Nat :=
  let c10_i32_144 : BitVec 32 := 10#32
  let v160 : Index := Scalar.indexCast c10_i32_144
  let c0_i32_143 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_142 : BitVec 32 := 16#32
  let v158 : BitVec 32 := Scalar.muli v67 c16_i32_142
  let v159 : BitVec 32 := Scalar.addi c0_i32_143 v158
  let v161 : Index := Scalar.indexCast v159
  ![10, v161.toNat]

def k0_chk12 (v70 : IVec S16 32) (v164 : IVec S16 32) : Prop :=
  (∀ a x, ((![v70, v164] : Fin 2 → IVec S16 32) a x).toNat < S128x128.size a)
theorem k0_idx12_inb : ∀ (v70 : IVec S16 32) (v164 : IVec S16 32) (k0_hw12 : k0_chk12 v70 v164), ∀ a x, ((![v70, v164] : Fin 2 → IVec S16 32) a x).toNat < S128x128.size a := fun v70 v164 k0_hw12 => k0_hw12
def k0_off14 (k0_t1 : Fin k0_t1_loop.trips) : Fin 2 → Nat :=
  let c11_i32_147 : BitVec 32 := 11#32
  let v168 : Index := Scalar.indexCast c11_i32_147
  let c0_i32_146 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_145 : BitVec 32 := 16#32
  let v166 : BitVec 32 := Scalar.muli v67 c16_i32_145
  let v167 : BitVec 32 := Scalar.addi c0_i32_146 v166
  let v169 : Index := Scalar.indexCast v167
  ![11, v169.toNat]

def k0_chk13 (v70 : IVec S16 32) (v172 : IVec S16 32) : Prop :=
  (∀ a x, ((![v70, v172] : Fin 2 → IVec S16 32) a x).toNat < S128x128.size a)
theorem k0_idx13_inb : ∀ (v70 : IVec S16 32) (v172 : IVec S16 32) (k0_hw13 : k0_chk13 v70 v172), ∀ a x, ((![v70, v172] : Fin 2 → IVec S16 32) a x).toNat < S128x128.size a := fun v70 v172 k0_hw13 => k0_hw13
def k0_off15 (k0_t1 : Fin k0_t1_loop.trips) : Fin 2 → Nat :=
  let c12_i32_150 : BitVec 32 := 12#32
  let v176 : Index := Scalar.indexCast c12_i32_150
  let c0_i32_149 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_148 : BitVec 32 := 16#32
  let v174 : BitVec 32 := Scalar.muli v67 c16_i32_148
  let v175 : BitVec 32 := Scalar.addi c0_i32_149 v174
  let v177 : Index := Scalar.indexCast v175
  ![12, v177.toNat]

def k0_chk14 (v70 : IVec S16 32) (v180 : IVec S16 32) : Prop :=
  (∀ a x, ((![v70, v180] : Fin 2 → IVec S16 32) a x).toNat < S128x128.size a)
theorem k0_idx14_inb : ∀ (v70 : IVec S16 32) (v180 : IVec S16 32) (k0_hw14 : k0_chk14 v70 v180), ∀ a x, ((![v70, v180] : Fin 2 → IVec S16 32) a x).toNat < S128x128.size a := fun v70 v180 k0_hw14 => k0_hw14
def k0_off16 (k0_t1 : Fin k0_t1_loop.trips) : Fin 2 → Nat :=
  let c13_i32_153 : BitVec 32 := 13#32
  let v184 : Index := Scalar.indexCast c13_i32_153
  let c0_i32_152 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_151 : BitVec 32 := 16#32
  let v182 : BitVec 32 := Scalar.muli v67 c16_i32_151
  let v183 : BitVec 32 := Scalar.addi c0_i32_152 v182
  let v185 : Index := Scalar.indexCast v183
  ![13, v185.toNat]

def k0_chk15 (v70 : IVec S16 32) (v188 : IVec S16 32) : Prop :=
  (∀ a x, ((![v70, v188] : Fin 2 → IVec S16 32) a x).toNat < S128x128.size a)
theorem k0_idx15_inb : ∀ (v70 : IVec S16 32) (v188 : IVec S16 32) (k0_hw15 : k0_chk15 v70 v188), ∀ a x, ((![v70, v188] : Fin 2 → IVec S16 32) a x).toNat < S128x128.size a := fun v70 v188 k0_hw15 => k0_hw15
def k0_off17 (k0_t1 : Fin k0_t1_loop.trips) : Fin 2 → Nat :=
  let c14_i32_156 : BitVec 32 := 14#32
  let v192 : Index := Scalar.indexCast c14_i32_156
  let c0_i32_155 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_154 : BitVec 32 := 16#32
  let v190 : BitVec 32 := Scalar.muli v67 c16_i32_154
  let v191 : BitVec 32 := Scalar.addi c0_i32_155 v190
  let v193 : Index := Scalar.indexCast v191
  ![14, v193.toNat]

def k0_chk16 (v70 : IVec S16 32) (v196 : IVec S16 32) : Prop :=
  (∀ a x, ((![v70, v196] : Fin 2 → IVec S16 32) a x).toNat < S128x128.size a)
theorem k0_idx16_inb : ∀ (v70 : IVec S16 32) (v196 : IVec S16 32) (k0_hw16 : k0_chk16 v70 v196), ∀ a x, ((![v70, v196] : Fin 2 → IVec S16 32) a x).toNat < S128x128.size a := fun v70 v196 k0_hw16 => k0_hw16
def k0_off18 (k0_t1 : Fin k0_t1_loop.trips) : Fin 2 → Nat :=
  let c15_i32_159 : BitVec 32 := 15#32
  let v200 : Index := Scalar.indexCast c15_i32_159
  let c0_i32_158 : BitVec 32 := 0#32
  let c0_i32_99 : BitVec 32 := 0#32
  let c0_i32_10 : BitVec 32 := 0#32
  let c1_i32_11 : BitVec 32 := 1#32
  let arg15 : BitVec 32 := Scf.iv c0_i32_10 c1_i32_11 k0_t1
  let c1_i32_98 : BitVec 32 := 1#32
  let v66 : BitVec 32 := Scalar.muli arg15 c1_i32_98
  let v67 : BitVec 32 := Scalar.addi c0_i32_99 v66
  let c16_i32_157 : BitVec 32 := 16#32
  let v198 : BitVec 32 := Scalar.muli v67 c16_i32_157
  let v199 : BitVec 32 := Scalar.addi c0_i32_158 v198
  let v201 : Index := Scalar.indexCast v199
  ![15, v201.toNat]
@[reducible] def k0_t2_loop : Scf.Loop 32 :=
  let c0_i32_21 : BitVec 32 := 0#32
  let c8_i32_22 : BitVec 32 := 8#32
  let v19 : BitVec 32 := Scalar.addi c0_i32_21 c8_i32_22
  let c1_i32_23 : BitVec 32 := 1#32
  ⟨c0_i32_21, v19, c1_i32_23⟩
def k0_off19 (k0_t2 : Fin k0_t2_loop.trips) : Fin 2 → Nat :=
  let c1_i32_101 : BitVec 32 := 1#32
  let v72 : Index := Scalar.indexCast c1_i32_101
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_100 : BitVec 32 := 16#32
  let v71 : BitVec 32 := Scalar.muli v67 c16_i32_100
  let v73 : Index := Scalar.indexCast v71
  ![1, v73.toNat]

def k0_chk17 (v70 : IVec S16 32) (v76 : IVec S16 32) : Prop :=
  (∀ a x, ((![v70, v76] : Fin 2 → IVec S16 32) a x).toNat < S128x128.size a)
theorem k0_idx17_inb : ∀ (v70 : IVec S16 32) (v76 : IVec S16 32) (k0_hw17 : k0_chk17 v70 v76), ∀ a x, ((![v70, v76] : Fin 2 → IVec S16 32) a x).toNat < S128x128.size a := fun v70 v76 k0_hw17 => k0_hw17
def k0_off20 (k0_t2 : Fin k0_t2_loop.trips) : Fin 2 → Nat :=
  let c0_i32_104 : BitVec 32 := 0#32
  let v80 : Index := Scalar.indexCast c0_i32_104
  let c128_i32 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_103 : BitVec 32 := 16#32
  let v78 : BitVec 32 := Scalar.muli v67 c16_i32_103
  let v79 : BitVec 32 := Scalar.addi c128_i32 v78
  let v81 : Index := Scalar.indexCast v79
  ![0, v81.toNat]

def k0_chk18 (v70 : IVec S16 32) (v84 : IVec S16 32) : Prop :=
  (∀ a x, ((![v70, v84] : Fin 2 → IVec S16 32) a x).toNat < S128x128.size a)
theorem k0_idx18_inb : ∀ (v70 : IVec S16 32) (v84 : IVec S16 32) (k0_hw18 : k0_chk18 v70 v84), ∀ a x, ((![v70, v84] : Fin 2 → IVec S16 32) a x).toNat < S128x128.size a := fun v70 v84 k0_hw18 => k0_hw18
def k0_off21 (k0_t2 : Fin k0_t2_loop.trips) : Fin 2 → Nat :=
  let c1_i32_108 : BitVec 32 := 1#32
  let v88 : Index := Scalar.indexCast c1_i32_108
  let c128_i32_107 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_106 : BitVec 32 := 16#32
  let v86 : BitVec 32 := Scalar.muli v67 c16_i32_106
  let v87 : BitVec 32 := Scalar.addi c128_i32_107 v86
  let v89 : Index := Scalar.indexCast v87
  ![1, v89.toNat]

def k0_chk19 (v70 : IVec S16 32) (v92 : IVec S16 32) : Prop :=
  (∀ a x, ((![v70, v92] : Fin 2 → IVec S16 32) a x).toNat < S128x128.size a)
theorem k0_idx19_inb : ∀ (v70 : IVec S16 32) (v92 : IVec S16 32) (k0_hw19 : k0_chk19 v70 v92), ∀ a x, ((![v70, v92] : Fin 2 → IVec S16 32) a x).toNat < S128x128.size a := fun v70 v92 k0_hw19 => k0_hw19
def k0_off22 (k0_t2 : Fin k0_t2_loop.trips) : Fin 2 → Nat :=
  let c2_i32_112 : BitVec 32 := 2#32
  let v96 : Index := Scalar.indexCast c2_i32_112
  let c128_i32_111 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_110 : BitVec 32 := 16#32
  let v94 : BitVec 32 := Scalar.muli v67 c16_i32_110
  let v95 : BitVec 32 := Scalar.addi c128_i32_111 v94
  let v97 : Index := Scalar.indexCast v95
  ![2, v97.toNat]

def k0_chk20 (v70 : IVec S16 32) (v100 : IVec S16 32) : Prop :=
  (∀ a x, ((![v70, v100] : Fin 2 → IVec S16 32) a x).toNat < S128x128.size a)
theorem k0_idx20_inb : ∀ (v70 : IVec S16 32) (v100 : IVec S16 32) (k0_hw20 : k0_chk20 v70 v100), ∀ a x, ((![v70, v100] : Fin 2 → IVec S16 32) a x).toNat < S128x128.size a := fun v70 v100 k0_hw20 => k0_hw20
def k0_off23 (k0_t2 : Fin k0_t2_loop.trips) : Fin 2 → Nat :=
  let c3_i32_116 : BitVec 32 := 3#32
  let v104 : Index := Scalar.indexCast c3_i32_116
  let c128_i32_115 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_114 : BitVec 32 := 16#32
  let v102 : BitVec 32 := Scalar.muli v67 c16_i32_114
  let v103 : BitVec 32 := Scalar.addi c128_i32_115 v102
  let v105 : Index := Scalar.indexCast v103
  ![3, v105.toNat]

def k0_chk21 (v70 : IVec S16 32) (v108 : IVec S16 32) : Prop :=
  (∀ a x, ((![v70, v108] : Fin 2 → IVec S16 32) a x).toNat < S128x128.size a)
theorem k0_idx21_inb : ∀ (v70 : IVec S16 32) (v108 : IVec S16 32) (k0_hw21 : k0_chk21 v70 v108), ∀ a x, ((![v70, v108] : Fin 2 → IVec S16 32) a x).toNat < S128x128.size a := fun v70 v108 k0_hw21 => k0_hw21
def k0_off24 (k0_t2 : Fin k0_t2_loop.trips) : Fin 2 → Nat :=
  let c4_i32_120 : BitVec 32 := 4#32
  let v112 : Index := Scalar.indexCast c4_i32_120
  let c128_i32_119 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_118 : BitVec 32 := 16#32
  let v110 : BitVec 32 := Scalar.muli v67 c16_i32_118
  let v111 : BitVec 32 := Scalar.addi c128_i32_119 v110
  let v113 : Index := Scalar.indexCast v111
  ![4, v113.toNat]

def k0_chk22 (v70 : IVec S16 32) (v116 : IVec S16 32) : Prop :=
  (∀ a x, ((![v70, v116] : Fin 2 → IVec S16 32) a x).toNat < S128x128.size a)
theorem k0_idx22_inb : ∀ (v70 : IVec S16 32) (v116 : IVec S16 32) (k0_hw22 : k0_chk22 v70 v116), ∀ a x, ((![v70, v116] : Fin 2 → IVec S16 32) a x).toNat < S128x128.size a := fun v70 v116 k0_hw22 => k0_hw22
def k0_off25 (k0_t2 : Fin k0_t2_loop.trips) : Fin 2 → Nat :=
  let c5_i32_124 : BitVec 32 := 5#32
  let v120 : Index := Scalar.indexCast c5_i32_124
  let c128_i32_123 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_122 : BitVec 32 := 16#32
  let v118 : BitVec 32 := Scalar.muli v67 c16_i32_122
  let v119 : BitVec 32 := Scalar.addi c128_i32_123 v118
  let v121 : Index := Scalar.indexCast v119
  ![5, v121.toNat]

def k0_chk23 (v70 : IVec S16 32) (v124 : IVec S16 32) : Prop :=
  (∀ a x, ((![v70, v124] : Fin 2 → IVec S16 32) a x).toNat < S128x128.size a)
theorem k0_idx23_inb : ∀ (v70 : IVec S16 32) (v124 : IVec S16 32) (k0_hw23 : k0_chk23 v70 v124), ∀ a x, ((![v70, v124] : Fin 2 → IVec S16 32) a x).toNat < S128x128.size a := fun v70 v124 k0_hw23 => k0_hw23
def k0_off26 (k0_t2 : Fin k0_t2_loop.trips) : Fin 2 → Nat :=
  let c6_i32_128 : BitVec 32 := 6#32
  let v128 : Index := Scalar.indexCast c6_i32_128
  let c128_i32_127 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_126 : BitVec 32 := 16#32
  let v126 : BitVec 32 := Scalar.muli v67 c16_i32_126
  let v127 : BitVec 32 := Scalar.addi c128_i32_127 v126
  let v129 : Index := Scalar.indexCast v127
  ![6, v129.toNat]

def k0_chk24 (v70 : IVec S16 32) (v132 : IVec S16 32) : Prop :=
  (∀ a x, ((![v70, v132] : Fin 2 → IVec S16 32) a x).toNat < S128x128.size a)
theorem k0_idx24_inb : ∀ (v70 : IVec S16 32) (v132 : IVec S16 32) (k0_hw24 : k0_chk24 v70 v132), ∀ a x, ((![v70, v132] : Fin 2 → IVec S16 32) a x).toNat < S128x128.size a := fun v70 v132 k0_hw24 => k0_hw24
def k0_off27 (k0_t2 : Fin k0_t2_loop.trips) : Fin 2 → Nat :=
  let c7_i32_132 : BitVec 32 := 7#32
  let v136 : Index := Scalar.indexCast c7_i32_132
  let c128_i32_131 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_130 : BitVec 32 := 16#32
  let v134 : BitVec 32 := Scalar.muli v67 c16_i32_130
  let v135 : BitVec 32 := Scalar.addi c128_i32_131 v134
  let v137 : Index := Scalar.indexCast v135
  ![7, v137.toNat]

def k0_chk25 (v70 : IVec S16 32) (v140 : IVec S16 32) : Prop :=
  (∀ a x, ((![v70, v140] : Fin 2 → IVec S16 32) a x).toNat < S128x128.size a)
theorem k0_idx25_inb : ∀ (v70 : IVec S16 32) (v140 : IVec S16 32) (k0_hw25 : k0_chk25 v70 v140), ∀ a x, ((![v70, v140] : Fin 2 → IVec S16 32) a x).toNat < S128x128.size a := fun v70 v140 k0_hw25 => k0_hw25
def k0_off28 (k0_t2 : Fin k0_t2_loop.trips) : Fin 2 → Nat :=
  let c8_i32_136 : BitVec 32 := 8#32
  let v144 : Index := Scalar.indexCast c8_i32_136
  let c128_i32_135 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_134 : BitVec 32 := 16#32
  let v142 : BitVec 32 := Scalar.muli v67 c16_i32_134
  let v143 : BitVec 32 := Scalar.addi c128_i32_135 v142
  let v145 : Index := Scalar.indexCast v143
  ![8, v145.toNat]

def k0_chk26 (v70 : IVec S16 32) (v148 : IVec S16 32) : Prop :=
  (∀ a x, ((![v70, v148] : Fin 2 → IVec S16 32) a x).toNat < S128x128.size a)
theorem k0_idx26_inb : ∀ (v70 : IVec S16 32) (v148 : IVec S16 32) (k0_hw26 : k0_chk26 v70 v148), ∀ a x, ((![v70, v148] : Fin 2 → IVec S16 32) a x).toNat < S128x128.size a := fun v70 v148 k0_hw26 => k0_hw26
def k0_off29 (k0_t2 : Fin k0_t2_loop.trips) : Fin 2 → Nat :=
  let c9_i32_140 : BitVec 32 := 9#32
  let v152 : Index := Scalar.indexCast c9_i32_140
  let c128_i32_139 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_138 : BitVec 32 := 16#32
  let v150 : BitVec 32 := Scalar.muli v67 c16_i32_138
  let v151 : BitVec 32 := Scalar.addi c128_i32_139 v150
  let v153 : Index := Scalar.indexCast v151
  ![9, v153.toNat]

def k0_chk27 (v70 : IVec S16 32) (v156 : IVec S16 32) : Prop :=
  (∀ a x, ((![v70, v156] : Fin 2 → IVec S16 32) a x).toNat < S128x128.size a)
theorem k0_idx27_inb : ∀ (v70 : IVec S16 32) (v156 : IVec S16 32) (k0_hw27 : k0_chk27 v70 v156), ∀ a x, ((![v70, v156] : Fin 2 → IVec S16 32) a x).toNat < S128x128.size a := fun v70 v156 k0_hw27 => k0_hw27
def k0_off30 (k0_t2 : Fin k0_t2_loop.trips) : Fin 2 → Nat :=
  let c10_i32_143 : BitVec 32 := 10#32
  let v160 : Index := Scalar.indexCast c10_i32_143
  let c128_i32_142 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_141 : BitVec 32 := 16#32
  let v158 : BitVec 32 := Scalar.muli v67 c16_i32_141
  let v159 : BitVec 32 := Scalar.addi c128_i32_142 v158
  let v161 : Index := Scalar.indexCast v159
  ![10, v161.toNat]

def k0_chk28 (v70 : IVec S16 32) (v164 : IVec S16 32) : Prop :=
  (∀ a x, ((![v70, v164] : Fin 2 → IVec S16 32) a x).toNat < S128x128.size a)
theorem k0_idx28_inb : ∀ (v70 : IVec S16 32) (v164 : IVec S16 32) (k0_hw28 : k0_chk28 v70 v164), ∀ a x, ((![v70, v164] : Fin 2 → IVec S16 32) a x).toNat < S128x128.size a := fun v70 v164 k0_hw28 => k0_hw28
def k0_off31 (k0_t2 : Fin k0_t2_loop.trips) : Fin 2 → Nat :=
  let c11_i32_146 : BitVec 32 := 11#32
  let v168 : Index := Scalar.indexCast c11_i32_146
  let c128_i32_145 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_144 : BitVec 32 := 16#32
  let v166 : BitVec 32 := Scalar.muli v67 c16_i32_144
  let v167 : BitVec 32 := Scalar.addi c128_i32_145 v166
  let v169 : Index := Scalar.indexCast v167
  ![11, v169.toNat]

def k0_chk29 (v70 : IVec S16 32) (v172 : IVec S16 32) : Prop :=
  (∀ a x, ((![v70, v172] : Fin 2 → IVec S16 32) a x).toNat < S128x128.size a)
theorem k0_idx29_inb : ∀ (v70 : IVec S16 32) (v172 : IVec S16 32) (k0_hw29 : k0_chk29 v70 v172), ∀ a x, ((![v70, v172] : Fin 2 → IVec S16 32) a x).toNat < S128x128.size a := fun v70 v172 k0_hw29 => k0_hw29
def k0_off32 (k0_t2 : Fin k0_t2_loop.trips) : Fin 2 → Nat :=
  let c12_i32_149 : BitVec 32 := 12#32
  let v176 : Index := Scalar.indexCast c12_i32_149
  let c128_i32_148 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_147 : BitVec 32 := 16#32
  let v174 : BitVec 32 := Scalar.muli v67 c16_i32_147
  let v175 : BitVec 32 := Scalar.addi c128_i32_148 v174
  let v177 : Index := Scalar.indexCast v175
  ![12, v177.toNat]

def k0_chk30 (v70 : IVec S16 32) (v180 : IVec S16 32) : Prop :=
  (∀ a x, ((![v70, v180] : Fin 2 → IVec S16 32) a x).toNat < S128x128.size a)
theorem k0_idx30_inb : ∀ (v70 : IVec S16 32) (v180 : IVec S16 32) (k0_hw30 : k0_chk30 v70 v180), ∀ a x, ((![v70, v180] : Fin 2 → IVec S16 32) a x).toNat < S128x128.size a := fun v70 v180 k0_hw30 => k0_hw30
def k0_off33 (k0_t2 : Fin k0_t2_loop.trips) : Fin 2 → Nat :=
  let c13_i32_152 : BitVec 32 := 13#32
  let v184 : Index := Scalar.indexCast c13_i32_152
  let c128_i32_151 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_150 : BitVec 32 := 16#32
  let v182 : BitVec 32 := Scalar.muli v67 c16_i32_150
  let v183 : BitVec 32 := Scalar.addi c128_i32_151 v182
  let v185 : Index := Scalar.indexCast v183
  ![13, v185.toNat]

def k0_chk31 (v70 : IVec S16 32) (v188 : IVec S16 32) : Prop :=
  (∀ a x, ((![v70, v188] : Fin 2 → IVec S16 32) a x).toNat < S128x128.size a)
theorem k0_idx31_inb : ∀ (v70 : IVec S16 32) (v188 : IVec S16 32) (k0_hw31 : k0_chk31 v70 v188), ∀ a x, ((![v70, v188] : Fin 2 → IVec S16 32) a x).toNat < S128x128.size a := fun v70 v188 k0_hw31 => k0_hw31
def k0_off34 (k0_t2 : Fin k0_t2_loop.trips) : Fin 2 → Nat :=
  let c14_i32_155 : BitVec 32 := 14#32
  let v192 : Index := Scalar.indexCast c14_i32_155
  let c128_i32_154 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_153 : BitVec 32 := 16#32
  let v190 : BitVec 32 := Scalar.muli v67 c16_i32_153
  let v191 : BitVec 32 := Scalar.addi c128_i32_154 v190
  let v193 : Index := Scalar.indexCast v191
  ![14, v193.toNat]

def k0_chk32 (v70 : IVec S16 32) (v196 : IVec S16 32) : Prop :=
  (∀ a x, ((![v70, v196] : Fin 2 → IVec S16 32) a x).toNat < S128x128.size a)
theorem k0_idx32_inb : ∀ (v70 : IVec S16 32) (v196 : IVec S16 32) (k0_hw32 : k0_chk32 v70 v196), ∀ a x, ((![v70, v196] : Fin 2 → IVec S16 32) a x).toNat < S128x128.size a := fun v70 v196 k0_hw32 => k0_hw32
def k0_off35 (k0_t2 : Fin k0_t2_loop.trips) : Fin 2 → Nat :=
  let c15_i32_158 : BitVec 32 := 15#32
  let v200 : Index := Scalar.indexCast c15_i32_158
  let c128_i32_157 : BitVec 32 := 128#32
  let c0_i32_99 : BitVec 32 := 0#32
  let c0_i32_21 : BitVec 32 := 0#32
  let c1_i32_23 : BitVec 32 := 1#32
  let arg15 : BitVec 32 := Scf.iv c0_i32_21 c1_i32_23 k0_t2
  let c1_i32_98 : BitVec 32 := 1#32
  let v66 : BitVec 32 := Scalar.muli arg15 c1_i32_98
  let v67 : BitVec 32 := Scalar.addi c0_i32_99 v66
  let c16_i32_156 : BitVec 32 := 16#32
  let v198 : BitVec 32 := Scalar.muli v67 c16_i32_156
  let v199 : BitVec 32 := Scalar.addi c128_i32_157 v198
  let v201 : Index := Scalar.indexCast v199
  ![15, v201.toNat]
@[reducible] def k0_t3_loop : Scf.Loop 32 :=
  let c0_i32_32 : BitVec 32 := 0#32
  let c8_i32_33 : BitVec 32 := 8#32
  let v26 : BitVec 32 := Scalar.addi c0_i32_32 c8_i32_33
  let c1_i32_34 : BitVec 32 := 1#32
  ⟨c0_i32_32, v26, c1_i32_34⟩
def k0_off36 (k0_t3 : Fin k0_t3_loop.trips) : Fin 2 → Nat :=
  let c2_i32_101 : BitVec 32 := 2#32
  let v72 : Index := Scalar.indexCast c2_i32_101
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_100 : BitVec 32 := 16#32
  let v71 : BitVec 32 := Scalar.muli v67 c16_i32_100
  let v73 : Index := Scalar.indexCast v71
  ![2, v73.toNat]

def k0_chk33 (v70 : IVec S16 32) (v76 : IVec S16 32) : Prop :=
  (∀ a x, ((![v70, v76] : Fin 2 → IVec S16 32) a x).toNat < S128x128.size a)
theorem k0_idx33_inb : ∀ (v70 : IVec S16 32) (v76 : IVec S16 32) (k0_hw33 : k0_chk33 v70 v76), ∀ a x, ((![v70, v76] : Fin 2 → IVec S16 32) a x).toNat < S128x128.size a := fun v70 v76 k0_hw33 => k0_hw33
def k0_off37 (k0_t3 : Fin k0_t3_loop.trips) : Fin 2 → Nat :=
  let c0_i32_104 : BitVec 32 := 0#32
  let v80 : Index := Scalar.indexCast c0_i32_104
  let c256_i32 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_103 : BitVec 32 := 16#32
  let v78 : BitVec 32 := Scalar.muli v67 c16_i32_103
  let v79 : BitVec 32 := Scalar.addi c256_i32 v78
  let v81 : Index := Scalar.indexCast v79
  ![0, v81.toNat]

def k0_chk34 (v70 : IVec S16 32) (v84 : IVec S16 32) : Prop :=
  (∀ a x, ((![v70, v84] : Fin 2 → IVec S16 32) a x).toNat < S128x128.size a)
theorem k0_idx34_inb : ∀ (v70 : IVec S16 32) (v84 : IVec S16 32) (k0_hw34 : k0_chk34 v70 v84), ∀ a x, ((![v70, v84] : Fin 2 → IVec S16 32) a x).toNat < S128x128.size a := fun v70 v84 k0_hw34 => k0_hw34
def k0_off38 (k0_t3 : Fin k0_t3_loop.trips) : Fin 2 → Nat :=
  let c1_i32_108 : BitVec 32 := 1#32
  let v88 : Index := Scalar.indexCast c1_i32_108
  let c256_i32_107 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_106 : BitVec 32 := 16#32
  let v86 : BitVec 32 := Scalar.muli v67 c16_i32_106
  let v87 : BitVec 32 := Scalar.addi c256_i32_107 v86
  let v89 : Index := Scalar.indexCast v87
  ![1, v89.toNat]

def k0_chk35 (v70 : IVec S16 32) (v92 : IVec S16 32) : Prop :=
  (∀ a x, ((![v70, v92] : Fin 2 → IVec S16 32) a x).toNat < S128x128.size a)
theorem k0_idx35_inb : ∀ (v70 : IVec S16 32) (v92 : IVec S16 32) (k0_hw35 : k0_chk35 v70 v92), ∀ a x, ((![v70, v92] : Fin 2 → IVec S16 32) a x).toNat < S128x128.size a := fun v70 v92 k0_hw35 => k0_hw35
def k0_off39 (k0_t3 : Fin k0_t3_loop.trips) : Fin 2 → Nat :=
  let c2_i32_112 : BitVec 32 := 2#32
  let v96 : Index := Scalar.indexCast c2_i32_112
  let c256_i32_111 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_110 : BitVec 32 := 16#32
  let v94 : BitVec 32 := Scalar.muli v67 c16_i32_110
  let v95 : BitVec 32 := Scalar.addi c256_i32_111 v94
  let v97 : Index := Scalar.indexCast v95
  ![2, v97.toNat]

def k0_chk36 (v70 : IVec S16 32) (v100 : IVec S16 32) : Prop :=
  (∀ a x, ((![v70, v100] : Fin 2 → IVec S16 32) a x).toNat < S128x128.size a)
theorem k0_idx36_inb : ∀ (v70 : IVec S16 32) (v100 : IVec S16 32) (k0_hw36 : k0_chk36 v70 v100), ∀ a x, ((![v70, v100] : Fin 2 → IVec S16 32) a x).toNat < S128x128.size a := fun v70 v100 k0_hw36 => k0_hw36
def k0_off40 (k0_t3 : Fin k0_t3_loop.trips) : Fin 2 → Nat :=
  let c3_i32_116 : BitVec 32 := 3#32
  let v104 : Index := Scalar.indexCast c3_i32_116
  let c256_i32_115 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_114 : BitVec 32 := 16#32
  let v102 : BitVec 32 := Scalar.muli v67 c16_i32_114
  let v103 : BitVec 32 := Scalar.addi c256_i32_115 v102
  let v105 : Index := Scalar.indexCast v103
  ![3, v105.toNat]

def k0_chk37 (v70 : IVec S16 32) (v108 : IVec S16 32) : Prop :=
  (∀ a x, ((![v70, v108] : Fin 2 → IVec S16 32) a x).toNat < S128x128.size a)
theorem k0_idx37_inb : ∀ (v70 : IVec S16 32) (v108 : IVec S16 32) (k0_hw37 : k0_chk37 v70 v108), ∀ a x, ((![v70, v108] : Fin 2 → IVec S16 32) a x).toNat < S128x128.size a := fun v70 v108 k0_hw37 => k0_hw37
def k0_off41 (k0_t3 : Fin k0_t3_loop.trips) : Fin 2 → Nat :=
  let c4_i32_120 : BitVec 32 := 4#32
  let v112 : Index := Scalar.indexCast c4_i32_120
  let c256_i32_119 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_118 : BitVec 32 := 16#32
  let v110 : BitVec 32 := Scalar.muli v67 c16_i32_118
  let v111 : BitVec 32 := Scalar.addi c256_i32_119 v110
  let v113 : Index := Scalar.indexCast v111
  ![4, v113.toNat]

def k0_chk38 (v70 : IVec S16 32) (v116 : IVec S16 32) : Prop :=
  (∀ a x, ((![v70, v116] : Fin 2 → IVec S16 32) a x).toNat < S128x128.size a)
theorem k0_idx38_inb : ∀ (v70 : IVec S16 32) (v116 : IVec S16 32) (k0_hw38 : k0_chk38 v70 v116), ∀ a x, ((![v70, v116] : Fin 2 → IVec S16 32) a x).toNat < S128x128.size a := fun v70 v116 k0_hw38 => k0_hw38
def k0_off42 (k0_t3 : Fin k0_t3_loop.trips) : Fin 2 → Nat :=
  let c5_i32_124 : BitVec 32 := 5#32
  let v120 : Index := Scalar.indexCast c5_i32_124
  let c256_i32_123 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_122 : BitVec 32 := 16#32
  let v118 : BitVec 32 := Scalar.muli v67 c16_i32_122
  let v119 : BitVec 32 := Scalar.addi c256_i32_123 v118
  let v121 : Index := Scalar.indexCast v119
  ![5, v121.toNat]

def k0_chk39 (v70 : IVec S16 32) (v124 : IVec S16 32) : Prop :=
  (∀ a x, ((![v70, v124] : Fin 2 → IVec S16 32) a x).toNat < S128x128.size a)
theorem k0_idx39_inb : ∀ (v70 : IVec S16 32) (v124 : IVec S16 32) (k0_hw39 : k0_chk39 v70 v124), ∀ a x, ((![v70, v124] : Fin 2 → IVec S16 32) a x).toNat < S128x128.size a := fun v70 v124 k0_hw39 => k0_hw39
def k0_off43 (k0_t3 : Fin k0_t3_loop.trips) : Fin 2 → Nat :=
  let c6_i32_128 : BitVec 32 := 6#32
  let v128 : Index := Scalar.indexCast c6_i32_128
  let c256_i32_127 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_126 : BitVec 32 := 16#32
  let v126 : BitVec 32 := Scalar.muli v67 c16_i32_126
  let v127 : BitVec 32 := Scalar.addi c256_i32_127 v126
  let v129 : Index := Scalar.indexCast v127
  ![6, v129.toNat]

def k0_chk40 (v70 : IVec S16 32) (v132 : IVec S16 32) : Prop :=
  (∀ a x, ((![v70, v132] : Fin 2 → IVec S16 32) a x).toNat < S128x128.size a)
theorem k0_idx40_inb : ∀ (v70 : IVec S16 32) (v132 : IVec S16 32) (k0_hw40 : k0_chk40 v70 v132), ∀ a x, ((![v70, v132] : Fin 2 → IVec S16 32) a x).toNat < S128x128.size a := fun v70 v132 k0_hw40 => k0_hw40
def k0_off44 (k0_t3 : Fin k0_t3_loop.trips) : Fin 2 → Nat :=
  let c7_i32_132 : BitVec 32 := 7#32
  let v136 : Index := Scalar.indexCast c7_i32_132
  let c256_i32_131 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_130 : BitVec 32 := 16#32
  let v134 : BitVec 32 := Scalar.muli v67 c16_i32_130
  let v135 : BitVec 32 := Scalar.addi c256_i32_131 v134
  let v137 : Index := Scalar.indexCast v135
  ![7, v137.toNat]

def k0_chk41 (v70 : IVec S16 32) (v140 : IVec S16 32) : Prop :=
  (∀ a x, ((![v70, v140] : Fin 2 → IVec S16 32) a x).toNat < S128x128.size a)
theorem k0_idx41_inb : ∀ (v70 : IVec S16 32) (v140 : IVec S16 32) (k0_hw41 : k0_chk41 v70 v140), ∀ a x, ((![v70, v140] : Fin 2 → IVec S16 32) a x).toNat < S128x128.size a := fun v70 v140 k0_hw41 => k0_hw41
def k0_off45 (k0_t3 : Fin k0_t3_loop.trips) : Fin 2 → Nat :=
  let c8_i32_136 : BitVec 32 := 8#32
  let v144 : Index := Scalar.indexCast c8_i32_136
  let c256_i32_135 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_134 : BitVec 32 := 16#32
  let v142 : BitVec 32 := Scalar.muli v67 c16_i32_134
  let v143 : BitVec 32 := Scalar.addi c256_i32_135 v142
  let v145 : Index := Scalar.indexCast v143
  ![8, v145.toNat]

def k0_chk42 (v70 : IVec S16 32) (v148 : IVec S16 32) : Prop :=
  (∀ a x, ((![v70, v148] : Fin 2 → IVec S16 32) a x).toNat < S128x128.size a)
theorem k0_idx42_inb : ∀ (v70 : IVec S16 32) (v148 : IVec S16 32) (k0_hw42 : k0_chk42 v70 v148), ∀ a x, ((![v70, v148] : Fin 2 → IVec S16 32) a x).toNat < S128x128.size a := fun v70 v148 k0_hw42 => k0_hw42
def k0_off46 (k0_t3 : Fin k0_t3_loop.trips) : Fin 2 → Nat :=
  let c9_i32_140 : BitVec 32 := 9#32
  let v152 : Index := Scalar.indexCast c9_i32_140
  let c256_i32_139 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_138 : BitVec 32 := 16#32
  let v150 : BitVec 32 := Scalar.muli v67 c16_i32_138
  let v151 : BitVec 32 := Scalar.addi c256_i32_139 v150
  let v153 : Index := Scalar.indexCast v151
  ![9, v153.toNat]

def k0_chk43 (v70 : IVec S16 32) (v156 : IVec S16 32) : Prop :=
  (∀ a x, ((![v70, v156] : Fin 2 → IVec S16 32) a x).toNat < S128x128.size a)
theorem k0_idx43_inb : ∀ (v70 : IVec S16 32) (v156 : IVec S16 32) (k0_hw43 : k0_chk43 v70 v156), ∀ a x, ((![v70, v156] : Fin 2 → IVec S16 32) a x).toNat < S128x128.size a := fun v70 v156 k0_hw43 => k0_hw43
def k0_off47 (k0_t3 : Fin k0_t3_loop.trips) : Fin 2 → Nat :=
  let c10_i32_143 : BitVec 32 := 10#32
  let v160 : Index := Scalar.indexCast c10_i32_143
  let c256_i32_142 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_141 : BitVec 32 := 16#32
  let v158 : BitVec 32 := Scalar.muli v67 c16_i32_141
  let v159 : BitVec 32 := Scalar.addi c256_i32_142 v158
  let v161 : Index := Scalar.indexCast v159
  ![10, v161.toNat]

def k0_chk44 (v70 : IVec S16 32) (v164 : IVec S16 32) : Prop :=
  (∀ a x, ((![v70, v164] : Fin 2 → IVec S16 32) a x).toNat < S128x128.size a)
theorem k0_idx44_inb : ∀ (v70 : IVec S16 32) (v164 : IVec S16 32) (k0_hw44 : k0_chk44 v70 v164), ∀ a x, ((![v70, v164] : Fin 2 → IVec S16 32) a x).toNat < S128x128.size a := fun v70 v164 k0_hw44 => k0_hw44
def k0_off48 (k0_t3 : Fin k0_t3_loop.trips) : Fin 2 → Nat :=
  let c11_i32_146 : BitVec 32 := 11#32
  let v168 : Index := Scalar.indexCast c11_i32_146
  let c256_i32_145 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_144 : BitVec 32 := 16#32
  let v166 : BitVec 32 := Scalar.muli v67 c16_i32_144
  let v167 : BitVec 32 := Scalar.addi c256_i32_145 v166
  let v169 : Index := Scalar.indexCast v167
  ![11, v169.toNat]

def k0_chk45 (v70 : IVec S16 32) (v172 : IVec S16 32) : Prop :=
  (∀ a x, ((![v70, v172] : Fin 2 → IVec S16 32) a x).toNat < S128x128.size a)
theorem k0_idx45_inb : ∀ (v70 : IVec S16 32) (v172 : IVec S16 32) (k0_hw45 : k0_chk45 v70 v172), ∀ a x, ((![v70, v172] : Fin 2 → IVec S16 32) a x).toNat < S128x128.size a := fun v70 v172 k0_hw45 => k0_hw45
def k0_off49 (k0_t3 : Fin k0_t3_loop.trips) : Fin 2 → Nat :=
  let c12_i32_149 : BitVec 32 := 12#32
  let v176 : Index := Scalar.indexCast c12_i32_149
  let c256_i32_148 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_147 : BitVec 32 := 16#32
  let v174 : BitVec 32 := Scalar.muli v67 c16_i32_147
  let v175 : BitVec 32 := Scalar.addi c256_i32_148 v174
  let v177 : Index := Scalar.indexCast v175
  ![12, v177.toNat]

def k0_chk46 (v70 : IVec S16 32) (v180 : IVec S16 32) : Prop :=
  (∀ a x, ((![v70, v180] : Fin 2 → IVec S16 32) a x).toNat < S128x128.size a)
theorem k0_idx46_inb : ∀ (v70 : IVec S16 32) (v180 : IVec S16 32) (k0_hw46 : k0_chk46 v70 v180), ∀ a x, ((![v70, v180] : Fin 2 → IVec S16 32) a x).toNat < S128x128.size a := fun v70 v180 k0_hw46 => k0_hw46
def k0_off50 (k0_t3 : Fin k0_t3_loop.trips) : Fin 2 → Nat :=
  let c13_i32_152 : BitVec 32 := 13#32
  let v184 : Index := Scalar.indexCast c13_i32_152
  let c256_i32_151 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_150 : BitVec 32 := 16#32
  let v182 : BitVec 32 := Scalar.muli v67 c16_i32_150
  let v183 : BitVec 32 := Scalar.addi c256_i32_151 v182
  let v185 : Index := Scalar.indexCast v183
  ![13, v185.toNat]

def k0_chk47 (v70 : IVec S16 32) (v188 : IVec S16 32) : Prop :=
  (∀ a x, ((![v70, v188] : Fin 2 → IVec S16 32) a x).toNat < S128x128.size a)
theorem k0_idx47_inb : ∀ (v70 : IVec S16 32) (v188 : IVec S16 32) (k0_hw47 : k0_chk47 v70 v188), ∀ a x, ((![v70, v188] : Fin 2 → IVec S16 32) a x).toNat < S128x128.size a := fun v70 v188 k0_hw47 => k0_hw47
def k0_off51 (k0_t3 : Fin k0_t3_loop.trips) : Fin 2 → Nat :=
  let c14_i32_155 : BitVec 32 := 14#32
  let v192 : Index := Scalar.indexCast c14_i32_155
  let c256_i32_154 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_153 : BitVec 32 := 16#32
  let v190 : BitVec 32 := Scalar.muli v67 c16_i32_153
  let v191 : BitVec 32 := Scalar.addi c256_i32_154 v190
  let v193 : Index := Scalar.indexCast v191
  ![14, v193.toNat]

def k0_chk48 (v70 : IVec S16 32) (v196 : IVec S16 32) : Prop :=
  (∀ a x, ((![v70, v196] : Fin 2 → IVec S16 32) a x).toNat < S128x128.size a)
theorem k0_idx48_inb : ∀ (v70 : IVec S16 32) (v196 : IVec S16 32) (k0_hw48 : k0_chk48 v70 v196), ∀ a x, ((![v70, v196] : Fin 2 → IVec S16 32) a x).toNat < S128x128.size a := fun v70 v196 k0_hw48 => k0_hw48
def k0_off52 (k0_t3 : Fin k0_t3_loop.trips) : Fin 2 → Nat :=
  let c15_i32_158 : BitVec 32 := 15#32
  let v200 : Index := Scalar.indexCast c15_i32_158
  let c256_i32_157 : BitVec 32 := 256#32
  let c0_i32_99 : BitVec 32 := 0#32
  let c0_i32_32 : BitVec 32 := 0#32
  let c1_i32_34 : BitVec 32 := 1#32
  let arg15 : BitVec 32 := Scf.iv c0_i32_32 c1_i32_34 k0_t3
  let c1_i32_98 : BitVec 32 := 1#32
  let v66 : BitVec 32 := Scalar.muli arg15 c1_i32_98
  let v67 : BitVec 32 := Scalar.addi c0_i32_99 v66
  let c16_i32_156 : BitVec 32 := 16#32
  let v198 : BitVec 32 := Scalar.muli v67 c16_i32_156
  let v199 : BitVec 32 := Scalar.addi c256_i32_157 v198
  let v201 : Index := Scalar.indexCast v199
  ![15, v201.toNat]
@[reducible] def k0_t4_loop : Scf.Loop 32 :=
  let c0_i32_43 : BitVec 32 := 0#32
  let c8_i32_44 : BitVec 32 := 8#32
  let v33 : BitVec 32 := Scalar.addi c0_i32_43 c8_i32_44
  let c1_i32_45 : BitVec 32 := 1#32
  ⟨c0_i32_43, v33, c1_i32_45⟩
def k0_off53 (k0_t4 : Fin k0_t4_loop.trips) : Fin 2 → Nat :=
  let c3_i32_101 : BitVec 32 := 3#32
  let v72 : Index := Scalar.indexCast c3_i32_101
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_100 : BitVec 32 := 16#32
  let v71 : BitVec 32 := Scalar.muli v67 c16_i32_100
  let v73 : Index := Scalar.indexCast v71
  ![3, v73.toNat]

def k0_chk49 (v70 : IVec S16 32) (v76 : IVec S16 32) : Prop :=
  (∀ a x, ((![v70, v76] : Fin 2 → IVec S16 32) a x).toNat < S128x128.size a)
theorem k0_idx49_inb : ∀ (v70 : IVec S16 32) (v76 : IVec S16 32) (k0_hw49 : k0_chk49 v70 v76), ∀ a x, ((![v70, v76] : Fin 2 → IVec S16 32) a x).toNat < S128x128.size a := fun v70 v76 k0_hw49 => k0_hw49
def k0_off54 (k0_t4 : Fin k0_t4_loop.trips) : Fin 2 → Nat :=
  let c0_i32_104 : BitVec 32 := 0#32
  let v80 : Index := Scalar.indexCast c0_i32_104
  let c384_i32 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_103 : BitVec 32 := 16#32
  let v78 : BitVec 32 := Scalar.muli v67 c16_i32_103
  let v79 : BitVec 32 := Scalar.addi c384_i32 v78
  let v81 : Index := Scalar.indexCast v79
  ![0, v81.toNat]

def k0_chk50 (v70 : IVec S16 32) (v84 : IVec S16 32) : Prop :=
  (∀ a x, ((![v70, v84] : Fin 2 → IVec S16 32) a x).toNat < S128x128.size a)
theorem k0_idx50_inb : ∀ (v70 : IVec S16 32) (v84 : IVec S16 32) (k0_hw50 : k0_chk50 v70 v84), ∀ a x, ((![v70, v84] : Fin 2 → IVec S16 32) a x).toNat < S128x128.size a := fun v70 v84 k0_hw50 => k0_hw50
def k0_off55 (k0_t4 : Fin k0_t4_loop.trips) : Fin 2 → Nat :=
  let c1_i32_108 : BitVec 32 := 1#32
  let v88 : Index := Scalar.indexCast c1_i32_108
  let c384_i32_107 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_106 : BitVec 32 := 16#32
  let v86 : BitVec 32 := Scalar.muli v67 c16_i32_106
  let v87 : BitVec 32 := Scalar.addi c384_i32_107 v86
  let v89 : Index := Scalar.indexCast v87
  ![1, v89.toNat]

def k0_chk51 (v70 : IVec S16 32) (v92 : IVec S16 32) : Prop :=
  (∀ a x, ((![v70, v92] : Fin 2 → IVec S16 32) a x).toNat < S128x128.size a)
theorem k0_idx51_inb : ∀ (v70 : IVec S16 32) (v92 : IVec S16 32) (k0_hw51 : k0_chk51 v70 v92), ∀ a x, ((![v70, v92] : Fin 2 → IVec S16 32) a x).toNat < S128x128.size a := fun v70 v92 k0_hw51 => k0_hw51
def k0_off56 (k0_t4 : Fin k0_t4_loop.trips) : Fin 2 → Nat :=
  let c2_i32_112 : BitVec 32 := 2#32
  let v96 : Index := Scalar.indexCast c2_i32_112
  let c384_i32_111 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_110 : BitVec 32 := 16#32
  let v94 : BitVec 32 := Scalar.muli v67 c16_i32_110
  let v95 : BitVec 32 := Scalar.addi c384_i32_111 v94
  let v97 : Index := Scalar.indexCast v95
  ![2, v97.toNat]

def k0_chk52 (v70 : IVec S16 32) (v100 : IVec S16 32) : Prop :=
  (∀ a x, ((![v70, v100] : Fin 2 → IVec S16 32) a x).toNat < S128x128.size a)
theorem k0_idx52_inb : ∀ (v70 : IVec S16 32) (v100 : IVec S16 32) (k0_hw52 : k0_chk52 v70 v100), ∀ a x, ((![v70, v100] : Fin 2 → IVec S16 32) a x).toNat < S128x128.size a := fun v70 v100 k0_hw52 => k0_hw52
def k0_off57 (k0_t4 : Fin k0_t4_loop.trips) : Fin 2 → Nat :=
  let c3_i32_116 : BitVec 32 := 3#32
  let v104 : Index := Scalar.indexCast c3_i32_116
  let c384_i32_115 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_114 : BitVec 32 := 16#32
  let v102 : BitVec 32 := Scalar.muli v67 c16_i32_114
  let v103 : BitVec 32 := Scalar.addi c384_i32_115 v102
  let v105 : Index := Scalar.indexCast v103
  ![3, v105.toNat]

def k0_chk53 (v70 : IVec S16 32) (v108 : IVec S16 32) : Prop :=
  (∀ a x, ((![v70, v108] : Fin 2 → IVec S16 32) a x).toNat < S128x128.size a)
theorem k0_idx53_inb : ∀ (v70 : IVec S16 32) (v108 : IVec S16 32) (k0_hw53 : k0_chk53 v70 v108), ∀ a x, ((![v70, v108] : Fin 2 → IVec S16 32) a x).toNat < S128x128.size a := fun v70 v108 k0_hw53 => k0_hw53
def k0_off58 (k0_t4 : Fin k0_t4_loop.trips) : Fin 2 → Nat :=
  let c4_i32_120 : BitVec 32 := 4#32
  let v112 : Index := Scalar.indexCast c4_i32_120
  let c384_i32_119 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_118 : BitVec 32 := 16#32
  let v110 : BitVec 32 := Scalar.muli v67 c16_i32_118
  let v111 : BitVec 32 := Scalar.addi c384_i32_119 v110
  let v113 : Index := Scalar.indexCast v111
  ![4, v113.toNat]

def k0_chk54 (v70 : IVec S16 32) (v116 : IVec S16 32) : Prop :=
  (∀ a x, ((![v70, v116] : Fin 2 → IVec S16 32) a x).toNat < S128x128.size a)
theorem k0_idx54_inb : ∀ (v70 : IVec S16 32) (v116 : IVec S16 32) (k0_hw54 : k0_chk54 v70 v116), ∀ a x, ((![v70, v116] : Fin 2 → IVec S16 32) a x).toNat < S128x128.size a := fun v70 v116 k0_hw54 => k0_hw54
def k0_off59 (k0_t4 : Fin k0_t4_loop.trips) : Fin 2 → Nat :=
  let c5_i32_124 : BitVec 32 := 5#32
  let v120 : Index := Scalar.indexCast c5_i32_124
  let c384_i32_123 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_122 : BitVec 32 := 16#32
  let v118 : BitVec 32 := Scalar.muli v67 c16_i32_122
  let v119 : BitVec 32 := Scalar.addi c384_i32_123 v118
  let v121 : Index := Scalar.indexCast v119
  ![5, v121.toNat]

def k0_chk55 (v70 : IVec S16 32) (v124 : IVec S16 32) : Prop :=
  (∀ a x, ((![v70, v124] : Fin 2 → IVec S16 32) a x).toNat < S128x128.size a)
theorem k0_idx55_inb : ∀ (v70 : IVec S16 32) (v124 : IVec S16 32) (k0_hw55 : k0_chk55 v70 v124), ∀ a x, ((![v70, v124] : Fin 2 → IVec S16 32) a x).toNat < S128x128.size a := fun v70 v124 k0_hw55 => k0_hw55
def k0_off60 (k0_t4 : Fin k0_t4_loop.trips) : Fin 2 → Nat :=
  let c6_i32_128 : BitVec 32 := 6#32
  let v128 : Index := Scalar.indexCast c6_i32_128
  let c384_i32_127 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_126 : BitVec 32 := 16#32
  let v126 : BitVec 32 := Scalar.muli v67 c16_i32_126
  let v127 : BitVec 32 := Scalar.addi c384_i32_127 v126
  let v129 : Index := Scalar.indexCast v127
  ![6, v129.toNat]

def k0_chk56 (v70 : IVec S16 32) (v132 : IVec S16 32) : Prop :=
  (∀ a x, ((![v70, v132] : Fin 2 → IVec S16 32) a x).toNat < S128x128.size a)
theorem k0_idx56_inb : ∀ (v70 : IVec S16 32) (v132 : IVec S16 32) (k0_hw56 : k0_chk56 v70 v132), ∀ a x, ((![v70, v132] : Fin 2 → IVec S16 32) a x).toNat < S128x128.size a := fun v70 v132 k0_hw56 => k0_hw56
def k0_off61 (k0_t4 : Fin k0_t4_loop.trips) : Fin 2 → Nat :=
  let c7_i32_132 : BitVec 32 := 7#32
  let v136 : Index := Scalar.indexCast c7_i32_132
  let c384_i32_131 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_130 : BitVec 32 := 16#32
  let v134 : BitVec 32 := Scalar.muli v67 c16_i32_130
  let v135 : BitVec 32 := Scalar.addi c384_i32_131 v134
  let v137 : Index := Scalar.indexCast v135
  ![7, v137.toNat]

def k0_chk57 (v70 : IVec S16 32) (v140 : IVec S16 32) : Prop :=
  (∀ a x, ((![v70, v140] : Fin 2 → IVec S16 32) a x).toNat < S128x128.size a)
theorem k0_idx57_inb : ∀ (v70 : IVec S16 32) (v140 : IVec S16 32) (k0_hw57 : k0_chk57 v70 v140), ∀ a x, ((![v70, v140] : Fin 2 → IVec S16 32) a x).toNat < S128x128.size a := fun v70 v140 k0_hw57 => k0_hw57
def k0_off62 (k0_t4 : Fin k0_t4_loop.trips) : Fin 2 → Nat :=
  let c8_i32_136 : BitVec 32 := 8#32
  let v144 : Index := Scalar.indexCast c8_i32_136
  let c384_i32_135 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_134 : BitVec 32 := 16#32
  let v142 : BitVec 32 := Scalar.muli v67 c16_i32_134
  let v143 : BitVec 32 := Scalar.addi c384_i32_135 v142
  let v145 : Index := Scalar.indexCast v143
  ![8, v145.toNat]

def k0_chk58 (v70 : IVec S16 32) (v148 : IVec S16 32) : Prop :=
  (∀ a x, ((![v70, v148] : Fin 2 → IVec S16 32) a x).toNat < S128x128.size a)
theorem k0_idx58_inb : ∀ (v70 : IVec S16 32) (v148 : IVec S16 32) (k0_hw58 : k0_chk58 v70 v148), ∀ a x, ((![v70, v148] : Fin 2 → IVec S16 32) a x).toNat < S128x128.size a := fun v70 v148 k0_hw58 => k0_hw58
def k0_off63 (k0_t4 : Fin k0_t4_loop.trips) : Fin 2 → Nat :=
  let c9_i32_140 : BitVec 32 := 9#32
  let v152 : Index := Scalar.indexCast c9_i32_140
  let c384_i32_139 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_138 : BitVec 32 := 16#32
  let v150 : BitVec 32 := Scalar.muli v67 c16_i32_138
  let v151 : BitVec 32 := Scalar.addi c384_i32_139 v150
  let v153 : Index := Scalar.indexCast v151
  ![9, v153.toNat]

def k0_chk59 (v70 : IVec S16 32) (v156 : IVec S16 32) : Prop :=
  (∀ a x, ((![v70, v156] : Fin 2 → IVec S16 32) a x).toNat < S128x128.size a)
theorem k0_idx59_inb : ∀ (v70 : IVec S16 32) (v156 : IVec S16 32) (k0_hw59 : k0_chk59 v70 v156), ∀ a x, ((![v70, v156] : Fin 2 → IVec S16 32) a x).toNat < S128x128.size a := fun v70 v156 k0_hw59 => k0_hw59
def k0_off64 (k0_t4 : Fin k0_t4_loop.trips) : Fin 2 → Nat :=
  let c10_i32_143 : BitVec 32 := 10#32
  let v160 : Index := Scalar.indexCast c10_i32_143
  let c384_i32_142 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_141 : BitVec 32 := 16#32
  let v158 : BitVec 32 := Scalar.muli v67 c16_i32_141
  let v159 : BitVec 32 := Scalar.addi c384_i32_142 v158
  let v161 : Index := Scalar.indexCast v159
  ![10, v161.toNat]

def k0_chk60 (v70 : IVec S16 32) (v164 : IVec S16 32) : Prop :=
  (∀ a x, ((![v70, v164] : Fin 2 → IVec S16 32) a x).toNat < S128x128.size a)
theorem k0_idx60_inb : ∀ (v70 : IVec S16 32) (v164 : IVec S16 32) (k0_hw60 : k0_chk60 v70 v164), ∀ a x, ((![v70, v164] : Fin 2 → IVec S16 32) a x).toNat < S128x128.size a := fun v70 v164 k0_hw60 => k0_hw60
def k0_off65 (k0_t4 : Fin k0_t4_loop.trips) : Fin 2 → Nat :=
  let c11_i32_146 : BitVec 32 := 11#32
  let v168 : Index := Scalar.indexCast c11_i32_146
  let c384_i32_145 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_144 : BitVec 32 := 16#32
  let v166 : BitVec 32 := Scalar.muli v67 c16_i32_144
  let v167 : BitVec 32 := Scalar.addi c384_i32_145 v166
  let v169 : Index := Scalar.indexCast v167
  ![11, v169.toNat]

def k0_chk61 (v70 : IVec S16 32) (v172 : IVec S16 32) : Prop :=
  (∀ a x, ((![v70, v172] : Fin 2 → IVec S16 32) a x).toNat < S128x128.size a)
theorem k0_idx61_inb : ∀ (v70 : IVec S16 32) (v172 : IVec S16 32) (k0_hw61 : k0_chk61 v70 v172), ∀ a x, ((![v70, v172] : Fin 2 → IVec S16 32) a x).toNat < S128x128.size a := fun v70 v172 k0_hw61 => k0_hw61
def k0_off66 (k0_t4 : Fin k0_t4_loop.trips) : Fin 2 → Nat :=
  let c12_i32_149 : BitVec 32 := 12#32
  let v176 : Index := Scalar.indexCast c12_i32_149
  let c384_i32_148 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_147 : BitVec 32 := 16#32
  let v174 : BitVec 32 := Scalar.muli v67 c16_i32_147
  let v175 : BitVec 32 := Scalar.addi c384_i32_148 v174
  let v177 : Index := Scalar.indexCast v175
  ![12, v177.toNat]

def k0_chk62 (v70 : IVec S16 32) (v180 : IVec S16 32) : Prop :=
  (∀ a x, ((![v70, v180] : Fin 2 → IVec S16 32) a x).toNat < S128x128.size a)
theorem k0_idx62_inb : ∀ (v70 : IVec S16 32) (v180 : IVec S16 32) (k0_hw62 : k0_chk62 v70 v180), ∀ a x, ((![v70, v180] : Fin 2 → IVec S16 32) a x).toNat < S128x128.size a := fun v70 v180 k0_hw62 => k0_hw62
def k0_off67 (k0_t4 : Fin k0_t4_loop.trips) : Fin 2 → Nat :=
  let c13_i32_152 : BitVec 32 := 13#32
  let v184 : Index := Scalar.indexCast c13_i32_152
  let c384_i32_151 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_150 : BitVec 32 := 16#32
  let v182 : BitVec 32 := Scalar.muli v67 c16_i32_150
  let v183 : BitVec 32 := Scalar.addi c384_i32_151 v182
  let v185 : Index := Scalar.indexCast v183
  ![13, v185.toNat]

def k0_chk63 (v70 : IVec S16 32) (v188 : IVec S16 32) : Prop :=
  (∀ a x, ((![v70, v188] : Fin 2 → IVec S16 32) a x).toNat < S128x128.size a)
theorem k0_idx63_inb : ∀ (v70 : IVec S16 32) (v188 : IVec S16 32) (k0_hw63 : k0_chk63 v70 v188), ∀ a x, ((![v70, v188] : Fin 2 → IVec S16 32) a x).toNat < S128x128.size a := fun v70 v188 k0_hw63 => k0_hw63
def k0_off68 (k0_t4 : Fin k0_t4_loop.trips) : Fin 2 → Nat :=
  let c14_i32_155 : BitVec 32 := 14#32
  let v192 : Index := Scalar.indexCast c14_i32_155
  let c384_i32_154 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_153 : BitVec 32 := 16#32
  let v190 : BitVec 32 := Scalar.muli v67 c16_i32_153
  let v191 : BitVec 32 := Scalar.addi c384_i32_154 v190
  let v193 : Index := Scalar.indexCast v191
  ![14, v193.toNat]

def k0_chk64 (v70 : IVec S16 32) (v196 : IVec S16 32) : Prop :=
  (∀ a x, ((![v70, v196] : Fin 2 → IVec S16 32) a x).toNat < S128x128.size a)
theorem k0_idx64_inb : ∀ (v70 : IVec S16 32) (v196 : IVec S16 32) (k0_hw64 : k0_chk64 v70 v196), ∀ a x, ((![v70, v196] : Fin 2 → IVec S16 32) a x).toNat < S128x128.size a := fun v70 v196 k0_hw64 => k0_hw64
def k0_off69 (k0_t4 : Fin k0_t4_loop.trips) : Fin 2 → Nat :=
  let c15_i32_158 : BitVec 32 := 15#32
  let v200 : Index := Scalar.indexCast c15_i32_158
  let c384_i32_157 : BitVec 32 := 384#32
  let c0_i32_99 : BitVec 32 := 0#32
  let c0_i32_43 : BitVec 32 := 0#32
  let c1_i32_45 : BitVec 32 := 1#32
  let arg15 : BitVec 32 := Scf.iv c0_i32_43 c1_i32_45 k0_t4
  let c1_i32_98 : BitVec 32 := 1#32
  let v66 : BitVec 32 := Scalar.muli arg15 c1_i32_98
  let v67 : BitVec 32 := Scalar.addi c0_i32_99 v66
  let c16_i32_156 : BitVec 32 := 16#32
  let v198 : BitVec 32 := Scalar.muli v67 c16_i32_156
  let v199 : BitVec 32 := Scalar.addi c384_i32_157 v198
  let v201 : Index := Scalar.indexCast v199
  ![15, v201.toNat]
@[reducible] def k0_t5_loop : Scf.Loop 32 :=
  let c0_i32_54 : BitVec 32 := 0#32
  let c8_i32_55 : BitVec 32 := 8#32
  let v40 : BitVec 32 := Scalar.addi c0_i32_54 c8_i32_55
  let c1_i32_56 : BitVec 32 := 1#32
  ⟨c0_i32_54, v40, c1_i32_56⟩
def k0_off70 (k0_t5 : Fin k0_t5_loop.trips) : Fin 2 → Nat :=
  let c4_i32_101 : BitVec 32 := 4#32
  let v72 : Index := Scalar.indexCast c4_i32_101
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_100 : BitVec 32 := 16#32
  let v71 : BitVec 32 := Scalar.muli v67 c16_i32_100
  let v73 : Index := Scalar.indexCast v71
  ![4, v73.toNat]

def k0_chk65 (v70 : IVec S16 32) (v77 : IVec S16 32) : Prop :=
  (∀ a x, ((![v70, v77] : Fin 2 → IVec S16 32) a x).toNat < S128x128.size a)
theorem k0_idx65_inb : ∀ (v70 : IVec S16 32) (v77 : IVec S16 32) (k0_hw65 : k0_chk65 v70 v77), ∀ a x, ((![v70, v77] : Fin 2 → IVec S16 32) a x).toNat < S128x128.size a := fun v70 v77 k0_hw65 => k0_hw65
def k0_off71 (k0_t5 : Fin k0_t5_loop.trips) : Fin 2 → Nat :=
  let c0_i32_105 : BitVec 32 := 0#32
  let v81 : Index := Scalar.indexCast c0_i32_105
  let c0_i32_104 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_103 : BitVec 32 := 16#32
  let v79 : BitVec 32 := Scalar.muli v67 c16_i32_103
  let v80 : BitVec 32 := Scalar.addi c0_i32_104 v79
  let v82 : Index := Scalar.indexCast v80
  ![0, v82.toNat]

def k0_chk66 (v70 : IVec S16 32) (v87 : IVec S16 32) : Prop :=
  (∀ a x, ((![v70, v87] : Fin 2 → IVec S16 32) a x).toNat < S128x128.size a)
theorem k0_idx66_inb : ∀ (v70 : IVec S16 32) (v87 : IVec S16 32) (k0_hw66 : k0_chk66 v70 v87), ∀ a x, ((![v70, v87] : Fin 2 → IVec S16 32) a x).toNat < S128x128.size a := fun v70 v87 k0_hw66 => k0_hw66
def k0_off72 (k0_t5 : Fin k0_t5_loop.trips) : Fin 2 → Nat :=
  let c1_i32_109 : BitVec 32 := 1#32
  let v91 : Index := Scalar.indexCast c1_i32_109
  let c0_i32_108 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_107 : BitVec 32 := 16#32
  let v89 : BitVec 32 := Scalar.muli v67 c16_i32_107
  let v90 : BitVec 32 := Scalar.addi c0_i32_108 v89
  let v92 : Index := Scalar.indexCast v90
  ![1, v92.toNat]

def k0_chk67 (v70 : IVec S16 32) (v97 : IVec S16 32) : Prop :=
  (∀ a x, ((![v70, v97] : Fin 2 → IVec S16 32) a x).toNat < S128x128.size a)
theorem k0_idx67_inb : ∀ (v70 : IVec S16 32) (v97 : IVec S16 32) (k0_hw67 : k0_chk67 v70 v97), ∀ a x, ((![v70, v97] : Fin 2 → IVec S16 32) a x).toNat < S128x128.size a := fun v70 v97 k0_hw67 => k0_hw67
def k0_off73 (k0_t5 : Fin k0_t5_loop.trips) : Fin 2 → Nat :=
  let c2_i32_113 : BitVec 32 := 2#32
  let v101 : Index := Scalar.indexCast c2_i32_113
  let c0_i32_112 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_111 : BitVec 32 := 16#32
  let v99 : BitVec 32 := Scalar.muli v67 c16_i32_111
  let v100 : BitVec 32 := Scalar.addi c0_i32_112 v99
  let v102 : Index := Scalar.indexCast v100
  ![2, v102.toNat]

def k0_chk68 (v70 : IVec S16 32) (v107 : IVec S16 32) : Prop :=
  (∀ a x, ((![v70, v107] : Fin 2 → IVec S16 32) a x).toNat < S128x128.size a)
theorem k0_idx68_inb : ∀ (v70 : IVec S16 32) (v107 : IVec S16 32) (k0_hw68 : k0_chk68 v70 v107), ∀ a x, ((![v70, v107] : Fin 2 → IVec S16 32) a x).toNat < S128x128.size a := fun v70 v107 k0_hw68 => k0_hw68
def k0_off74 (k0_t5 : Fin k0_t5_loop.trips) : Fin 2 → Nat :=
  let c3_i32_117 : BitVec 32 := 3#32
  let v111 : Index := Scalar.indexCast c3_i32_117
  let c0_i32_116 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_115 : BitVec 32 := 16#32
  let v109 : BitVec 32 := Scalar.muli v67 c16_i32_115
  let v110 : BitVec 32 := Scalar.addi c0_i32_116 v109
  let v112 : Index := Scalar.indexCast v110
  ![3, v112.toNat]

def k0_chk69 (v70 : IVec S16 32) (v117 : IVec S16 32) : Prop :=
  (∀ a x, ((![v70, v117] : Fin 2 → IVec S16 32) a x).toNat < S128x128.size a)
theorem k0_idx69_inb : ∀ (v70 : IVec S16 32) (v117 : IVec S16 32) (k0_hw69 : k0_chk69 v70 v117), ∀ a x, ((![v70, v117] : Fin 2 → IVec S16 32) a x).toNat < S128x128.size a := fun v70 v117 k0_hw69 => k0_hw69
def k0_off75 (k0_t5 : Fin k0_t5_loop.trips) : Fin 2 → Nat :=
  let c4_i32_121 : BitVec 32 := 4#32
  let v121 : Index := Scalar.indexCast c4_i32_121
  let c0_i32_120 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_119 : BitVec 32 := 16#32
  let v119 : BitVec 32 := Scalar.muli v67 c16_i32_119
  let v120 : BitVec 32 := Scalar.addi c0_i32_120 v119
  let v122 : Index := Scalar.indexCast v120
  ![4, v122.toNat]

def k0_chk70 (v70 : IVec S16 32) (v127 : IVec S16 32) : Prop :=
  (∀ a x, ((![v70, v127] : Fin 2 → IVec S16 32) a x).toNat < S128x128.size a)
theorem k0_idx70_inb : ∀ (v70 : IVec S16 32) (v127 : IVec S16 32) (k0_hw70 : k0_chk70 v70 v127), ∀ a x, ((![v70, v127] : Fin 2 → IVec S16 32) a x).toNat < S128x128.size a := fun v70 v127 k0_hw70 => k0_hw70
def k0_off76 (k0_t5 : Fin k0_t5_loop.trips) : Fin 2 → Nat :=
  let c5_i32_125 : BitVec 32 := 5#32
  let v131 : Index := Scalar.indexCast c5_i32_125
  let c0_i32_124 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_123 : BitVec 32 := 16#32
  let v129 : BitVec 32 := Scalar.muli v67 c16_i32_123
  let v130 : BitVec 32 := Scalar.addi c0_i32_124 v129
  let v132 : Index := Scalar.indexCast v130
  ![5, v132.toNat]

def k0_chk71 (v70 : IVec S16 32) (v137 : IVec S16 32) : Prop :=
  (∀ a x, ((![v70, v137] : Fin 2 → IVec S16 32) a x).toNat < S128x128.size a)
theorem k0_idx71_inb : ∀ (v70 : IVec S16 32) (v137 : IVec S16 32) (k0_hw71 : k0_chk71 v70 v137), ∀ a x, ((![v70, v137] : Fin 2 → IVec S16 32) a x).toNat < S128x128.size a := fun v70 v137 k0_hw71 => k0_hw71
def k0_off77 (k0_t5 : Fin k0_t5_loop.trips) : Fin 2 → Nat :=
  let c6_i32_129 : BitVec 32 := 6#32
  let v141 : Index := Scalar.indexCast c6_i32_129
  let c0_i32_128 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_127 : BitVec 32 := 16#32
  let v139 : BitVec 32 := Scalar.muli v67 c16_i32_127
  let v140 : BitVec 32 := Scalar.addi c0_i32_128 v139
  let v142 : Index := Scalar.indexCast v140
  ![6, v142.toNat]

def k0_chk72 (v70 : IVec S16 32) (v147 : IVec S16 32) : Prop :=
  (∀ a x, ((![v70, v147] : Fin 2 → IVec S16 32) a x).toNat < S128x128.size a)
theorem k0_idx72_inb : ∀ (v70 : IVec S16 32) (v147 : IVec S16 32) (k0_hw72 : k0_chk72 v70 v147), ∀ a x, ((![v70, v147] : Fin 2 → IVec S16 32) a x).toNat < S128x128.size a := fun v70 v147 k0_hw72 => k0_hw72
def k0_off78 (k0_t5 : Fin k0_t5_loop.trips) : Fin 2 → Nat :=
  let c7_i32_133 : BitVec 32 := 7#32
  let v151 : Index := Scalar.indexCast c7_i32_133
  let c0_i32_132 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_131 : BitVec 32 := 16#32
  let v149 : BitVec 32 := Scalar.muli v67 c16_i32_131
  let v150 : BitVec 32 := Scalar.addi c0_i32_132 v149
  let v152 : Index := Scalar.indexCast v150
  ![7, v152.toNat]

def k0_chk73 (v70 : IVec S16 32) (v157 : IVec S16 32) : Prop :=
  (∀ a x, ((![v70, v157] : Fin 2 → IVec S16 32) a x).toNat < S128x128.size a)
theorem k0_idx73_inb : ∀ (v70 : IVec S16 32) (v157 : IVec S16 32) (k0_hw73 : k0_chk73 v70 v157), ∀ a x, ((![v70, v157] : Fin 2 → IVec S16 32) a x).toNat < S128x128.size a := fun v70 v157 k0_hw73 => k0_hw73
def k0_off79 (k0_t5 : Fin k0_t5_loop.trips) : Fin 2 → Nat :=
  let c8_i32_137 : BitVec 32 := 8#32
  let v161 : Index := Scalar.indexCast c8_i32_137
  let c0_i32_136 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_135 : BitVec 32 := 16#32
  let v159 : BitVec 32 := Scalar.muli v67 c16_i32_135
  let v160 : BitVec 32 := Scalar.addi c0_i32_136 v159
  let v162 : Index := Scalar.indexCast v160
  ![8, v162.toNat]

def k0_chk74 (v70 : IVec S16 32) (v167 : IVec S16 32) : Prop :=
  (∀ a x, ((![v70, v167] : Fin 2 → IVec S16 32) a x).toNat < S128x128.size a)
theorem k0_idx74_inb : ∀ (v70 : IVec S16 32) (v167 : IVec S16 32) (k0_hw74 : k0_chk74 v70 v167), ∀ a x, ((![v70, v167] : Fin 2 → IVec S16 32) a x).toNat < S128x128.size a := fun v70 v167 k0_hw74 => k0_hw74
def k0_off80 (k0_t5 : Fin k0_t5_loop.trips) : Fin 2 → Nat :=
  let c9_i32_141 : BitVec 32 := 9#32
  let v171 : Index := Scalar.indexCast c9_i32_141
  let c0_i32_140 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_139 : BitVec 32 := 16#32
  let v169 : BitVec 32 := Scalar.muli v67 c16_i32_139
  let v170 : BitVec 32 := Scalar.addi c0_i32_140 v169
  let v172 : Index := Scalar.indexCast v170
  ![9, v172.toNat]

def k0_chk75 (v70 : IVec S16 32) (v177 : IVec S16 32) : Prop :=
  (∀ a x, ((![v70, v177] : Fin 2 → IVec S16 32) a x).toNat < S128x128.size a)
theorem k0_idx75_inb : ∀ (v70 : IVec S16 32) (v177 : IVec S16 32) (k0_hw75 : k0_chk75 v70 v177), ∀ a x, ((![v70, v177] : Fin 2 → IVec S16 32) a x).toNat < S128x128.size a := fun v70 v177 k0_hw75 => k0_hw75
def k0_off81 (k0_t5 : Fin k0_t5_loop.trips) : Fin 2 → Nat :=
  let c10_i32_144 : BitVec 32 := 10#32
  let v181 : Index := Scalar.indexCast c10_i32_144
  let c0_i32_143 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_142 : BitVec 32 := 16#32
  let v179 : BitVec 32 := Scalar.muli v67 c16_i32_142
  let v180 : BitVec 32 := Scalar.addi c0_i32_143 v179
  let v182 : Index := Scalar.indexCast v180
  ![10, v182.toNat]

def k0_chk76 (v70 : IVec S16 32) (v187 : IVec S16 32) : Prop :=
  (∀ a x, ((![v70, v187] : Fin 2 → IVec S16 32) a x).toNat < S128x128.size a)
theorem k0_idx76_inb : ∀ (v70 : IVec S16 32) (v187 : IVec S16 32) (k0_hw76 : k0_chk76 v70 v187), ∀ a x, ((![v70, v187] : Fin 2 → IVec S16 32) a x).toNat < S128x128.size a := fun v70 v187 k0_hw76 => k0_hw76
def k0_off82 (k0_t5 : Fin k0_t5_loop.trips) : Fin 2 → Nat :=
  let c11_i32_147 : BitVec 32 := 11#32
  let v191 : Index := Scalar.indexCast c11_i32_147
  let c0_i32_146 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_145 : BitVec 32 := 16#32
  let v189 : BitVec 32 := Scalar.muli v67 c16_i32_145
  let v190 : BitVec 32 := Scalar.addi c0_i32_146 v189
  let v192 : Index := Scalar.indexCast v190
  ![11, v192.toNat]

def k0_chk77 (v70 : IVec S16 32) (v197 : IVec S16 32) : Prop :=
  (∀ a x, ((![v70, v197] : Fin 2 → IVec S16 32) a x).toNat < S128x128.size a)
theorem k0_idx77_inb : ∀ (v70 : IVec S16 32) (v197 : IVec S16 32) (k0_hw77 : k0_chk77 v70 v197), ∀ a x, ((![v70, v197] : Fin 2 → IVec S16 32) a x).toNat < S128x128.size a := fun v70 v197 k0_hw77 => k0_hw77
def k0_off83 (k0_t5 : Fin k0_t5_loop.trips) : Fin 2 → Nat :=
  let c12_i32_150 : BitVec 32 := 12#32
  let v201 : Index := Scalar.indexCast c12_i32_150
  let c0_i32_149 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_148 : BitVec 32 := 16#32
  let v199 : BitVec 32 := Scalar.muli v67 c16_i32_148
  let v200 : BitVec 32 := Scalar.addi c0_i32_149 v199
  let v202 : Index := Scalar.indexCast v200
  ![12, v202.toNat]

def k0_chk78 (v70 : IVec S16 32) (v207 : IVec S16 32) : Prop :=
  (∀ a x, ((![v70, v207] : Fin 2 → IVec S16 32) a x).toNat < S128x128.size a)
theorem k0_idx78_inb : ∀ (v70 : IVec S16 32) (v207 : IVec S16 32) (k0_hw78 : k0_chk78 v70 v207), ∀ a x, ((![v70, v207] : Fin 2 → IVec S16 32) a x).toNat < S128x128.size a := fun v70 v207 k0_hw78 => k0_hw78
def k0_off84 (k0_t5 : Fin k0_t5_loop.trips) : Fin 2 → Nat :=
  let c13_i32_153 : BitVec 32 := 13#32
  let v211 : Index := Scalar.indexCast c13_i32_153
  let c0_i32_152 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_151 : BitVec 32 := 16#32
  let v209 : BitVec 32 := Scalar.muli v67 c16_i32_151
  let v210 : BitVec 32 := Scalar.addi c0_i32_152 v209
  let v212 : Index := Scalar.indexCast v210
  ![13, v212.toNat]

def k0_chk79 (v70 : IVec S16 32) (v217 : IVec S16 32) : Prop :=
  (∀ a x, ((![v70, v217] : Fin 2 → IVec S16 32) a x).toNat < S128x128.size a)
theorem k0_idx79_inb : ∀ (v70 : IVec S16 32) (v217 : IVec S16 32) (k0_hw79 : k0_chk79 v70 v217), ∀ a x, ((![v70, v217] : Fin 2 → IVec S16 32) a x).toNat < S128x128.size a := fun v70 v217 k0_hw79 => k0_hw79
def k0_off85 (k0_t5 : Fin k0_t5_loop.trips) : Fin 2 → Nat :=
  let c14_i32_156 : BitVec 32 := 14#32
  let v221 : Index := Scalar.indexCast c14_i32_156
  let c0_i32_155 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_154 : BitVec 32 := 16#32
  let v219 : BitVec 32 := Scalar.muli v67 c16_i32_154
  let v220 : BitVec 32 := Scalar.addi c0_i32_155 v219
  let v222 : Index := Scalar.indexCast v220
  ![14, v222.toNat]

def k0_chk80 (v70 : IVec S16 32) (v227 : IVec S16 32) : Prop :=
  (∀ a x, ((![v70, v227] : Fin 2 → IVec S16 32) a x).toNat < S128x128.size a)
theorem k0_idx80_inb : ∀ (v70 : IVec S16 32) (v227 : IVec S16 32) (k0_hw80 : k0_chk80 v70 v227), ∀ a x, ((![v70, v227] : Fin 2 → IVec S16 32) a x).toNat < S128x128.size a := fun v70 v227 k0_hw80 => k0_hw80
def k0_off86 (k0_t5 : Fin k0_t5_loop.trips) : Fin 2 → Nat :=
  let c15_i32_159 : BitVec 32 := 15#32
  let v231 : Index := Scalar.indexCast c15_i32_159
  let c0_i32_158 : BitVec 32 := 0#32
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_157 : BitVec 32 := 16#32
  let v229 : BitVec 32 := Scalar.muli v67 c16_i32_157
  let v230 : BitVec 32 := Scalar.addi c0_i32_158 v229
  let v232 : Index := Scalar.indexCast v230
  ![15, v232.toNat]
def k0_off87 (k0_t5 : Fin k0_t5_loop.trips) : Fin 2 → Nat :=
  let c0_i32_162 : BitVec 32 := 0#32
  let v239 : Index := Scalar.indexCast c0_i32_162
  let c0_i32_99 : BitVec 32 := 0#32
  let c0_i32_54 : BitVec 32 := 0#32
  let c1_i32_56 : BitVec 32 := 1#32
  let arg15 : BitVec 32 := Scf.iv c0_i32_54 c1_i32_56 k0_t5
  let c1_i32_98 : BitVec 32 := 1#32
  let v66 : BitVec 32 := Scalar.muli arg15 c1_i32_98
  let v67 : BitVec 32 := Scalar.addi c0_i32_99 v66
  let c16_i32_161 : BitVec 32 := 16#32
  let v238 : BitVec 32 := Scalar.muli v67 c16_i32_161
  let v240 : Index := Scalar.indexCast v238
  ![0, v240.toNat]
@[reducible] def k0_t6_loop : Scf.Loop 32 :=
  let c0_i32_65 : BitVec 32 := 0#32
  let c8_i32_66 : BitVec 32 := 8#32
  let v47 : BitVec 32 := Scalar.addi c0_i32_65 c8_i32_66
  let c1_i32_67 : BitVec 32 := 1#32
  ⟨c0_i32_65, v47, c1_i32_67⟩
def k0_off88 (k0_t6 : Fin k0_t6_loop.trips) : Fin 2 → Nat :=
  let c5_i32_101 : BitVec 32 := 5#32
  let v72 : Index := Scalar.indexCast c5_i32_101
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_100 : BitVec 32 := 16#32
  let v71 : BitVec 32 := Scalar.muli v67 c16_i32_100
  let v73 : Index := Scalar.indexCast v71
  ![5, v73.toNat]

def k0_chk81 (v70 : IVec S16 32) (v77 : IVec S16 32) : Prop :=
  (∀ a x, ((![v70, v77] : Fin 2 → IVec S16 32) a x).toNat < S128x128.size a)
theorem k0_idx81_inb : ∀ (v70 : IVec S16 32) (v77 : IVec S16 32) (k0_hw81 : k0_chk81 v70 v77), ∀ a x, ((![v70, v77] : Fin 2 → IVec S16 32) a x).toNat < S128x128.size a := fun v70 v77 k0_hw81 => k0_hw81
def k0_off89 (k0_t6 : Fin k0_t6_loop.trips) : Fin 2 → Nat :=
  let c0_i32_104 : BitVec 32 := 0#32
  let v81 : Index := Scalar.indexCast c0_i32_104
  let c128_i32 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_103 : BitVec 32 := 16#32
  let v79 : BitVec 32 := Scalar.muli v67 c16_i32_103
  let v80 : BitVec 32 := Scalar.addi c128_i32 v79
  let v82 : Index := Scalar.indexCast v80
  ![0, v82.toNat]

def k0_chk82 (v70 : IVec S16 32) (v87 : IVec S16 32) : Prop :=
  (∀ a x, ((![v70, v87] : Fin 2 → IVec S16 32) a x).toNat < S128x128.size a)
theorem k0_idx82_inb : ∀ (v70 : IVec S16 32) (v87 : IVec S16 32) (k0_hw82 : k0_chk82 v70 v87), ∀ a x, ((![v70, v87] : Fin 2 → IVec S16 32) a x).toNat < S128x128.size a := fun v70 v87 k0_hw82 => k0_hw82
def k0_off90 (k0_t6 : Fin k0_t6_loop.trips) : Fin 2 → Nat :=
  let c1_i32_108 : BitVec 32 := 1#32
  let v91 : Index := Scalar.indexCast c1_i32_108
  let c128_i32_107 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_106 : BitVec 32 := 16#32
  let v89 : BitVec 32 := Scalar.muli v67 c16_i32_106
  let v90 : BitVec 32 := Scalar.addi c128_i32_107 v89
  let v92 : Index := Scalar.indexCast v90
  ![1, v92.toNat]

def k0_chk83 (v70 : IVec S16 32) (v97 : IVec S16 32) : Prop :=
  (∀ a x, ((![v70, v97] : Fin 2 → IVec S16 32) a x).toNat < S128x128.size a)
theorem k0_idx83_inb : ∀ (v70 : IVec S16 32) (v97 : IVec S16 32) (k0_hw83 : k0_chk83 v70 v97), ∀ a x, ((![v70, v97] : Fin 2 → IVec S16 32) a x).toNat < S128x128.size a := fun v70 v97 k0_hw83 => k0_hw83
def k0_off91 (k0_t6 : Fin k0_t6_loop.trips) : Fin 2 → Nat :=
  let c2_i32_112 : BitVec 32 := 2#32
  let v101 : Index := Scalar.indexCast c2_i32_112
  let c128_i32_111 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_110 : BitVec 32 := 16#32
  let v99 : BitVec 32 := Scalar.muli v67 c16_i32_110
  let v100 : BitVec 32 := Scalar.addi c128_i32_111 v99
  let v102 : Index := Scalar.indexCast v100
  ![2, v102.toNat]

def k0_chk84 (v70 : IVec S16 32) (v107 : IVec S16 32) : Prop :=
  (∀ a x, ((![v70, v107] : Fin 2 → IVec S16 32) a x).toNat < S128x128.size a)
theorem k0_idx84_inb : ∀ (v70 : IVec S16 32) (v107 : IVec S16 32) (k0_hw84 : k0_chk84 v70 v107), ∀ a x, ((![v70, v107] : Fin 2 → IVec S16 32) a x).toNat < S128x128.size a := fun v70 v107 k0_hw84 => k0_hw84
def k0_off92 (k0_t6 : Fin k0_t6_loop.trips) : Fin 2 → Nat :=
  let c3_i32_116 : BitVec 32 := 3#32
  let v111 : Index := Scalar.indexCast c3_i32_116
  let c128_i32_115 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_114 : BitVec 32 := 16#32
  let v109 : BitVec 32 := Scalar.muli v67 c16_i32_114
  let v110 : BitVec 32 := Scalar.addi c128_i32_115 v109
  let v112 : Index := Scalar.indexCast v110
  ![3, v112.toNat]

def k0_chk85 (v70 : IVec S16 32) (v117 : IVec S16 32) : Prop :=
  (∀ a x, ((![v70, v117] : Fin 2 → IVec S16 32) a x).toNat < S128x128.size a)
theorem k0_idx85_inb : ∀ (v70 : IVec S16 32) (v117 : IVec S16 32) (k0_hw85 : k0_chk85 v70 v117), ∀ a x, ((![v70, v117] : Fin 2 → IVec S16 32) a x).toNat < S128x128.size a := fun v70 v117 k0_hw85 => k0_hw85
def k0_off93 (k0_t6 : Fin k0_t6_loop.trips) : Fin 2 → Nat :=
  let c4_i32_120 : BitVec 32 := 4#32
  let v121 : Index := Scalar.indexCast c4_i32_120
  let c128_i32_119 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_118 : BitVec 32 := 16#32
  let v119 : BitVec 32 := Scalar.muli v67 c16_i32_118
  let v120 : BitVec 32 := Scalar.addi c128_i32_119 v119
  let v122 : Index := Scalar.indexCast v120
  ![4, v122.toNat]

def k0_chk86 (v70 : IVec S16 32) (v127 : IVec S16 32) : Prop :=
  (∀ a x, ((![v70, v127] : Fin 2 → IVec S16 32) a x).toNat < S128x128.size a)
theorem k0_idx86_inb : ∀ (v70 : IVec S16 32) (v127 : IVec S16 32) (k0_hw86 : k0_chk86 v70 v127), ∀ a x, ((![v70, v127] : Fin 2 → IVec S16 32) a x).toNat < S128x128.size a := fun v70 v127 k0_hw86 => k0_hw86
def k0_off94 (k0_t6 : Fin k0_t6_loop.trips) : Fin 2 → Nat :=
  let c5_i32_124 : BitVec 32 := 5#32
  let v131 : Index := Scalar.indexCast c5_i32_124
  let c128_i32_123 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_122 : BitVec 32 := 16#32
  let v129 : BitVec 32 := Scalar.muli v67 c16_i32_122
  let v130 : BitVec 32 := Scalar.addi c128_i32_123 v129
  let v132 : Index := Scalar.indexCast v130
  ![5, v132.toNat]

def k0_chk87 (v70 : IVec S16 32) (v137 : IVec S16 32) : Prop :=
  (∀ a x, ((![v70, v137] : Fin 2 → IVec S16 32) a x).toNat < S128x128.size a)
theorem k0_idx87_inb : ∀ (v70 : IVec S16 32) (v137 : IVec S16 32) (k0_hw87 : k0_chk87 v70 v137), ∀ a x, ((![v70, v137] : Fin 2 → IVec S16 32) a x).toNat < S128x128.size a := fun v70 v137 k0_hw87 => k0_hw87
def k0_off95 (k0_t6 : Fin k0_t6_loop.trips) : Fin 2 → Nat :=
  let c6_i32_128 : BitVec 32 := 6#32
  let v141 : Index := Scalar.indexCast c6_i32_128
  let c128_i32_127 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_126 : BitVec 32 := 16#32
  let v139 : BitVec 32 := Scalar.muli v67 c16_i32_126
  let v140 : BitVec 32 := Scalar.addi c128_i32_127 v139
  let v142 : Index := Scalar.indexCast v140
  ![6, v142.toNat]

def k0_chk88 (v70 : IVec S16 32) (v147 : IVec S16 32) : Prop :=
  (∀ a x, ((![v70, v147] : Fin 2 → IVec S16 32) a x).toNat < S128x128.size a)
theorem k0_idx88_inb : ∀ (v70 : IVec S16 32) (v147 : IVec S16 32) (k0_hw88 : k0_chk88 v70 v147), ∀ a x, ((![v70, v147] : Fin 2 → IVec S16 32) a x).toNat < S128x128.size a := fun v70 v147 k0_hw88 => k0_hw88
def k0_off96 (k0_t6 : Fin k0_t6_loop.trips) : Fin 2 → Nat :=
  let c7_i32_132 : BitVec 32 := 7#32
  let v151 : Index := Scalar.indexCast c7_i32_132
  let c128_i32_131 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_130 : BitVec 32 := 16#32
  let v149 : BitVec 32 := Scalar.muli v67 c16_i32_130
  let v150 : BitVec 32 := Scalar.addi c128_i32_131 v149
  let v152 : Index := Scalar.indexCast v150
  ![7, v152.toNat]

def k0_chk89 (v70 : IVec S16 32) (v157 : IVec S16 32) : Prop :=
  (∀ a x, ((![v70, v157] : Fin 2 → IVec S16 32) a x).toNat < S128x128.size a)
theorem k0_idx89_inb : ∀ (v70 : IVec S16 32) (v157 : IVec S16 32) (k0_hw89 : k0_chk89 v70 v157), ∀ a x, ((![v70, v157] : Fin 2 → IVec S16 32) a x).toNat < S128x128.size a := fun v70 v157 k0_hw89 => k0_hw89
def k0_off97 (k0_t6 : Fin k0_t6_loop.trips) : Fin 2 → Nat :=
  let c8_i32_136 : BitVec 32 := 8#32
  let v161 : Index := Scalar.indexCast c8_i32_136
  let c128_i32_135 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_134 : BitVec 32 := 16#32
  let v159 : BitVec 32 := Scalar.muli v67 c16_i32_134
  let v160 : BitVec 32 := Scalar.addi c128_i32_135 v159
  let v162 : Index := Scalar.indexCast v160
  ![8, v162.toNat]

def k0_chk90 (v70 : IVec S16 32) (v167 : IVec S16 32) : Prop :=
  (∀ a x, ((![v70, v167] : Fin 2 → IVec S16 32) a x).toNat < S128x128.size a)
theorem k0_idx90_inb : ∀ (v70 : IVec S16 32) (v167 : IVec S16 32) (k0_hw90 : k0_chk90 v70 v167), ∀ a x, ((![v70, v167] : Fin 2 → IVec S16 32) a x).toNat < S128x128.size a := fun v70 v167 k0_hw90 => k0_hw90
def k0_off98 (k0_t6 : Fin k0_t6_loop.trips) : Fin 2 → Nat :=
  let c9_i32_140 : BitVec 32 := 9#32
  let v171 : Index := Scalar.indexCast c9_i32_140
  let c128_i32_139 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_138 : BitVec 32 := 16#32
  let v169 : BitVec 32 := Scalar.muli v67 c16_i32_138
  let v170 : BitVec 32 := Scalar.addi c128_i32_139 v169
  let v172 : Index := Scalar.indexCast v170
  ![9, v172.toNat]

def k0_chk91 (v70 : IVec S16 32) (v177 : IVec S16 32) : Prop :=
  (∀ a x, ((![v70, v177] : Fin 2 → IVec S16 32) a x).toNat < S128x128.size a)
theorem k0_idx91_inb : ∀ (v70 : IVec S16 32) (v177 : IVec S16 32) (k0_hw91 : k0_chk91 v70 v177), ∀ a x, ((![v70, v177] : Fin 2 → IVec S16 32) a x).toNat < S128x128.size a := fun v70 v177 k0_hw91 => k0_hw91
def k0_off99 (k0_t6 : Fin k0_t6_loop.trips) : Fin 2 → Nat :=
  let c10_i32_143 : BitVec 32 := 10#32
  let v181 : Index := Scalar.indexCast c10_i32_143
  let c128_i32_142 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_141 : BitVec 32 := 16#32
  let v179 : BitVec 32 := Scalar.muli v67 c16_i32_141
  let v180 : BitVec 32 := Scalar.addi c128_i32_142 v179
  let v182 : Index := Scalar.indexCast v180
  ![10, v182.toNat]

def k0_chk92 (v70 : IVec S16 32) (v187 : IVec S16 32) : Prop :=
  (∀ a x, ((![v70, v187] : Fin 2 → IVec S16 32) a x).toNat < S128x128.size a)
theorem k0_idx92_inb : ∀ (v70 : IVec S16 32) (v187 : IVec S16 32) (k0_hw92 : k0_chk92 v70 v187), ∀ a x, ((![v70, v187] : Fin 2 → IVec S16 32) a x).toNat < S128x128.size a := fun v70 v187 k0_hw92 => k0_hw92
def k0_off100 (k0_t6 : Fin k0_t6_loop.trips) : Fin 2 → Nat :=
  let c11_i32_146 : BitVec 32 := 11#32
  let v191 : Index := Scalar.indexCast c11_i32_146
  let c128_i32_145 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_144 : BitVec 32 := 16#32
  let v189 : BitVec 32 := Scalar.muli v67 c16_i32_144
  let v190 : BitVec 32 := Scalar.addi c128_i32_145 v189
  let v192 : Index := Scalar.indexCast v190
  ![11, v192.toNat]

def k0_chk93 (v70 : IVec S16 32) (v197 : IVec S16 32) : Prop :=
  (∀ a x, ((![v70, v197] : Fin 2 → IVec S16 32) a x).toNat < S128x128.size a)
theorem k0_idx93_inb : ∀ (v70 : IVec S16 32) (v197 : IVec S16 32) (k0_hw93 : k0_chk93 v70 v197), ∀ a x, ((![v70, v197] : Fin 2 → IVec S16 32) a x).toNat < S128x128.size a := fun v70 v197 k0_hw93 => k0_hw93
def k0_off101 (k0_t6 : Fin k0_t6_loop.trips) : Fin 2 → Nat :=
  let c12_i32_149 : BitVec 32 := 12#32
  let v201 : Index := Scalar.indexCast c12_i32_149
  let c128_i32_148 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_147 : BitVec 32 := 16#32
  let v199 : BitVec 32 := Scalar.muli v67 c16_i32_147
  let v200 : BitVec 32 := Scalar.addi c128_i32_148 v199
  let v202 : Index := Scalar.indexCast v200
  ![12, v202.toNat]

def k0_chk94 (v70 : IVec S16 32) (v207 : IVec S16 32) : Prop :=
  (∀ a x, ((![v70, v207] : Fin 2 → IVec S16 32) a x).toNat < S128x128.size a)
theorem k0_idx94_inb : ∀ (v70 : IVec S16 32) (v207 : IVec S16 32) (k0_hw94 : k0_chk94 v70 v207), ∀ a x, ((![v70, v207] : Fin 2 → IVec S16 32) a x).toNat < S128x128.size a := fun v70 v207 k0_hw94 => k0_hw94
def k0_off102 (k0_t6 : Fin k0_t6_loop.trips) : Fin 2 → Nat :=
  let c13_i32_152 : BitVec 32 := 13#32
  let v211 : Index := Scalar.indexCast c13_i32_152
  let c128_i32_151 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_150 : BitVec 32 := 16#32
  let v209 : BitVec 32 := Scalar.muli v67 c16_i32_150
  let v210 : BitVec 32 := Scalar.addi c128_i32_151 v209
  let v212 : Index := Scalar.indexCast v210
  ![13, v212.toNat]

def k0_chk95 (v70 : IVec S16 32) (v217 : IVec S16 32) : Prop :=
  (∀ a x, ((![v70, v217] : Fin 2 → IVec S16 32) a x).toNat < S128x128.size a)
theorem k0_idx95_inb : ∀ (v70 : IVec S16 32) (v217 : IVec S16 32) (k0_hw95 : k0_chk95 v70 v217), ∀ a x, ((![v70, v217] : Fin 2 → IVec S16 32) a x).toNat < S128x128.size a := fun v70 v217 k0_hw95 => k0_hw95
def k0_off103 (k0_t6 : Fin k0_t6_loop.trips) : Fin 2 → Nat :=
  let c14_i32_155 : BitVec 32 := 14#32
  let v221 : Index := Scalar.indexCast c14_i32_155
  let c128_i32_154 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_153 : BitVec 32 := 16#32
  let v219 : BitVec 32 := Scalar.muli v67 c16_i32_153
  let v220 : BitVec 32 := Scalar.addi c128_i32_154 v219
  let v222 : Index := Scalar.indexCast v220
  ![14, v222.toNat]

def k0_chk96 (v70 : IVec S16 32) (v227 : IVec S16 32) : Prop :=
  (∀ a x, ((![v70, v227] : Fin 2 → IVec S16 32) a x).toNat < S128x128.size a)
theorem k0_idx96_inb : ∀ (v70 : IVec S16 32) (v227 : IVec S16 32) (k0_hw96 : k0_chk96 v70 v227), ∀ a x, ((![v70, v227] : Fin 2 → IVec S16 32) a x).toNat < S128x128.size a := fun v70 v227 k0_hw96 => k0_hw96
def k0_off104 (k0_t6 : Fin k0_t6_loop.trips) : Fin 2 → Nat :=
  let c15_i32_158 : BitVec 32 := 15#32
  let v231 : Index := Scalar.indexCast c15_i32_158
  let c128_i32_157 : BitVec 32 := 128#32
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_156 : BitVec 32 := 16#32
  let v229 : BitVec 32 := Scalar.muli v67 c16_i32_156
  let v230 : BitVec 32 := Scalar.addi c128_i32_157 v229
  let v232 : Index := Scalar.indexCast v230
  ![15, v232.toNat]
def k0_off105 (k0_t6 : Fin k0_t6_loop.trips) : Fin 2 → Nat :=
  let c1_i32_161 : BitVec 32 := 1#32
  let v239 : Index := Scalar.indexCast c1_i32_161
  let c0_i32_99 : BitVec 32 := 0#32
  let c0_i32_65 : BitVec 32 := 0#32
  let c1_i32_67 : BitVec 32 := 1#32
  let arg15 : BitVec 32 := Scf.iv c0_i32_65 c1_i32_67 k0_t6
  let c1_i32_98 : BitVec 32 := 1#32
  let v66 : BitVec 32 := Scalar.muli arg15 c1_i32_98
  let v67 : BitVec 32 := Scalar.addi c0_i32_99 v66
  let c16_i32_160 : BitVec 32 := 16#32
  let v238 : BitVec 32 := Scalar.muli v67 c16_i32_160
  let v240 : Index := Scalar.indexCast v238
  ![1, v240.toNat]
@[reducible] def k0_t7_loop : Scf.Loop 32 :=
  let c0_i32_76 : BitVec 32 := 0#32
  let c8_i32_77 : BitVec 32 := 8#32
  let v54 : BitVec 32 := Scalar.addi c0_i32_76 c8_i32_77
  let c1_i32_78 : BitVec 32 := 1#32
  ⟨c0_i32_76, v54, c1_i32_78⟩
def k0_off106 (k0_t7 : Fin k0_t7_loop.trips) : Fin 2 → Nat :=
  let c6_i32_101 : BitVec 32 := 6#32
  let v72 : Index := Scalar.indexCast c6_i32_101
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_100 : BitVec 32 := 16#32
  let v71 : BitVec 32 := Scalar.muli v67 c16_i32_100
  let v73 : Index := Scalar.indexCast v71
  ![6, v73.toNat]

def k0_chk97 (v70 : IVec S16 32) (v77 : IVec S16 32) : Prop :=
  (∀ a x, ((![v70, v77] : Fin 2 → IVec S16 32) a x).toNat < S128x128.size a)
theorem k0_idx97_inb : ∀ (v70 : IVec S16 32) (v77 : IVec S16 32) (k0_hw97 : k0_chk97 v70 v77), ∀ a x, ((![v70, v77] : Fin 2 → IVec S16 32) a x).toNat < S128x128.size a := fun v70 v77 k0_hw97 => k0_hw97
def k0_off107 (k0_t7 : Fin k0_t7_loop.trips) : Fin 2 → Nat :=
  let c0_i32_104 : BitVec 32 := 0#32
  let v81 : Index := Scalar.indexCast c0_i32_104
  let c256_i32 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_103 : BitVec 32 := 16#32
  let v79 : BitVec 32 := Scalar.muli v67 c16_i32_103
  let v80 : BitVec 32 := Scalar.addi c256_i32 v79
  let v82 : Index := Scalar.indexCast v80
  ![0, v82.toNat]

def k0_chk98 (v70 : IVec S16 32) (v87 : IVec S16 32) : Prop :=
  (∀ a x, ((![v70, v87] : Fin 2 → IVec S16 32) a x).toNat < S128x128.size a)
theorem k0_idx98_inb : ∀ (v70 : IVec S16 32) (v87 : IVec S16 32) (k0_hw98 : k0_chk98 v70 v87), ∀ a x, ((![v70, v87] : Fin 2 → IVec S16 32) a x).toNat < S128x128.size a := fun v70 v87 k0_hw98 => k0_hw98
def k0_off108 (k0_t7 : Fin k0_t7_loop.trips) : Fin 2 → Nat :=
  let c1_i32_108 : BitVec 32 := 1#32
  let v91 : Index := Scalar.indexCast c1_i32_108
  let c256_i32_107 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_106 : BitVec 32 := 16#32
  let v89 : BitVec 32 := Scalar.muli v67 c16_i32_106
  let v90 : BitVec 32 := Scalar.addi c256_i32_107 v89
  let v92 : Index := Scalar.indexCast v90
  ![1, v92.toNat]

def k0_chk99 (v70 : IVec S16 32) (v97 : IVec S16 32) : Prop :=
  (∀ a x, ((![v70, v97] : Fin 2 → IVec S16 32) a x).toNat < S128x128.size a)
theorem k0_idx99_inb : ∀ (v70 : IVec S16 32) (v97 : IVec S16 32) (k0_hw99 : k0_chk99 v70 v97), ∀ a x, ((![v70, v97] : Fin 2 → IVec S16 32) a x).toNat < S128x128.size a := fun v70 v97 k0_hw99 => k0_hw99
def k0_off109 (k0_t7 : Fin k0_t7_loop.trips) : Fin 2 → Nat :=
  let c2_i32_112 : BitVec 32 := 2#32
  let v101 : Index := Scalar.indexCast c2_i32_112
  let c256_i32_111 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_110 : BitVec 32 := 16#32
  let v99 : BitVec 32 := Scalar.muli v67 c16_i32_110
  let v100 : BitVec 32 := Scalar.addi c256_i32_111 v99
  let v102 : Index := Scalar.indexCast v100
  ![2, v102.toNat]

def k0_chk100 (v70 : IVec S16 32) (v107 : IVec S16 32) : Prop :=
  (∀ a x, ((![v70, v107] : Fin 2 → IVec S16 32) a x).toNat < S128x128.size a)
theorem k0_idx100_inb : ∀ (v70 : IVec S16 32) (v107 : IVec S16 32) (k0_hw100 : k0_chk100 v70 v107), ∀ a x, ((![v70, v107] : Fin 2 → IVec S16 32) a x).toNat < S128x128.size a := fun v70 v107 k0_hw100 => k0_hw100
def k0_off110 (k0_t7 : Fin k0_t7_loop.trips) : Fin 2 → Nat :=
  let c3_i32_116 : BitVec 32 := 3#32
  let v111 : Index := Scalar.indexCast c3_i32_116
  let c256_i32_115 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_114 : BitVec 32 := 16#32
  let v109 : BitVec 32 := Scalar.muli v67 c16_i32_114
  let v110 : BitVec 32 := Scalar.addi c256_i32_115 v109
  let v112 : Index := Scalar.indexCast v110
  ![3, v112.toNat]

def k0_chk101 (v70 : IVec S16 32) (v117 : IVec S16 32) : Prop :=
  (∀ a x, ((![v70, v117] : Fin 2 → IVec S16 32) a x).toNat < S128x128.size a)
theorem k0_idx101_inb : ∀ (v70 : IVec S16 32) (v117 : IVec S16 32) (k0_hw101 : k0_chk101 v70 v117), ∀ a x, ((![v70, v117] : Fin 2 → IVec S16 32) a x).toNat < S128x128.size a := fun v70 v117 k0_hw101 => k0_hw101
def k0_off111 (k0_t7 : Fin k0_t7_loop.trips) : Fin 2 → Nat :=
  let c4_i32_120 : BitVec 32 := 4#32
  let v121 : Index := Scalar.indexCast c4_i32_120
  let c256_i32_119 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_118 : BitVec 32 := 16#32
  let v119 : BitVec 32 := Scalar.muli v67 c16_i32_118
  let v120 : BitVec 32 := Scalar.addi c256_i32_119 v119
  let v122 : Index := Scalar.indexCast v120
  ![4, v122.toNat]

def k0_chk102 (v70 : IVec S16 32) (v127 : IVec S16 32) : Prop :=
  (∀ a x, ((![v70, v127] : Fin 2 → IVec S16 32) a x).toNat < S128x128.size a)
theorem k0_idx102_inb : ∀ (v70 : IVec S16 32) (v127 : IVec S16 32) (k0_hw102 : k0_chk102 v70 v127), ∀ a x, ((![v70, v127] : Fin 2 → IVec S16 32) a x).toNat < S128x128.size a := fun v70 v127 k0_hw102 => k0_hw102
def k0_off112 (k0_t7 : Fin k0_t7_loop.trips) : Fin 2 → Nat :=
  let c5_i32_124 : BitVec 32 := 5#32
  let v131 : Index := Scalar.indexCast c5_i32_124
  let c256_i32_123 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_122 : BitVec 32 := 16#32
  let v129 : BitVec 32 := Scalar.muli v67 c16_i32_122
  let v130 : BitVec 32 := Scalar.addi c256_i32_123 v129
  let v132 : Index := Scalar.indexCast v130
  ![5, v132.toNat]

def k0_chk103 (v70 : IVec S16 32) (v137 : IVec S16 32) : Prop :=
  (∀ a x, ((![v70, v137] : Fin 2 → IVec S16 32) a x).toNat < S128x128.size a)
theorem k0_idx103_inb : ∀ (v70 : IVec S16 32) (v137 : IVec S16 32) (k0_hw103 : k0_chk103 v70 v137), ∀ a x, ((![v70, v137] : Fin 2 → IVec S16 32) a x).toNat < S128x128.size a := fun v70 v137 k0_hw103 => k0_hw103
def k0_off113 (k0_t7 : Fin k0_t7_loop.trips) : Fin 2 → Nat :=
  let c6_i32_128 : BitVec 32 := 6#32
  let v141 : Index := Scalar.indexCast c6_i32_128
  let c256_i32_127 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_126 : BitVec 32 := 16#32
  let v139 : BitVec 32 := Scalar.muli v67 c16_i32_126
  let v140 : BitVec 32 := Scalar.addi c256_i32_127 v139
  let v142 : Index := Scalar.indexCast v140
  ![6, v142.toNat]

def k0_chk104 (v70 : IVec S16 32) (v147 : IVec S16 32) : Prop :=
  (∀ a x, ((![v70, v147] : Fin 2 → IVec S16 32) a x).toNat < S128x128.size a)
theorem k0_idx104_inb : ∀ (v70 : IVec S16 32) (v147 : IVec S16 32) (k0_hw104 : k0_chk104 v70 v147), ∀ a x, ((![v70, v147] : Fin 2 → IVec S16 32) a x).toNat < S128x128.size a := fun v70 v147 k0_hw104 => k0_hw104
def k0_off114 (k0_t7 : Fin k0_t7_loop.trips) : Fin 2 → Nat :=
  let c7_i32_132 : BitVec 32 := 7#32
  let v151 : Index := Scalar.indexCast c7_i32_132
  let c256_i32_131 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_130 : BitVec 32 := 16#32
  let v149 : BitVec 32 := Scalar.muli v67 c16_i32_130
  let v150 : BitVec 32 := Scalar.addi c256_i32_131 v149
  let v152 : Index := Scalar.indexCast v150
  ![7, v152.toNat]

def k0_chk105 (v70 : IVec S16 32) (v157 : IVec S16 32) : Prop :=
  (∀ a x, ((![v70, v157] : Fin 2 → IVec S16 32) a x).toNat < S128x128.size a)
theorem k0_idx105_inb : ∀ (v70 : IVec S16 32) (v157 : IVec S16 32) (k0_hw105 : k0_chk105 v70 v157), ∀ a x, ((![v70, v157] : Fin 2 → IVec S16 32) a x).toNat < S128x128.size a := fun v70 v157 k0_hw105 => k0_hw105
def k0_off115 (k0_t7 : Fin k0_t7_loop.trips) : Fin 2 → Nat :=
  let c8_i32_136 : BitVec 32 := 8#32
  let v161 : Index := Scalar.indexCast c8_i32_136
  let c256_i32_135 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_134 : BitVec 32 := 16#32
  let v159 : BitVec 32 := Scalar.muli v67 c16_i32_134
  let v160 : BitVec 32 := Scalar.addi c256_i32_135 v159
  let v162 : Index := Scalar.indexCast v160
  ![8, v162.toNat]

def k0_chk106 (v70 : IVec S16 32) (v167 : IVec S16 32) : Prop :=
  (∀ a x, ((![v70, v167] : Fin 2 → IVec S16 32) a x).toNat < S128x128.size a)
theorem k0_idx106_inb : ∀ (v70 : IVec S16 32) (v167 : IVec S16 32) (k0_hw106 : k0_chk106 v70 v167), ∀ a x, ((![v70, v167] : Fin 2 → IVec S16 32) a x).toNat < S128x128.size a := fun v70 v167 k0_hw106 => k0_hw106
def k0_off116 (k0_t7 : Fin k0_t7_loop.trips) : Fin 2 → Nat :=
  let c9_i32_140 : BitVec 32 := 9#32
  let v171 : Index := Scalar.indexCast c9_i32_140
  let c256_i32_139 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_138 : BitVec 32 := 16#32
  let v169 : BitVec 32 := Scalar.muli v67 c16_i32_138
  let v170 : BitVec 32 := Scalar.addi c256_i32_139 v169
  let v172 : Index := Scalar.indexCast v170
  ![9, v172.toNat]

def k0_chk107 (v70 : IVec S16 32) (v177 : IVec S16 32) : Prop :=
  (∀ a x, ((![v70, v177] : Fin 2 → IVec S16 32) a x).toNat < S128x128.size a)
theorem k0_idx107_inb : ∀ (v70 : IVec S16 32) (v177 : IVec S16 32) (k0_hw107 : k0_chk107 v70 v177), ∀ a x, ((![v70, v177] : Fin 2 → IVec S16 32) a x).toNat < S128x128.size a := fun v70 v177 k0_hw107 => k0_hw107
def k0_off117 (k0_t7 : Fin k0_t7_loop.trips) : Fin 2 → Nat :=
  let c10_i32_143 : BitVec 32 := 10#32
  let v181 : Index := Scalar.indexCast c10_i32_143
  let c256_i32_142 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_141 : BitVec 32 := 16#32
  let v179 : BitVec 32 := Scalar.muli v67 c16_i32_141
  let v180 : BitVec 32 := Scalar.addi c256_i32_142 v179
  let v182 : Index := Scalar.indexCast v180
  ![10, v182.toNat]

def k0_chk108 (v70 : IVec S16 32) (v187 : IVec S16 32) : Prop :=
  (∀ a x, ((![v70, v187] : Fin 2 → IVec S16 32) a x).toNat < S128x128.size a)
theorem k0_idx108_inb : ∀ (v70 : IVec S16 32) (v187 : IVec S16 32) (k0_hw108 : k0_chk108 v70 v187), ∀ a x, ((![v70, v187] : Fin 2 → IVec S16 32) a x).toNat < S128x128.size a := fun v70 v187 k0_hw108 => k0_hw108
def k0_off118 (k0_t7 : Fin k0_t7_loop.trips) : Fin 2 → Nat :=
  let c11_i32_146 : BitVec 32 := 11#32
  let v191 : Index := Scalar.indexCast c11_i32_146
  let c256_i32_145 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_144 : BitVec 32 := 16#32
  let v189 : BitVec 32 := Scalar.muli v67 c16_i32_144
  let v190 : BitVec 32 := Scalar.addi c256_i32_145 v189
  let v192 : Index := Scalar.indexCast v190
  ![11, v192.toNat]

def k0_chk109 (v70 : IVec S16 32) (v197 : IVec S16 32) : Prop :=
  (∀ a x, ((![v70, v197] : Fin 2 → IVec S16 32) a x).toNat < S128x128.size a)
theorem k0_idx109_inb : ∀ (v70 : IVec S16 32) (v197 : IVec S16 32) (k0_hw109 : k0_chk109 v70 v197), ∀ a x, ((![v70, v197] : Fin 2 → IVec S16 32) a x).toNat < S128x128.size a := fun v70 v197 k0_hw109 => k0_hw109
def k0_off119 (k0_t7 : Fin k0_t7_loop.trips) : Fin 2 → Nat :=
  let c12_i32_149 : BitVec 32 := 12#32
  let v201 : Index := Scalar.indexCast c12_i32_149
  let c256_i32_148 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_147 : BitVec 32 := 16#32
  let v199 : BitVec 32 := Scalar.muli v67 c16_i32_147
  let v200 : BitVec 32 := Scalar.addi c256_i32_148 v199
  let v202 : Index := Scalar.indexCast v200
  ![12, v202.toNat]

def k0_chk110 (v70 : IVec S16 32) (v207 : IVec S16 32) : Prop :=
  (∀ a x, ((![v70, v207] : Fin 2 → IVec S16 32) a x).toNat < S128x128.size a)
theorem k0_idx110_inb : ∀ (v70 : IVec S16 32) (v207 : IVec S16 32) (k0_hw110 : k0_chk110 v70 v207), ∀ a x, ((![v70, v207] : Fin 2 → IVec S16 32) a x).toNat < S128x128.size a := fun v70 v207 k0_hw110 => k0_hw110
def k0_off120 (k0_t7 : Fin k0_t7_loop.trips) : Fin 2 → Nat :=
  let c13_i32_152 : BitVec 32 := 13#32
  let v211 : Index := Scalar.indexCast c13_i32_152
  let c256_i32_151 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_150 : BitVec 32 := 16#32
  let v209 : BitVec 32 := Scalar.muli v67 c16_i32_150
  let v210 : BitVec 32 := Scalar.addi c256_i32_151 v209
  let v212 : Index := Scalar.indexCast v210
  ![13, v212.toNat]

def k0_chk111 (v70 : IVec S16 32) (v217 : IVec S16 32) : Prop :=
  (∀ a x, ((![v70, v217] : Fin 2 → IVec S16 32) a x).toNat < S128x128.size a)
theorem k0_idx111_inb : ∀ (v70 : IVec S16 32) (v217 : IVec S16 32) (k0_hw111 : k0_chk111 v70 v217), ∀ a x, ((![v70, v217] : Fin 2 → IVec S16 32) a x).toNat < S128x128.size a := fun v70 v217 k0_hw111 => k0_hw111
def k0_off121 (k0_t7 : Fin k0_t7_loop.trips) : Fin 2 → Nat :=
  let c14_i32_155 : BitVec 32 := 14#32
  let v221 : Index := Scalar.indexCast c14_i32_155
  let c256_i32_154 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_153 : BitVec 32 := 16#32
  let v219 : BitVec 32 := Scalar.muli v67 c16_i32_153
  let v220 : BitVec 32 := Scalar.addi c256_i32_154 v219
  let v222 : Index := Scalar.indexCast v220
  ![14, v222.toNat]

def k0_chk112 (v70 : IVec S16 32) (v227 : IVec S16 32) : Prop :=
  (∀ a x, ((![v70, v227] : Fin 2 → IVec S16 32) a x).toNat < S128x128.size a)
theorem k0_idx112_inb : ∀ (v70 : IVec S16 32) (v227 : IVec S16 32) (k0_hw112 : k0_chk112 v70 v227), ∀ a x, ((![v70, v227] : Fin 2 → IVec S16 32) a x).toNat < S128x128.size a := fun v70 v227 k0_hw112 => k0_hw112
def k0_off122 (k0_t7 : Fin k0_t7_loop.trips) : Fin 2 → Nat :=
  let c15_i32_158 : BitVec 32 := 15#32
  let v231 : Index := Scalar.indexCast c15_i32_158
  let c256_i32_157 : BitVec 32 := 256#32
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_156 : BitVec 32 := 16#32
  let v229 : BitVec 32 := Scalar.muli v67 c16_i32_156
  let v230 : BitVec 32 := Scalar.addi c256_i32_157 v229
  let v232 : Index := Scalar.indexCast v230
  ![15, v232.toNat]
def k0_off123 (k0_t7 : Fin k0_t7_loop.trips) : Fin 2 → Nat :=
  let c2_i32_161 : BitVec 32 := 2#32
  let v239 : Index := Scalar.indexCast c2_i32_161
  let c0_i32_99 : BitVec 32 := 0#32
  let c0_i32_76 : BitVec 32 := 0#32
  let c1_i32_78 : BitVec 32 := 1#32
  let arg15 : BitVec 32 := Scf.iv c0_i32_76 c1_i32_78 k0_t7
  let c1_i32_98 : BitVec 32 := 1#32
  let v66 : BitVec 32 := Scalar.muli arg15 c1_i32_98
  let v67 : BitVec 32 := Scalar.addi c0_i32_99 v66
  let c16_i32_160 : BitVec 32 := 16#32
  let v238 : BitVec 32 := Scalar.muli v67 c16_i32_160
  let v240 : Index := Scalar.indexCast v238
  ![2, v240.toNat]
@[reducible] def k0_t8_loop : Scf.Loop 32 :=
  let c0_i32_88 : BitVec 32 := 0#32
  let c8_i32_89 : BitVec 32 := 8#32
  let v61 : BitVec 32 := Scalar.addi c0_i32_88 c8_i32_89
  let c1_i32_90 : BitVec 32 := 1#32
  ⟨c0_i32_88, v61, c1_i32_90⟩
def k0_off124 (k0_t8 : Fin k0_t8_loop.trips) : Fin 2 → Nat :=
  let c7_i32_101 : BitVec 32 := 7#32
  let v72 : Index := Scalar.indexCast c7_i32_101
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_100 : BitVec 32 := 16#32
  let v71 : BitVec 32 := Scalar.muli v67 c16_i32_100
  let v73 : Index := Scalar.indexCast v71
  ![7, v73.toNat]

def k0_chk113 (v70 : IVec S16 32) (v77 : IVec S16 32) : Prop :=
  (∀ a x, ((![v70, v77] : Fin 2 → IVec S16 32) a x).toNat < S128x128.size a)
theorem k0_idx113_inb : ∀ (v70 : IVec S16 32) (v77 : IVec S16 32) (k0_hw113 : k0_chk113 v70 v77), ∀ a x, ((![v70, v77] : Fin 2 → IVec S16 32) a x).toNat < S128x128.size a := fun v70 v77 k0_hw113 => k0_hw113
def k0_off125 (k0_t8 : Fin k0_t8_loop.trips) : Fin 2 → Nat :=
  let c0_i32_104 : BitVec 32 := 0#32
  let v81 : Index := Scalar.indexCast c0_i32_104
  let c384_i32 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_103 : BitVec 32 := 16#32
  let v79 : BitVec 32 := Scalar.muli v67 c16_i32_103
  let v80 : BitVec 32 := Scalar.addi c384_i32 v79
  let v82 : Index := Scalar.indexCast v80
  ![0, v82.toNat]

def k0_chk114 (v70 : IVec S16 32) (v87 : IVec S16 32) : Prop :=
  (∀ a x, ((![v70, v87] : Fin 2 → IVec S16 32) a x).toNat < S128x128.size a)
theorem k0_idx114_inb : ∀ (v70 : IVec S16 32) (v87 : IVec S16 32) (k0_hw114 : k0_chk114 v70 v87), ∀ a x, ((![v70, v87] : Fin 2 → IVec S16 32) a x).toNat < S128x128.size a := fun v70 v87 k0_hw114 => k0_hw114
def k0_off126 (k0_t8 : Fin k0_t8_loop.trips) : Fin 2 → Nat :=
  let c1_i32_108 : BitVec 32 := 1#32
  let v91 : Index := Scalar.indexCast c1_i32_108
  let c384_i32_107 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_106 : BitVec 32 := 16#32
  let v89 : BitVec 32 := Scalar.muli v67 c16_i32_106
  let v90 : BitVec 32 := Scalar.addi c384_i32_107 v89
  let v92 : Index := Scalar.indexCast v90
  ![1, v92.toNat]

def k0_chk115 (v70 : IVec S16 32) (v97 : IVec S16 32) : Prop :=
  (∀ a x, ((![v70, v97] : Fin 2 → IVec S16 32) a x).toNat < S128x128.size a)
theorem k0_idx115_inb : ∀ (v70 : IVec S16 32) (v97 : IVec S16 32) (k0_hw115 : k0_chk115 v70 v97), ∀ a x, ((![v70, v97] : Fin 2 → IVec S16 32) a x).toNat < S128x128.size a := fun v70 v97 k0_hw115 => k0_hw115
def k0_off127 (k0_t8 : Fin k0_t8_loop.trips) : Fin 2 → Nat :=
  let c2_i32_112 : BitVec 32 := 2#32
  let v101 : Index := Scalar.indexCast c2_i32_112
  let c384_i32_111 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_110 : BitVec 32 := 16#32
  let v99 : BitVec 32 := Scalar.muli v67 c16_i32_110
  let v100 : BitVec 32 := Scalar.addi c384_i32_111 v99
  let v102 : Index := Scalar.indexCast v100
  ![2, v102.toNat]

def k0_chk116 (v70 : IVec S16 32) (v107 : IVec S16 32) : Prop :=
  (∀ a x, ((![v70, v107] : Fin 2 → IVec S16 32) a x).toNat < S128x128.size a)
theorem k0_idx116_inb : ∀ (v70 : IVec S16 32) (v107 : IVec S16 32) (k0_hw116 : k0_chk116 v70 v107), ∀ a x, ((![v70, v107] : Fin 2 → IVec S16 32) a x).toNat < S128x128.size a := fun v70 v107 k0_hw116 => k0_hw116
def k0_off128 (k0_t8 : Fin k0_t8_loop.trips) : Fin 2 → Nat :=
  let c3_i32_116 : BitVec 32 := 3#32
  let v111 : Index := Scalar.indexCast c3_i32_116
  let c384_i32_115 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_114 : BitVec 32 := 16#32
  let v109 : BitVec 32 := Scalar.muli v67 c16_i32_114
  let v110 : BitVec 32 := Scalar.addi c384_i32_115 v109
  let v112 : Index := Scalar.indexCast v110
  ![3, v112.toNat]

def k0_chk117 (v70 : IVec S16 32) (v117 : IVec S16 32) : Prop :=
  (∀ a x, ((![v70, v117] : Fin 2 → IVec S16 32) a x).toNat < S128x128.size a)
theorem k0_idx117_inb : ∀ (v70 : IVec S16 32) (v117 : IVec S16 32) (k0_hw117 : k0_chk117 v70 v117), ∀ a x, ((![v70, v117] : Fin 2 → IVec S16 32) a x).toNat < S128x128.size a := fun v70 v117 k0_hw117 => k0_hw117
def k0_off129 (k0_t8 : Fin k0_t8_loop.trips) : Fin 2 → Nat :=
  let c4_i32_120 : BitVec 32 := 4#32
  let v121 : Index := Scalar.indexCast c4_i32_120
  let c384_i32_119 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_118 : BitVec 32 := 16#32
  let v119 : BitVec 32 := Scalar.muli v67 c16_i32_118
  let v120 : BitVec 32 := Scalar.addi c384_i32_119 v119
  let v122 : Index := Scalar.indexCast v120
  ![4, v122.toNat]

def k0_chk118 (v70 : IVec S16 32) (v127 : IVec S16 32) : Prop :=
  (∀ a x, ((![v70, v127] : Fin 2 → IVec S16 32) a x).toNat < S128x128.size a)
theorem k0_idx118_inb : ∀ (v70 : IVec S16 32) (v127 : IVec S16 32) (k0_hw118 : k0_chk118 v70 v127), ∀ a x, ((![v70, v127] : Fin 2 → IVec S16 32) a x).toNat < S128x128.size a := fun v70 v127 k0_hw118 => k0_hw118
def k0_off130 (k0_t8 : Fin k0_t8_loop.trips) : Fin 2 → Nat :=
  let c5_i32_124 : BitVec 32 := 5#32
  let v131 : Index := Scalar.indexCast c5_i32_124
  let c384_i32_123 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_122 : BitVec 32 := 16#32
  let v129 : BitVec 32 := Scalar.muli v67 c16_i32_122
  let v130 : BitVec 32 := Scalar.addi c384_i32_123 v129
  let v132 : Index := Scalar.indexCast v130
  ![5, v132.toNat]

def k0_chk119 (v70 : IVec S16 32) (v137 : IVec S16 32) : Prop :=
  (∀ a x, ((![v70, v137] : Fin 2 → IVec S16 32) a x).toNat < S128x128.size a)
theorem k0_idx119_inb : ∀ (v70 : IVec S16 32) (v137 : IVec S16 32) (k0_hw119 : k0_chk119 v70 v137), ∀ a x, ((![v70, v137] : Fin 2 → IVec S16 32) a x).toNat < S128x128.size a := fun v70 v137 k0_hw119 => k0_hw119
def k0_off131 (k0_t8 : Fin k0_t8_loop.trips) : Fin 2 → Nat :=
  let c6_i32_128 : BitVec 32 := 6#32
  let v141 : Index := Scalar.indexCast c6_i32_128
  let c384_i32_127 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_126 : BitVec 32 := 16#32
  let v139 : BitVec 32 := Scalar.muli v67 c16_i32_126
  let v140 : BitVec 32 := Scalar.addi c384_i32_127 v139
  let v142 : Index := Scalar.indexCast v140
  ![6, v142.toNat]

def k0_chk120 (v70 : IVec S16 32) (v147 : IVec S16 32) : Prop :=
  (∀ a x, ((![v70, v147] : Fin 2 → IVec S16 32) a x).toNat < S128x128.size a)
theorem k0_idx120_inb : ∀ (v70 : IVec S16 32) (v147 : IVec S16 32) (k0_hw120 : k0_chk120 v70 v147), ∀ a x, ((![v70, v147] : Fin 2 → IVec S16 32) a x).toNat < S128x128.size a := fun v70 v147 k0_hw120 => k0_hw120
def k0_off132 (k0_t8 : Fin k0_t8_loop.trips) : Fin 2 → Nat :=
  let c7_i32_132 : BitVec 32 := 7#32
  let v151 : Index := Scalar.indexCast c7_i32_132
  let c384_i32_131 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_130 : BitVec 32 := 16#32
  let v149 : BitVec 32 := Scalar.muli v67 c16_i32_130
  let v150 : BitVec 32 := Scalar.addi c384_i32_131 v149
  let v152 : Index := Scalar.indexCast v150
  ![7, v152.toNat]

def k0_chk121 (v70 : IVec S16 32) (v157 : IVec S16 32) : Prop :=
  (∀ a x, ((![v70, v157] : Fin 2 → IVec S16 32) a x).toNat < S128x128.size a)
theorem k0_idx121_inb : ∀ (v70 : IVec S16 32) (v157 : IVec S16 32) (k0_hw121 : k0_chk121 v70 v157), ∀ a x, ((![v70, v157] : Fin 2 → IVec S16 32) a x).toNat < S128x128.size a := fun v70 v157 k0_hw121 => k0_hw121
def k0_off133 (k0_t8 : Fin k0_t8_loop.trips) : Fin 2 → Nat :=
  let c8_i32_136 : BitVec 32 := 8#32
  let v161 : Index := Scalar.indexCast c8_i32_136
  let c384_i32_135 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_134 : BitVec 32 := 16#32
  let v159 : BitVec 32 := Scalar.muli v67 c16_i32_134
  let v160 : BitVec 32 := Scalar.addi c384_i32_135 v159
  let v162 : Index := Scalar.indexCast v160
  ![8, v162.toNat]

def k0_chk122 (v70 : IVec S16 32) (v167 : IVec S16 32) : Prop :=
  (∀ a x, ((![v70, v167] : Fin 2 → IVec S16 32) a x).toNat < S128x128.size a)
theorem k0_idx122_inb : ∀ (v70 : IVec S16 32) (v167 : IVec S16 32) (k0_hw122 : k0_chk122 v70 v167), ∀ a x, ((![v70, v167] : Fin 2 → IVec S16 32) a x).toNat < S128x128.size a := fun v70 v167 k0_hw122 => k0_hw122
def k0_off134 (k0_t8 : Fin k0_t8_loop.trips) : Fin 2 → Nat :=
  let c9_i32_140 : BitVec 32 := 9#32
  let v171 : Index := Scalar.indexCast c9_i32_140
  let c384_i32_139 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_138 : BitVec 32 := 16#32
  let v169 : BitVec 32 := Scalar.muli v67 c16_i32_138
  let v170 : BitVec 32 := Scalar.addi c384_i32_139 v169
  let v172 : Index := Scalar.indexCast v170
  ![9, v172.toNat]

def k0_chk123 (v70 : IVec S16 32) (v177 : IVec S16 32) : Prop :=
  (∀ a x, ((![v70, v177] : Fin 2 → IVec S16 32) a x).toNat < S128x128.size a)
theorem k0_idx123_inb : ∀ (v70 : IVec S16 32) (v177 : IVec S16 32) (k0_hw123 : k0_chk123 v70 v177), ∀ a x, ((![v70, v177] : Fin 2 → IVec S16 32) a x).toNat < S128x128.size a := fun v70 v177 k0_hw123 => k0_hw123
def k0_off135 (k0_t8 : Fin k0_t8_loop.trips) : Fin 2 → Nat :=
  let c10_i32_143 : BitVec 32 := 10#32
  let v181 : Index := Scalar.indexCast c10_i32_143
  let c384_i32_142 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_141 : BitVec 32 := 16#32
  let v179 : BitVec 32 := Scalar.muli v67 c16_i32_141
  let v180 : BitVec 32 := Scalar.addi c384_i32_142 v179
  let v182 : Index := Scalar.indexCast v180
  ![10, v182.toNat]

def k0_chk124 (v70 : IVec S16 32) (v187 : IVec S16 32) : Prop :=
  (∀ a x, ((![v70, v187] : Fin 2 → IVec S16 32) a x).toNat < S128x128.size a)
theorem k0_idx124_inb : ∀ (v70 : IVec S16 32) (v187 : IVec S16 32) (k0_hw124 : k0_chk124 v70 v187), ∀ a x, ((![v70, v187] : Fin 2 → IVec S16 32) a x).toNat < S128x128.size a := fun v70 v187 k0_hw124 => k0_hw124
def k0_off136 (k0_t8 : Fin k0_t8_loop.trips) : Fin 2 → Nat :=
  let c11_i32_146 : BitVec 32 := 11#32
  let v191 : Index := Scalar.indexCast c11_i32_146
  let c384_i32_145 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_144 : BitVec 32 := 16#32
  let v189 : BitVec 32 := Scalar.muli v67 c16_i32_144
  let v190 : BitVec 32 := Scalar.addi c384_i32_145 v189
  let v192 : Index := Scalar.indexCast v190
  ![11, v192.toNat]

def k0_chk125 (v70 : IVec S16 32) (v197 : IVec S16 32) : Prop :=
  (∀ a x, ((![v70, v197] : Fin 2 → IVec S16 32) a x).toNat < S128x128.size a)
theorem k0_idx125_inb : ∀ (v70 : IVec S16 32) (v197 : IVec S16 32) (k0_hw125 : k0_chk125 v70 v197), ∀ a x, ((![v70, v197] : Fin 2 → IVec S16 32) a x).toNat < S128x128.size a := fun v70 v197 k0_hw125 => k0_hw125
def k0_off137 (k0_t8 : Fin k0_t8_loop.trips) : Fin 2 → Nat :=
  let c12_i32_149 : BitVec 32 := 12#32
  let v201 : Index := Scalar.indexCast c12_i32_149
  let c384_i32_148 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_147 : BitVec 32 := 16#32
  let v199 : BitVec 32 := Scalar.muli v67 c16_i32_147
  let v200 : BitVec 32 := Scalar.addi c384_i32_148 v199
  let v202 : Index := Scalar.indexCast v200
  ![12, v202.toNat]

def k0_chk126 (v70 : IVec S16 32) (v207 : IVec S16 32) : Prop :=
  (∀ a x, ((![v70, v207] : Fin 2 → IVec S16 32) a x).toNat < S128x128.size a)
theorem k0_idx126_inb : ∀ (v70 : IVec S16 32) (v207 : IVec S16 32) (k0_hw126 : k0_chk126 v70 v207), ∀ a x, ((![v70, v207] : Fin 2 → IVec S16 32) a x).toNat < S128x128.size a := fun v70 v207 k0_hw126 => k0_hw126
def k0_off138 (k0_t8 : Fin k0_t8_loop.trips) : Fin 2 → Nat :=
  let c13_i32_152 : BitVec 32 := 13#32
  let v211 : Index := Scalar.indexCast c13_i32_152
  let c384_i32_151 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_150 : BitVec 32 := 16#32
  let v209 : BitVec 32 := Scalar.muli v67 c16_i32_150
  let v210 : BitVec 32 := Scalar.addi c384_i32_151 v209
  let v212 : Index := Scalar.indexCast v210
  ![13, v212.toNat]

def k0_chk127 (v70 : IVec S16 32) (v217 : IVec S16 32) : Prop :=
  (∀ a x, ((![v70, v217] : Fin 2 → IVec S16 32) a x).toNat < S128x128.size a)
theorem k0_idx127_inb : ∀ (v70 : IVec S16 32) (v217 : IVec S16 32) (k0_hw127 : k0_chk127 v70 v217), ∀ a x, ((![v70, v217] : Fin 2 → IVec S16 32) a x).toNat < S128x128.size a := fun v70 v217 k0_hw127 => k0_hw127
def k0_off139 (k0_t8 : Fin k0_t8_loop.trips) : Fin 2 → Nat :=
  let c14_i32_155 : BitVec 32 := 14#32
  let v221 : Index := Scalar.indexCast c14_i32_155
  let c384_i32_154 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_153 : BitVec 32 := 16#32
  let v219 : BitVec 32 := Scalar.muli v67 c16_i32_153
  let v220 : BitVec 32 := Scalar.addi c384_i32_154 v219
  let v222 : Index := Scalar.indexCast v220
  ![14, v222.toNat]

def k0_chk128 (v70 : IVec S16 32) (v227 : IVec S16 32) : Prop :=
  (∀ a x, ((![v70, v227] : Fin 2 → IVec S16 32) a x).toNat < S128x128.size a)
theorem k0_idx128_inb : ∀ (v70 : IVec S16 32) (v227 : IVec S16 32) (k0_hw128 : k0_chk128 v70 v227), ∀ a x, ((![v70, v227] : Fin 2 → IVec S16 32) a x).toNat < S128x128.size a := fun v70 v227 k0_hw128 => k0_hw128
def k0_off140 (k0_t8 : Fin k0_t8_loop.trips) : Fin 2 → Nat :=
  let c15_i32_158 : BitVec 32 := 15#32
  let v231 : Index := Scalar.indexCast c15_i32_158
  let c384_i32_157 : BitVec 32 := 384#32
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_156 : BitVec 32 := 16#32
  let v229 : BitVec 32 := Scalar.muli v67 c16_i32_156
  let v230 : BitVec 32 := Scalar.addi c384_i32_157 v229
  let v232 : Index := Scalar.indexCast v230
  ![15, v232.toNat]
def k0_off141 (k0_t8 : Fin k0_t8_loop.trips) : Fin 2 → Nat :=
  let c3_i32_161 : BitVec 32 := 3#32
  let v239 : Index := Scalar.indexCast c3_i32_161
  let c0_i32_99 : BitVec 32 := 0#32
  let c0_i32_88 : BitVec 32 := 0#32
  let c1_i32_90 : BitVec 32 := 1#32
  let arg15 : BitVec 32 := Scf.iv c0_i32_88 c1_i32_90 k0_t8
  let c1_i32_98 : BitVec 32 := 1#32
  let v66 : BitVec 32 := Scalar.muli arg15 c1_i32_98
  let v67 : BitVec 32 := Scalar.addi c0_i32_99 v66
  let c16_i32_160 : BitVec 32 := 16#32
  let v238 : BitVec 32 := Scalar.muli v67 c16_i32_160
  let v240 : Index := Scalar.indexCast v238
  ![3, v240.toNat]
@[reducible] def k0_t9_loop : Scf.Loop 32 :=
  let c0_i32_95 : BitVec 32 := 0#32
  let c20_i32 : BitVec 32 := 20#32
  let v65 : BitVec 32 := Scalar.addi c0_i32_95 c20_i32
  let c1_i32_96 : BitVec 32 := 1#32
  ⟨c0_i32_95, v65, c1_i32_96⟩
@[reducible] def k0_t10_loop : Scf.Loop 32 :=
  let c0_i32_107 : BitVec 32 := 0#32
  let c8_i32_108 : BitVec 32 := 8#32
  let v74 : BitVec 32 := Scalar.addi c0_i32_107 c8_i32_108
  let c1_i32_109 : BitVec 32 := 1#32
  ⟨c0_i32_107, v74, c1_i32_109⟩
def k0_off142 (k0_t9 : Fin k0_t9_loop.trips) (k0_t10 : Fin k0_t10_loop.trips) : Fin 2 → Nat :=
  let c8_i32_104 : BitVec 32 := 8#32
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let v71 : BitVec 32 := Scalar.addi c8_i32_104 v67
  let v99 : Index := Scalar.indexCast v71
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_132 : BitVec 32 := 16#32
  let v98 : BitVec 32 := Scalar.muli v94 c16_i32_132
  let v100 : Index := Scalar.indexCast v98
  ![v99.toNat, v100.toNat]

def k0_chk129 (v97 : IVec S16 32) (v104 : IVec S16 32) : Prop :=
  (∀ a x, ((![v97, v104] : Fin 2 → IVec S16 32) a x).toNat < S128x128.size a)
theorem k0_idx129_inb : ∀ (v97 : IVec S16 32) (v104 : IVec S16 32) (k0_hw129 : k0_chk129 v97 v104), ∀ a x, ((![v97, v104] : Fin 2 → IVec S16 32) a x).toNat < S128x128.size a := fun v97 v104 k0_hw129 => k0_hw129
def k0_off143 (k0_t9 : Fin k0_t9_loop.trips) (k0_t10 : Fin k0_t10_loop.trips) : Fin 2 → Nat :=
  let c0_i32_135 : BitVec 32 := 0#32
  let v109 : Index := Scalar.indexCast c0_i32_135
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32 : BitVec 32 := 128#32
  let v106 : BitVec 32 := Scalar.muli v72 c128_i32
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_134 : BitVec 32 := 16#32
  let v107 : BitVec 32 := Scalar.muli v94 c16_i32_134
  let v108 : BitVec 32 := Scalar.addi v106 v107
  let v110 : Index := Scalar.indexCast v108
  ![0, v110.toNat]

def k0_chk130 (v97 : IVec S16 32) (v115 : IVec S16 32) : Prop :=
  (∀ a x, ((![v97, v115] : Fin 2 → IVec S16 32) a x).toNat < S128x128.size a)
theorem k0_idx130_inb : ∀ (v97 : IVec S16 32) (v115 : IVec S16 32) (k0_hw130 : k0_chk130 v97 v115), ∀ a x, ((![v97, v115] : Fin 2 → IVec S16 32) a x).toNat < S128x128.size a := fun v97 v115 k0_hw130 => k0_hw130
def k0_off144 (k0_t9 : Fin k0_t9_loop.trips) (k0_t10 : Fin k0_t10_loop.trips) : Fin 2 → Nat :=
  let c1_i32_139 : BitVec 32 := 1#32
  let v120 : Index := Scalar.indexCast c1_i32_139
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_137 : BitVec 32 := 128#32
  let v117 : BitVec 32 := Scalar.muli v72 c128_i32_137
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_138 : BitVec 32 := 16#32
  let v118 : BitVec 32 := Scalar.muli v94 c16_i32_138
  let v119 : BitVec 32 := Scalar.addi v117 v118
  let v121 : Index := Scalar.indexCast v119
  ![1, v121.toNat]

def k0_chk131 (v97 : IVec S16 32) (v126 : IVec S16 32) : Prop :=
  (∀ a x, ((![v97, v126] : Fin 2 → IVec S16 32) a x).toNat < S128x128.size a)
theorem k0_idx131_inb : ∀ (v97 : IVec S16 32) (v126 : IVec S16 32) (k0_hw131 : k0_chk131 v97 v126), ∀ a x, ((![v97, v126] : Fin 2 → IVec S16 32) a x).toNat < S128x128.size a := fun v97 v126 k0_hw131 => k0_hw131
def k0_off145 (k0_t9 : Fin k0_t9_loop.trips) (k0_t10 : Fin k0_t10_loop.trips) : Fin 2 → Nat :=
  let c2_i32_143 : BitVec 32 := 2#32
  let v131 : Index := Scalar.indexCast c2_i32_143
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_141 : BitVec 32 := 128#32
  let v128 : BitVec 32 := Scalar.muli v72 c128_i32_141
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_142 : BitVec 32 := 16#32
  let v129 : BitVec 32 := Scalar.muli v94 c16_i32_142
  let v130 : BitVec 32 := Scalar.addi v128 v129
  let v132 : Index := Scalar.indexCast v130
  ![2, v132.toNat]

def k0_chk132 (v97 : IVec S16 32) (v137 : IVec S16 32) : Prop :=
  (∀ a x, ((![v97, v137] : Fin 2 → IVec S16 32) a x).toNat < S128x128.size a)
theorem k0_idx132_inb : ∀ (v97 : IVec S16 32) (v137 : IVec S16 32) (k0_hw132 : k0_chk132 v97 v137), ∀ a x, ((![v97, v137] : Fin 2 → IVec S16 32) a x).toNat < S128x128.size a := fun v97 v137 k0_hw132 => k0_hw132
def k0_off146 (k0_t9 : Fin k0_t9_loop.trips) (k0_t10 : Fin k0_t10_loop.trips) : Fin 2 → Nat :=
  let c3_i32_147 : BitVec 32 := 3#32
  let v142 : Index := Scalar.indexCast c3_i32_147
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_145 : BitVec 32 := 128#32
  let v139 : BitVec 32 := Scalar.muli v72 c128_i32_145
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_146 : BitVec 32 := 16#32
  let v140 : BitVec 32 := Scalar.muli v94 c16_i32_146
  let v141 : BitVec 32 := Scalar.addi v139 v140
  let v143 : Index := Scalar.indexCast v141
  ![3, v143.toNat]

def k0_chk133 (v97 : IVec S16 32) (v148 : IVec S16 32) : Prop :=
  (∀ a x, ((![v97, v148] : Fin 2 → IVec S16 32) a x).toNat < S128x128.size a)
theorem k0_idx133_inb : ∀ (v97 : IVec S16 32) (v148 : IVec S16 32) (k0_hw133 : k0_chk133 v97 v148), ∀ a x, ((![v97, v148] : Fin 2 → IVec S16 32) a x).toNat < S128x128.size a := fun v97 v148 k0_hw133 => k0_hw133
def k0_off147 (k0_t9 : Fin k0_t9_loop.trips) (k0_t10 : Fin k0_t10_loop.trips) : Fin 2 → Nat :=
  let c4_i32_151 : BitVec 32 := 4#32
  let v153 : Index := Scalar.indexCast c4_i32_151
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_149 : BitVec 32 := 128#32
  let v150 : BitVec 32 := Scalar.muli v72 c128_i32_149
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_150 : BitVec 32 := 16#32
  let v151 : BitVec 32 := Scalar.muli v94 c16_i32_150
  let v152 : BitVec 32 := Scalar.addi v150 v151
  let v154 : Index := Scalar.indexCast v152
  ![4, v154.toNat]

def k0_chk134 (v97 : IVec S16 32) (v159 : IVec S16 32) : Prop :=
  (∀ a x, ((![v97, v159] : Fin 2 → IVec S16 32) a x).toNat < S128x128.size a)
theorem k0_idx134_inb : ∀ (v97 : IVec S16 32) (v159 : IVec S16 32) (k0_hw134 : k0_chk134 v97 v159), ∀ a x, ((![v97, v159] : Fin 2 → IVec S16 32) a x).toNat < S128x128.size a := fun v97 v159 k0_hw134 => k0_hw134
def k0_off148 (k0_t9 : Fin k0_t9_loop.trips) (k0_t10 : Fin k0_t10_loop.trips) : Fin 2 → Nat :=
  let c5_i32_155 : BitVec 32 := 5#32
  let v164 : Index := Scalar.indexCast c5_i32_155
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_153 : BitVec 32 := 128#32
  let v161 : BitVec 32 := Scalar.muli v72 c128_i32_153
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_154 : BitVec 32 := 16#32
  let v162 : BitVec 32 := Scalar.muli v94 c16_i32_154
  let v163 : BitVec 32 := Scalar.addi v161 v162
  let v165 : Index := Scalar.indexCast v163
  ![5, v165.toNat]

def k0_chk135 (v97 : IVec S16 32) (v170 : IVec S16 32) : Prop :=
  (∀ a x, ((![v97, v170] : Fin 2 → IVec S16 32) a x).toNat < S128x128.size a)
theorem k0_idx135_inb : ∀ (v97 : IVec S16 32) (v170 : IVec S16 32) (k0_hw135 : k0_chk135 v97 v170), ∀ a x, ((![v97, v170] : Fin 2 → IVec S16 32) a x).toNat < S128x128.size a := fun v97 v170 k0_hw135 => k0_hw135
def k0_off149 (k0_t9 : Fin k0_t9_loop.trips) (k0_t10 : Fin k0_t10_loop.trips) : Fin 2 → Nat :=
  let c6_i32_159 : BitVec 32 := 6#32
  let v175 : Index := Scalar.indexCast c6_i32_159
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_157 : BitVec 32 := 128#32
  let v172 : BitVec 32 := Scalar.muli v72 c128_i32_157
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_158 : BitVec 32 := 16#32
  let v173 : BitVec 32 := Scalar.muli v94 c16_i32_158
  let v174 : BitVec 32 := Scalar.addi v172 v173
  let v176 : Index := Scalar.indexCast v174
  ![6, v176.toNat]

def k0_chk136 (v97 : IVec S16 32) (v181 : IVec S16 32) : Prop :=
  (∀ a x, ((![v97, v181] : Fin 2 → IVec S16 32) a x).toNat < S128x128.size a)
theorem k0_idx136_inb : ∀ (v97 : IVec S16 32) (v181 : IVec S16 32) (k0_hw136 : k0_chk136 v97 v181), ∀ a x, ((![v97, v181] : Fin 2 → IVec S16 32) a x).toNat < S128x128.size a := fun v97 v181 k0_hw136 => k0_hw136
def k0_off150 (k0_t9 : Fin k0_t9_loop.trips) (k0_t10 : Fin k0_t10_loop.trips) : Fin 2 → Nat :=
  let c7_i32_163 : BitVec 32 := 7#32
  let v186 : Index := Scalar.indexCast c7_i32_163
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_161 : BitVec 32 := 128#32
  let v183 : BitVec 32 := Scalar.muli v72 c128_i32_161
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_162 : BitVec 32 := 16#32
  let v184 : BitVec 32 := Scalar.muli v94 c16_i32_162
  let v185 : BitVec 32 := Scalar.addi v183 v184
  let v187 : Index := Scalar.indexCast v185
  ![7, v187.toNat]

def k0_chk137 (v97 : IVec S16 32) (v192 : IVec S16 32) : Prop :=
  (∀ a x, ((![v97, v192] : Fin 2 → IVec S16 32) a x).toNat < S128x128.size a)
theorem k0_idx137_inb : ∀ (v97 : IVec S16 32) (v192 : IVec S16 32) (k0_hw137 : k0_chk137 v97 v192), ∀ a x, ((![v97, v192] : Fin 2 → IVec S16 32) a x).toNat < S128x128.size a := fun v97 v192 k0_hw137 => k0_hw137
def k0_off151 (k0_t9 : Fin k0_t9_loop.trips) (k0_t10 : Fin k0_t10_loop.trips) : Fin 2 → Nat :=
  let c8_i32_167 : BitVec 32 := 8#32
  let v197 : Index := Scalar.indexCast c8_i32_167
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_165 : BitVec 32 := 128#32
  let v194 : BitVec 32 := Scalar.muli v72 c128_i32_165
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_166 : BitVec 32 := 16#32
  let v195 : BitVec 32 := Scalar.muli v94 c16_i32_166
  let v196 : BitVec 32 := Scalar.addi v194 v195
  let v198 : Index := Scalar.indexCast v196
  ![8, v198.toNat]

def k0_chk138 (v97 : IVec S16 32) (v203 : IVec S16 32) : Prop :=
  (∀ a x, ((![v97, v203] : Fin 2 → IVec S16 32) a x).toNat < S128x128.size a)
theorem k0_idx138_inb : ∀ (v97 : IVec S16 32) (v203 : IVec S16 32) (k0_hw138 : k0_chk138 v97 v203), ∀ a x, ((![v97, v203] : Fin 2 → IVec S16 32) a x).toNat < S128x128.size a := fun v97 v203 k0_hw138 => k0_hw138
def k0_off152 (k0_t9 : Fin k0_t9_loop.trips) (k0_t10 : Fin k0_t10_loop.trips) : Fin 2 → Nat :=
  let c9_i32_171 : BitVec 32 := 9#32
  let v208 : Index := Scalar.indexCast c9_i32_171
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_169 : BitVec 32 := 128#32
  let v205 : BitVec 32 := Scalar.muli v72 c128_i32_169
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_170 : BitVec 32 := 16#32
  let v206 : BitVec 32 := Scalar.muli v94 c16_i32_170
  let v207 : BitVec 32 := Scalar.addi v205 v206
  let v209 : Index := Scalar.indexCast v207
  ![9, v209.toNat]

def k0_chk139 (v97 : IVec S16 32) (v214 : IVec S16 32) : Prop :=
  (∀ a x, ((![v97, v214] : Fin 2 → IVec S16 32) a x).toNat < S128x128.size a)
theorem k0_idx139_inb : ∀ (v97 : IVec S16 32) (v214 : IVec S16 32) (k0_hw139 : k0_chk139 v97 v214), ∀ a x, ((![v97, v214] : Fin 2 → IVec S16 32) a x).toNat < S128x128.size a := fun v97 v214 k0_hw139 => k0_hw139
def k0_off153 (k0_t9 : Fin k0_t9_loop.trips) (k0_t10 : Fin k0_t10_loop.trips) : Fin 2 → Nat :=
  let c10_i32_174 : BitVec 32 := 10#32
  let v219 : Index := Scalar.indexCast c10_i32_174
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_172 : BitVec 32 := 128#32
  let v216 : BitVec 32 := Scalar.muli v72 c128_i32_172
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_173 : BitVec 32 := 16#32
  let v217 : BitVec 32 := Scalar.muli v94 c16_i32_173
  let v218 : BitVec 32 := Scalar.addi v216 v217
  let v220 : Index := Scalar.indexCast v218
  ![10, v220.toNat]

def k0_chk140 (v97 : IVec S16 32) (v225 : IVec S16 32) : Prop :=
  (∀ a x, ((![v97, v225] : Fin 2 → IVec S16 32) a x).toNat < S128x128.size a)
theorem k0_idx140_inb : ∀ (v97 : IVec S16 32) (v225 : IVec S16 32) (k0_hw140 : k0_chk140 v97 v225), ∀ a x, ((![v97, v225] : Fin 2 → IVec S16 32) a x).toNat < S128x128.size a := fun v97 v225 k0_hw140 => k0_hw140
def k0_off154 (k0_t9 : Fin k0_t9_loop.trips) (k0_t10 : Fin k0_t10_loop.trips) : Fin 2 → Nat :=
  let c11_i32_177 : BitVec 32 := 11#32
  let v230 : Index := Scalar.indexCast c11_i32_177
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_175 : BitVec 32 := 128#32
  let v227 : BitVec 32 := Scalar.muli v72 c128_i32_175
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_176 : BitVec 32 := 16#32
  let v228 : BitVec 32 := Scalar.muli v94 c16_i32_176
  let v229 : BitVec 32 := Scalar.addi v227 v228
  let v231 : Index := Scalar.indexCast v229
  ![11, v231.toNat]

def k0_chk141 (v97 : IVec S16 32) (v236 : IVec S16 32) : Prop :=
  (∀ a x, ((![v97, v236] : Fin 2 → IVec S16 32) a x).toNat < S128x128.size a)
theorem k0_idx141_inb : ∀ (v97 : IVec S16 32) (v236 : IVec S16 32) (k0_hw141 : k0_chk141 v97 v236), ∀ a x, ((![v97, v236] : Fin 2 → IVec S16 32) a x).toNat < S128x128.size a := fun v97 v236 k0_hw141 => k0_hw141
def k0_off155 (k0_t9 : Fin k0_t9_loop.trips) (k0_t10 : Fin k0_t10_loop.trips) : Fin 2 → Nat :=
  let c12_i32_180 : BitVec 32 := 12#32
  let v241 : Index := Scalar.indexCast c12_i32_180
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_178 : BitVec 32 := 128#32
  let v238 : BitVec 32 := Scalar.muli v72 c128_i32_178
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_179 : BitVec 32 := 16#32
  let v239 : BitVec 32 := Scalar.muli v94 c16_i32_179
  let v240 : BitVec 32 := Scalar.addi v238 v239
  let v242 : Index := Scalar.indexCast v240
  ![12, v242.toNat]

def k0_chk142 (v97 : IVec S16 32) (v247 : IVec S16 32) : Prop :=
  (∀ a x, ((![v97, v247] : Fin 2 → IVec S16 32) a x).toNat < S128x128.size a)
theorem k0_idx142_inb : ∀ (v97 : IVec S16 32) (v247 : IVec S16 32) (k0_hw142 : k0_chk142 v97 v247), ∀ a x, ((![v97, v247] : Fin 2 → IVec S16 32) a x).toNat < S128x128.size a := fun v97 v247 k0_hw142 => k0_hw142
def k0_off156 (k0_t9 : Fin k0_t9_loop.trips) (k0_t10 : Fin k0_t10_loop.trips) : Fin 2 → Nat :=
  let c13_i32_183 : BitVec 32 := 13#32
  let v252 : Index := Scalar.indexCast c13_i32_183
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_181 : BitVec 32 := 128#32
  let v249 : BitVec 32 := Scalar.muli v72 c128_i32_181
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_182 : BitVec 32 := 16#32
  let v250 : BitVec 32 := Scalar.muli v94 c16_i32_182
  let v251 : BitVec 32 := Scalar.addi v249 v250
  let v253 : Index := Scalar.indexCast v251
  ![13, v253.toNat]

def k0_chk143 (v97 : IVec S16 32) (v258 : IVec S16 32) : Prop :=
  (∀ a x, ((![v97, v258] : Fin 2 → IVec S16 32) a x).toNat < S128x128.size a)
theorem k0_idx143_inb : ∀ (v97 : IVec S16 32) (v258 : IVec S16 32) (k0_hw143 : k0_chk143 v97 v258), ∀ a x, ((![v97, v258] : Fin 2 → IVec S16 32) a x).toNat < S128x128.size a := fun v97 v258 k0_hw143 => k0_hw143
def k0_off157 (k0_t9 : Fin k0_t9_loop.trips) (k0_t10 : Fin k0_t10_loop.trips) : Fin 2 → Nat :=
  let c14_i32_186 : BitVec 32 := 14#32
  let v263 : Index := Scalar.indexCast c14_i32_186
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_184 : BitVec 32 := 128#32
  let v260 : BitVec 32 := Scalar.muli v72 c128_i32_184
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_185 : BitVec 32 := 16#32
  let v261 : BitVec 32 := Scalar.muli v94 c16_i32_185
  let v262 : BitVec 32 := Scalar.addi v260 v261
  let v264 : Index := Scalar.indexCast v262
  ![14, v264.toNat]

def k0_chk144 (v97 : IVec S16 32) (v269 : IVec S16 32) : Prop :=
  (∀ a x, ((![v97, v269] : Fin 2 → IVec S16 32) a x).toNat < S128x128.size a)
theorem k0_idx144_inb : ∀ (v97 : IVec S16 32) (v269 : IVec S16 32) (k0_hw144 : k0_chk144 v97 v269), ∀ a x, ((![v97, v269] : Fin 2 → IVec S16 32) a x).toNat < S128x128.size a := fun v97 v269 k0_hw144 => k0_hw144
def k0_off158 (k0_t9 : Fin k0_t9_loop.trips) (k0_t10 : Fin k0_t10_loop.trips) : Fin 2 → Nat :=
  let c15_i32_189 : BitVec 32 := 15#32
  let v274 : Index := Scalar.indexCast c15_i32_189
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_105 : BitVec 32 := 3#32
  let v72 : BitVec 32 := Scalar.andi v67 c3_i32_105
  let c128_i32_187 : BitVec 32 := 128#32
  let v271 : BitVec 32 := Scalar.muli v72 c128_i32_187
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_188 : BitVec 32 := 16#32
  let v272 : BitVec 32 := Scalar.muli v94 c16_i32_188
  let v273 : BitVec 32 := Scalar.addi v271 v272
  let v275 : Index := Scalar.indexCast v273
  ![15, v275.toNat]
def k0_off159 (k0_t9 : Fin k0_t9_loop.trips) (k0_t10 : Fin k0_t10_loop.trips) : Fin 2 → Nat :=
  let c4_i32_106 : BitVec 32 := 4#32
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let v73 : BitVec 32 := Scalar.addi c4_i32_106 v67
  let v280 : Index := Scalar.indexCast v73
  let c0_i32_131 : BitVec 32 := 0#32
  let c0_i32_107 : BitVec 32 := 0#32
  let c1_i32_109 : BitVec 32 := 1#32
  let arg16 : BitVec 32 := Scf.iv c0_i32_107 c1_i32_109 k0_t10
  let c1_i32_130 : BitVec 32 := 1#32
  let v93 : BitVec 32 := Scalar.muli arg16 c1_i32_130
  let v94 : BitVec 32 := Scalar.addi c0_i32_131 v93
  let c16_i32_190 : BitVec 32 := 16#32
  let v279 : BitVec 32 := Scalar.muli v94 c16_i32_190
  let v281 : Index := Scalar.indexCast v279
  ![v280.toNat, v281.toNat]
def k0_cond1 (k0_t9 : Fin k0_t9_loop.trips) : BitVec 1 :=
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c2_i32_111 : BitVec 32 := 2#32
  let v75 : BitVec 32 := Scalar.addi v67 c2_i32_111
  let c40_i32 : BitVec 32 := 40#32
  let v76 : BitVec 1 := Scalar.cmpi .slt v75 c40_i32
  let v77 : BitVec 32 := Scalar.extui v76
  let c0_i32_112 : BitVec 32 := 0#32
  let v78 : BitVec 1 := Scalar.cmpi .ne v77 c0_i32_112
  v78

def k0_off160 (k0_t9 : Fin k0_t9_loop.trips) : Fin 2 → Nat :=
  let c8_i32_130 : BitVec 32 := 8#32
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let v93 : BitVec 32 := Scalar.addi c8_i32_130 v67
  let c2_i32_131 : BitVec 32 := 2#32
  let v94 : BitVec 32 := Scalar.addi v93 c2_i32_131
  let c0_i32_132 : BitVec 32 := 0#32
  ![v94.toNat, 0]
@[reducible] def k0_t11_loop : Scf.Loop 32 :=
  let c0_i32_123 : BitVec 32 := 0#32
  let c8_i32_124 : BitVec 32 := 8#32
  let v88 : BitVec 32 := Scalar.addi c0_i32_123 c8_i32_124
  let c1_i32_125 : BitVec 32 := 1#32
  ⟨c0_i32_123, v88, c1_i32_125⟩
def k0_off161 (k0_t9 : Fin k0_t9_loop.trips) (k0_t11 : Fin k0_t11_loop.trips) : Fin 2 → Nat :=
  let c8_i32_117 : BitVec 32 := 8#32
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let v82 : BitVec 32 := Scalar.addi c8_i32_117 v67
  let c1_i32_118 : BitVec 32 := 1#32
  let v83 : BitVec 32 := Scalar.addi v82 c1_i32_118
  let v99 : Index := Scalar.indexCast v83
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_132 : BitVec 32 := 16#32
  let v98 : BitVec 32 := Scalar.muli v94 c16_i32_132
  let v100 : Index := Scalar.indexCast v98
  ![v99.toNat, v100.toNat]

def k0_chk145 (v97 : IVec S16 32) (v104 : IVec S16 32) : Prop :=
  (∀ a x, ((![v97, v104] : Fin 2 → IVec S16 32) a x).toNat < S128x128.size a)
theorem k0_idx145_inb : ∀ (v97 : IVec S16 32) (v104 : IVec S16 32) (k0_hw145 : k0_chk145 v97 v104), ∀ a x, ((![v97, v104] : Fin 2 → IVec S16 32) a x).toNat < S128x128.size a := fun v97 v104 k0_hw145 => k0_hw145
def k0_off162 (k0_t9 : Fin k0_t9_loop.trips) (k0_t11 : Fin k0_t11_loop.trips) : Fin 2 → Nat :=
  let c0_i32_135 : BitVec 32 := 0#32
  let v109 : Index := Scalar.indexCast c0_i32_135
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32 : BitVec 32 := 128#32
  let v106 : BitVec 32 := Scalar.muli v85 c128_i32
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_134 : BitVec 32 := 16#32
  let v107 : BitVec 32 := Scalar.muli v94 c16_i32_134
  let v108 : BitVec 32 := Scalar.addi v106 v107
  let v110 : Index := Scalar.indexCast v108
  ![0, v110.toNat]

def k0_chk146 (v97 : IVec S16 32) (v115 : IVec S16 32) : Prop :=
  (∀ a x, ((![v97, v115] : Fin 2 → IVec S16 32) a x).toNat < S128x128.size a)
theorem k0_idx146_inb : ∀ (v97 : IVec S16 32) (v115 : IVec S16 32) (k0_hw146 : k0_chk146 v97 v115), ∀ a x, ((![v97, v115] : Fin 2 → IVec S16 32) a x).toNat < S128x128.size a := fun v97 v115 k0_hw146 => k0_hw146
def k0_off163 (k0_t9 : Fin k0_t9_loop.trips) (k0_t11 : Fin k0_t11_loop.trips) : Fin 2 → Nat :=
  let c1_i32_139 : BitVec 32 := 1#32
  let v120 : Index := Scalar.indexCast c1_i32_139
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_137 : BitVec 32 := 128#32
  let v117 : BitVec 32 := Scalar.muli v85 c128_i32_137
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_138 : BitVec 32 := 16#32
  let v118 : BitVec 32 := Scalar.muli v94 c16_i32_138
  let v119 : BitVec 32 := Scalar.addi v117 v118
  let v121 : Index := Scalar.indexCast v119
  ![1, v121.toNat]

def k0_chk147 (v97 : IVec S16 32) (v126 : IVec S16 32) : Prop :=
  (∀ a x, ((![v97, v126] : Fin 2 → IVec S16 32) a x).toNat < S128x128.size a)
theorem k0_idx147_inb : ∀ (v97 : IVec S16 32) (v126 : IVec S16 32) (k0_hw147 : k0_chk147 v97 v126), ∀ a x, ((![v97, v126] : Fin 2 → IVec S16 32) a x).toNat < S128x128.size a := fun v97 v126 k0_hw147 => k0_hw147
def k0_off164 (k0_t9 : Fin k0_t9_loop.trips) (k0_t11 : Fin k0_t11_loop.trips) : Fin 2 → Nat :=
  let c2_i32_143 : BitVec 32 := 2#32
  let v131 : Index := Scalar.indexCast c2_i32_143
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_141 : BitVec 32 := 128#32
  let v128 : BitVec 32 := Scalar.muli v85 c128_i32_141
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_142 : BitVec 32 := 16#32
  let v129 : BitVec 32 := Scalar.muli v94 c16_i32_142
  let v130 : BitVec 32 := Scalar.addi v128 v129
  let v132 : Index := Scalar.indexCast v130
  ![2, v132.toNat]

def k0_chk148 (v97 : IVec S16 32) (v137 : IVec S16 32) : Prop :=
  (∀ a x, ((![v97, v137] : Fin 2 → IVec S16 32) a x).toNat < S128x128.size a)
theorem k0_idx148_inb : ∀ (v97 : IVec S16 32) (v137 : IVec S16 32) (k0_hw148 : k0_chk148 v97 v137), ∀ a x, ((![v97, v137] : Fin 2 → IVec S16 32) a x).toNat < S128x128.size a := fun v97 v137 k0_hw148 => k0_hw148
def k0_off165 (k0_t9 : Fin k0_t9_loop.trips) (k0_t11 : Fin k0_t11_loop.trips) : Fin 2 → Nat :=
  let c3_i32_147 : BitVec 32 := 3#32
  let v142 : Index := Scalar.indexCast c3_i32_147
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_145 : BitVec 32 := 128#32
  let v139 : BitVec 32 := Scalar.muli v85 c128_i32_145
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_146 : BitVec 32 := 16#32
  let v140 : BitVec 32 := Scalar.muli v94 c16_i32_146
  let v141 : BitVec 32 := Scalar.addi v139 v140
  let v143 : Index := Scalar.indexCast v141
  ![3, v143.toNat]

def k0_chk149 (v97 : IVec S16 32) (v148 : IVec S16 32) : Prop :=
  (∀ a x, ((![v97, v148] : Fin 2 → IVec S16 32) a x).toNat < S128x128.size a)
theorem k0_idx149_inb : ∀ (v97 : IVec S16 32) (v148 : IVec S16 32) (k0_hw149 : k0_chk149 v97 v148), ∀ a x, ((![v97, v148] : Fin 2 → IVec S16 32) a x).toNat < S128x128.size a := fun v97 v148 k0_hw149 => k0_hw149
def k0_off166 (k0_t9 : Fin k0_t9_loop.trips) (k0_t11 : Fin k0_t11_loop.trips) : Fin 2 → Nat :=
  let c4_i32_151 : BitVec 32 := 4#32
  let v153 : Index := Scalar.indexCast c4_i32_151
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_149 : BitVec 32 := 128#32
  let v150 : BitVec 32 := Scalar.muli v85 c128_i32_149
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_150 : BitVec 32 := 16#32
  let v151 : BitVec 32 := Scalar.muli v94 c16_i32_150
  let v152 : BitVec 32 := Scalar.addi v150 v151
  let v154 : Index := Scalar.indexCast v152
  ![4, v154.toNat]

def k0_chk150 (v97 : IVec S16 32) (v159 : IVec S16 32) : Prop :=
  (∀ a x, ((![v97, v159] : Fin 2 → IVec S16 32) a x).toNat < S128x128.size a)
theorem k0_idx150_inb : ∀ (v97 : IVec S16 32) (v159 : IVec S16 32) (k0_hw150 : k0_chk150 v97 v159), ∀ a x, ((![v97, v159] : Fin 2 → IVec S16 32) a x).toNat < S128x128.size a := fun v97 v159 k0_hw150 => k0_hw150
def k0_off167 (k0_t9 : Fin k0_t9_loop.trips) (k0_t11 : Fin k0_t11_loop.trips) : Fin 2 → Nat :=
  let c5_i32_155 : BitVec 32 := 5#32
  let v164 : Index := Scalar.indexCast c5_i32_155
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_153 : BitVec 32 := 128#32
  let v161 : BitVec 32 := Scalar.muli v85 c128_i32_153
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_154 : BitVec 32 := 16#32
  let v162 : BitVec 32 := Scalar.muli v94 c16_i32_154
  let v163 : BitVec 32 := Scalar.addi v161 v162
  let v165 : Index := Scalar.indexCast v163
  ![5, v165.toNat]

def k0_chk151 (v97 : IVec S16 32) (v170 : IVec S16 32) : Prop :=
  (∀ a x, ((![v97, v170] : Fin 2 → IVec S16 32) a x).toNat < S128x128.size a)
theorem k0_idx151_inb : ∀ (v97 : IVec S16 32) (v170 : IVec S16 32) (k0_hw151 : k0_chk151 v97 v170), ∀ a x, ((![v97, v170] : Fin 2 → IVec S16 32) a x).toNat < S128x128.size a := fun v97 v170 k0_hw151 => k0_hw151
def k0_off168 (k0_t9 : Fin k0_t9_loop.trips) (k0_t11 : Fin k0_t11_loop.trips) : Fin 2 → Nat :=
  let c6_i32_159 : BitVec 32 := 6#32
  let v175 : Index := Scalar.indexCast c6_i32_159
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_157 : BitVec 32 := 128#32
  let v172 : BitVec 32 := Scalar.muli v85 c128_i32_157
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_158 : BitVec 32 := 16#32
  let v173 : BitVec 32 := Scalar.muli v94 c16_i32_158
  let v174 : BitVec 32 := Scalar.addi v172 v173
  let v176 : Index := Scalar.indexCast v174
  ![6, v176.toNat]

def k0_chk152 (v97 : IVec S16 32) (v181 : IVec S16 32) : Prop :=
  (∀ a x, ((![v97, v181] : Fin 2 → IVec S16 32) a x).toNat < S128x128.size a)
theorem k0_idx152_inb : ∀ (v97 : IVec S16 32) (v181 : IVec S16 32) (k0_hw152 : k0_chk152 v97 v181), ∀ a x, ((![v97, v181] : Fin 2 → IVec S16 32) a x).toNat < S128x128.size a := fun v97 v181 k0_hw152 => k0_hw152
def k0_off169 (k0_t9 : Fin k0_t9_loop.trips) (k0_t11 : Fin k0_t11_loop.trips) : Fin 2 → Nat :=
  let c7_i32_163 : BitVec 32 := 7#32
  let v186 : Index := Scalar.indexCast c7_i32_163
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_161 : BitVec 32 := 128#32
  let v183 : BitVec 32 := Scalar.muli v85 c128_i32_161
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_162 : BitVec 32 := 16#32
  let v184 : BitVec 32 := Scalar.muli v94 c16_i32_162
  let v185 : BitVec 32 := Scalar.addi v183 v184
  let v187 : Index := Scalar.indexCast v185
  ![7, v187.toNat]

def k0_chk153 (v97 : IVec S16 32) (v192 : IVec S16 32) : Prop :=
  (∀ a x, ((![v97, v192] : Fin 2 → IVec S16 32) a x).toNat < S128x128.size a)
theorem k0_idx153_inb : ∀ (v97 : IVec S16 32) (v192 : IVec S16 32) (k0_hw153 : k0_chk153 v97 v192), ∀ a x, ((![v97, v192] : Fin 2 → IVec S16 32) a x).toNat < S128x128.size a := fun v97 v192 k0_hw153 => k0_hw153
def k0_off170 (k0_t9 : Fin k0_t9_loop.trips) (k0_t11 : Fin k0_t11_loop.trips) : Fin 2 → Nat :=
  let c8_i32_167 : BitVec 32 := 8#32
  let v197 : Index := Scalar.indexCast c8_i32_167
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_165 : BitVec 32 := 128#32
  let v194 : BitVec 32 := Scalar.muli v85 c128_i32_165
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_166 : BitVec 32 := 16#32
  let v195 : BitVec 32 := Scalar.muli v94 c16_i32_166
  let v196 : BitVec 32 := Scalar.addi v194 v195
  let v198 : Index := Scalar.indexCast v196
  ![8, v198.toNat]

def k0_chk154 (v97 : IVec S16 32) (v203 : IVec S16 32) : Prop :=
  (∀ a x, ((![v97, v203] : Fin 2 → IVec S16 32) a x).toNat < S128x128.size a)
theorem k0_idx154_inb : ∀ (v97 : IVec S16 32) (v203 : IVec S16 32) (k0_hw154 : k0_chk154 v97 v203), ∀ a x, ((![v97, v203] : Fin 2 → IVec S16 32) a x).toNat < S128x128.size a := fun v97 v203 k0_hw154 => k0_hw154
def k0_off171 (k0_t9 : Fin k0_t9_loop.trips) (k0_t11 : Fin k0_t11_loop.trips) : Fin 2 → Nat :=
  let c9_i32_171 : BitVec 32 := 9#32
  let v208 : Index := Scalar.indexCast c9_i32_171
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_169 : BitVec 32 := 128#32
  let v205 : BitVec 32 := Scalar.muli v85 c128_i32_169
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_170 : BitVec 32 := 16#32
  let v206 : BitVec 32 := Scalar.muli v94 c16_i32_170
  let v207 : BitVec 32 := Scalar.addi v205 v206
  let v209 : Index := Scalar.indexCast v207
  ![9, v209.toNat]

def k0_chk155 (v97 : IVec S16 32) (v214 : IVec S16 32) : Prop :=
  (∀ a x, ((![v97, v214] : Fin 2 → IVec S16 32) a x).toNat < S128x128.size a)
theorem k0_idx155_inb : ∀ (v97 : IVec S16 32) (v214 : IVec S16 32) (k0_hw155 : k0_chk155 v97 v214), ∀ a x, ((![v97, v214] : Fin 2 → IVec S16 32) a x).toNat < S128x128.size a := fun v97 v214 k0_hw155 => k0_hw155
def k0_off172 (k0_t9 : Fin k0_t9_loop.trips) (k0_t11 : Fin k0_t11_loop.trips) : Fin 2 → Nat :=
  let c10_i32_174 : BitVec 32 := 10#32
  let v219 : Index := Scalar.indexCast c10_i32_174
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_172 : BitVec 32 := 128#32
  let v216 : BitVec 32 := Scalar.muli v85 c128_i32_172
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_173 : BitVec 32 := 16#32
  let v217 : BitVec 32 := Scalar.muli v94 c16_i32_173
  let v218 : BitVec 32 := Scalar.addi v216 v217
  let v220 : Index := Scalar.indexCast v218
  ![10, v220.toNat]

def k0_chk156 (v97 : IVec S16 32) (v225 : IVec S16 32) : Prop :=
  (∀ a x, ((![v97, v225] : Fin 2 → IVec S16 32) a x).toNat < S128x128.size a)
theorem k0_idx156_inb : ∀ (v97 : IVec S16 32) (v225 : IVec S16 32) (k0_hw156 : k0_chk156 v97 v225), ∀ a x, ((![v97, v225] : Fin 2 → IVec S16 32) a x).toNat < S128x128.size a := fun v97 v225 k0_hw156 => k0_hw156
def k0_off173 (k0_t9 : Fin k0_t9_loop.trips) (k0_t11 : Fin k0_t11_loop.trips) : Fin 2 → Nat :=
  let c11_i32_177 : BitVec 32 := 11#32
  let v230 : Index := Scalar.indexCast c11_i32_177
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_175 : BitVec 32 := 128#32
  let v227 : BitVec 32 := Scalar.muli v85 c128_i32_175
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_176 : BitVec 32 := 16#32
  let v228 : BitVec 32 := Scalar.muli v94 c16_i32_176
  let v229 : BitVec 32 := Scalar.addi v227 v228
  let v231 : Index := Scalar.indexCast v229
  ![11, v231.toNat]

def k0_chk157 (v97 : IVec S16 32) (v236 : IVec S16 32) : Prop :=
  (∀ a x, ((![v97, v236] : Fin 2 → IVec S16 32) a x).toNat < S128x128.size a)
theorem k0_idx157_inb : ∀ (v97 : IVec S16 32) (v236 : IVec S16 32) (k0_hw157 : k0_chk157 v97 v236), ∀ a x, ((![v97, v236] : Fin 2 → IVec S16 32) a x).toNat < S128x128.size a := fun v97 v236 k0_hw157 => k0_hw157
def k0_off174 (k0_t9 : Fin k0_t9_loop.trips) (k0_t11 : Fin k0_t11_loop.trips) : Fin 2 → Nat :=
  let c12_i32_180 : BitVec 32 := 12#32
  let v241 : Index := Scalar.indexCast c12_i32_180
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_178 : BitVec 32 := 128#32
  let v238 : BitVec 32 := Scalar.muli v85 c128_i32_178
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_179 : BitVec 32 := 16#32
  let v239 : BitVec 32 := Scalar.muli v94 c16_i32_179
  let v240 : BitVec 32 := Scalar.addi v238 v239
  let v242 : Index := Scalar.indexCast v240
  ![12, v242.toNat]

def k0_chk158 (v97 : IVec S16 32) (v247 : IVec S16 32) : Prop :=
  (∀ a x, ((![v97, v247] : Fin 2 → IVec S16 32) a x).toNat < S128x128.size a)
theorem k0_idx158_inb : ∀ (v97 : IVec S16 32) (v247 : IVec S16 32) (k0_hw158 : k0_chk158 v97 v247), ∀ a x, ((![v97, v247] : Fin 2 → IVec S16 32) a x).toNat < S128x128.size a := fun v97 v247 k0_hw158 => k0_hw158
def k0_off175 (k0_t9 : Fin k0_t9_loop.trips) (k0_t11 : Fin k0_t11_loop.trips) : Fin 2 → Nat :=
  let c13_i32_183 : BitVec 32 := 13#32
  let v252 : Index := Scalar.indexCast c13_i32_183
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_181 : BitVec 32 := 128#32
  let v249 : BitVec 32 := Scalar.muli v85 c128_i32_181
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_182 : BitVec 32 := 16#32
  let v250 : BitVec 32 := Scalar.muli v94 c16_i32_182
  let v251 : BitVec 32 := Scalar.addi v249 v250
  let v253 : Index := Scalar.indexCast v251
  ![13, v253.toNat]

def k0_chk159 (v97 : IVec S16 32) (v258 : IVec S16 32) : Prop :=
  (∀ a x, ((![v97, v258] : Fin 2 → IVec S16 32) a x).toNat < S128x128.size a)
theorem k0_idx159_inb : ∀ (v97 : IVec S16 32) (v258 : IVec S16 32) (k0_hw159 : k0_chk159 v97 v258), ∀ a x, ((![v97, v258] : Fin 2 → IVec S16 32) a x).toNat < S128x128.size a := fun v97 v258 k0_hw159 => k0_hw159
def k0_off176 (k0_t9 : Fin k0_t9_loop.trips) (k0_t11 : Fin k0_t11_loop.trips) : Fin 2 → Nat :=
  let c14_i32_186 : BitVec 32 := 14#32
  let v263 : Index := Scalar.indexCast c14_i32_186
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_184 : BitVec 32 := 128#32
  let v260 : BitVec 32 := Scalar.muli v85 c128_i32_184
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_185 : BitVec 32 := 16#32
  let v261 : BitVec 32 := Scalar.muli v94 c16_i32_185
  let v262 : BitVec 32 := Scalar.addi v260 v261
  let v264 : Index := Scalar.indexCast v262
  ![14, v264.toNat]

def k0_chk160 (v97 : IVec S16 32) (v269 : IVec S16 32) : Prop :=
  (∀ a x, ((![v97, v269] : Fin 2 → IVec S16 32) a x).toNat < S128x128.size a)
theorem k0_idx160_inb : ∀ (v97 : IVec S16 32) (v269 : IVec S16 32) (k0_hw160 : k0_chk160 v97 v269), ∀ a x, ((![v97, v269] : Fin 2 → IVec S16 32) a x).toNat < S128x128.size a := fun v97 v269 k0_hw160 => k0_hw160
def k0_off177 (k0_t9 : Fin k0_t9_loop.trips) (k0_t11 : Fin k0_t11_loop.trips) : Fin 2 → Nat :=
  let c15_i32_189 : BitVec 32 := 15#32
  let v274 : Index := Scalar.indexCast c15_i32_189
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c1_i32_119 : BitVec 32 := 1#32
  let v84 : BitVec 32 := Scalar.addi v67 c1_i32_119
  let c3_i32_120 : BitVec 32 := 3#32
  let v85 : BitVec 32 := Scalar.andi v84 c3_i32_120
  let c128_i32_187 : BitVec 32 := 128#32
  let v271 : BitVec 32 := Scalar.muli v85 c128_i32_187
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_188 : BitVec 32 := 16#32
  let v272 : BitVec 32 := Scalar.muli v94 c16_i32_188
  let v273 : BitVec 32 := Scalar.addi v271 v272
  let v275 : Index := Scalar.indexCast v273
  ![15, v275.toNat]
def k0_off178 (k0_t9 : Fin k0_t9_loop.trips) (k0_t11 : Fin k0_t11_loop.trips) : Fin 2 → Nat :=
  let c4_i32_121 : BitVec 32 := 4#32
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let v86 : BitVec 32 := Scalar.addi c4_i32_121 v67
  let c1_i32_122 : BitVec 32 := 1#32
  let v87 : BitVec 32 := Scalar.addi v86 c1_i32_122
  let v280 : Index := Scalar.indexCast v87
  let c0_i32_131 : BitVec 32 := 0#32
  let c0_i32_123 : BitVec 32 := 0#32
  let c1_i32_125 : BitVec 32 := 1#32
  let arg16 : BitVec 32 := Scf.iv c0_i32_123 c1_i32_125 k0_t11
  let c1_i32_130 : BitVec 32 := 1#32
  let v93 : BitVec 32 := Scalar.muli arg16 c1_i32_130
  let v94 : BitVec 32 := Scalar.addi c0_i32_131 v93
  let c16_i32_190 : BitVec 32 := 16#32
  let v279 : BitVec 32 := Scalar.muli v94 c16_i32_190
  let v281 : Index := Scalar.indexCast v279
  ![v280.toNat, v281.toNat]
def k0_cond2 (k0_t9 : Fin k0_t9_loop.trips) : BitVec 1 :=
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let c3_i32_127 : BitVec 32 := 3#32
  let v89 : BitVec 32 := Scalar.addi v67 c3_i32_127
  let c40_i32_128 : BitVec 32 := 40#32
  let v90 : BitVec 1 := Scalar.cmpi .slt v89 c40_i32_128
  let v91 : BitVec 32 := Scalar.extui v90
  let c0_i32_129 : BitVec 32 := 0#32
  let v92 : BitVec 1 := Scalar.cmpi .ne v91 c0_i32_129
  v92

def k0_off179 (k0_t9 : Fin k0_t9_loop.trips) : Fin 2 → Nat :=
  let c8_i32_130 : BitVec 32 := 8#32
  let c0_i32_99 : BitVec 32 := 0#32
  let c0_i32_95 : BitVec 32 := 0#32
  let c1_i32_96 : BitVec 32 := 1#32
  let arg15 : BitVec 32 := Scf.iv c0_i32_95 c1_i32_96 k0_t9
  let c2_i32_98 : BitVec 32 := 2#32
  let v66 : BitVec 32 := Scalar.muli arg15 c2_i32_98
  let v67 : BitVec 32 := Scalar.addi c0_i32_99 v66
  let v93 : BitVec 32 := Scalar.addi c8_i32_130 v67
  let c3_i32_131 : BitVec 32 := 3#32
  let v94 : BitVec 32 := Scalar.addi v93 c3_i32_131
  let c0_i32_132 : BitVec 32 := 0#32
  ![v94.toNat, 0]
def k0_off180 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_98_r2 : BitVec 32 := 0#32
  let c0_i32_99_r2 : BitVec 32 := 0#32
  ![v1.toNat, 0, 0]
abbrev grid1 : Pipeline.Grid := .none

abbrev stage1_0 : Fin 1 → Memref sig .tc .vmem S32x44x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .smem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384 : Shape := ⟨1, ![16384]⟩
abbrev S16384x10 : Shape := ⟨2, ![16384, 10]⟩
abbrev S1000000x16 : Shape := ⟨2, ![1000000, 16]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩
abbrev S16384x10x1 : Shape := ⟨3, ![16384, 10, 1]⟩
abbrev S1x1x1 : Shape := ⟨3, ![1, 1, 1]⟩
abbrev S16384x10x16 : Shape := ⟨3, ![16384, 10, 16]⟩

abbrev nBuf : Space → Nat
  | .hbm => 120
  | .vmem => 0
  | .smem => 0
  | _ => 0

abbrev bufTy : (tb : Table) → Fin (tcTables nBuf tb) → BufTy
  | .hbm, ⟨0, _⟩ => ⟨S16384, .i32⟩
  | .hbm, ⟨1, _⟩ => ⟨S16384, .i32⟩
  | .hbm, ⟨2, _⟩ => ⟨S16384x10, .i32⟩
  | .hbm, ⟨3, _⟩ => ⟨S1000000x16, .f32⟩
  | .hbm, ⟨4, _⟩ => ⟨S1000000x16, .f32⟩
  | .hbm, ⟨5, _⟩ => ⟨S_, .i32⟩
  | .hbm, ⟨6, _⟩ => ⟨S16384, .i32⟩
  | .hbm, ⟨7, _⟩ => ⟨S16384, .i1⟩
  | .hbm, ⟨8, _⟩ => ⟨S_, .i32⟩
  | .hbm, ⟨9, _⟩ => ⟨S16384, .i32⟩
  | .hbm, ⟨10, _⟩ => ⟨S16384, .i32⟩
  | .hbm, ⟨11, _⟩ => ⟨S16384, .i32⟩
  | .hbm, ⟨12, _⟩ => ⟨S16384x1, .i32⟩
  | .hbm, ⟨13, _⟩ => ⟨S1, .i32⟩
  | .hbm, ⟨14, _⟩ => ⟨S_, .i32⟩
  | .hbm, ⟨15, _⟩ => ⟨S16384x1, .i32⟩
  | .hbm, ⟨16, _⟩ => ⟨S16384x1, .i1⟩
  | .hbm, ⟨17, _⟩ => ⟨S1x1, .i32⟩
  | .hbm, ⟨18, _⟩ => ⟨S16384x1, .i32⟩
  | .hbm, ⟨19, _⟩ => ⟨S16384x1, .i1⟩
  | .hbm, ⟨20, _⟩ => ⟨S16384x1, .i1⟩
  | .hbm, ⟨21, _⟩ => ⟨S_, .i1⟩
  | .hbm, ⟨22, _⟩ => ⟨S16384, .i1⟩
  | .hbm, ⟨23, _⟩ => ⟨S16384x16, .f32⟩
  | .hbm, ⟨24, _⟩ => ⟨S16384x16, .i1⟩
  | .hbm, ⟨25, _⟩ => ⟨S_, .f32⟩
  | .hbm, ⟨26, _⟩ => ⟨S16384x16, .f32⟩
  | .hbm, ⟨27, _⟩ => ⟨S16384x16, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S1, .i32⟩
  | .hbm, ⟨37, _⟩ => ⟨S_, .i32⟩
  | .hbm, ⟨38, _⟩ => ⟨S16384x1, .i32⟩
  | .hbm, ⟨39, _⟩ => ⟨S16384x1, .i1⟩
  | .hbm, ⟨40, _⟩ => ⟨S1x1, .i32⟩
  | .hbm, ⟨41, _⟩ => ⟨S16384x1, .i32⟩
  | .hbm, ⟨42, _⟩ => ⟨S16384x1, .i1⟩
  | .hbm, ⟨43, _⟩ => ⟨S16384x1, .i1⟩
  | .hbm, ⟨44, _⟩ => ⟨S_, .i1⟩
  | .hbm, ⟨45, _⟩ => ⟨S16384, .i1⟩
  | .hbm, ⟨46, _⟩ => ⟨S16384x16, .f32⟩
  | .hbm, ⟨47, _⟩ => ⟨S16384x16, .i1⟩
  | .hbm, ⟨48, _⟩ => ⟨S_, .f32⟩
  | .hbm, ⟨49, _⟩ => ⟨S16384x16, .f32⟩
  | .hbm, ⟨50, _⟩ => ⟨S16384x16, .f32⟩
  | .hbm, ⟨51, _⟩ => ⟨S16384x16, .f32⟩
  | .hbm, ⟨52, _⟩ => ⟨S_, .f32⟩
  | .hbm, ⟨53, _⟩ => ⟨S16384, .f32⟩
  | .hbm, ⟨54, _⟩ => ⟨S16384, .f32⟩
  | .hbm, ⟨55, _⟩ => ⟨S_, .f32⟩
  | .hbm, ⟨56, _⟩ => ⟨S16384, .f32⟩
  | .hbm, ⟨57, _⟩ => ⟨S16384, .f32⟩
  | .hbm, ⟨58, _⟩ => ⟨S16384, .f32⟩
  | .hbm, ⟨59, _⟩ => ⟨S16384, .f32⟩
  | .hbm, ⟨60, _⟩ => ⟨S16384, .i1⟩
  | .hbm, ⟨61, _⟩ => ⟨S16384, .f32⟩
  | .hbm, ⟨62, _⟩ => ⟨S16384, .f32⟩
  | .hbm, ⟨63, _⟩ => ⟨S16384, .f32⟩
  | .hbm, ⟨64, _⟩ => ⟨S16384, .f32⟩
  | .hbm, ⟨65, _⟩ => ⟨S16384, .f32⟩
  | .hbm, ⟨66, _⟩ => ⟨S16384, .f32⟩
  | .hbm, ⟨67, _⟩ => ⟨S16384, .f32⟩
  | .hbm, ⟨68, _⟩ => ⟨S16384, .f32⟩
  | .hbm, ⟨69, _⟩ => ⟨S16384, .f32⟩
  | .hbm, ⟨70, _⟩ => ⟨S16384, .f32⟩
  | .hbm, ⟨71, _⟩ => ⟨S_, .i32⟩
  | .hbm, ⟨72, _⟩ => ⟨S16384x10, .i32⟩
  | .hbm, ⟨73, _⟩ => ⟨S16384x10, .i1⟩
  | .hbm, ⟨74, _⟩ => ⟨S_, .i32⟩
  | .hbm, ⟨75, _⟩ => ⟨S16384x10, .i32⟩
  | .hbm, ⟨76, _⟩ => ⟨S16384x10, .i32⟩
  | .hbm, ⟨77, _⟩ => ⟨S16384x10, .i32⟩
  | .hbm, ⟨78, _⟩ => ⟨S16384x10x1, .i32⟩
  | .hbm, ⟨79, _⟩ => ⟨S1, .i32⟩
  | .hbm, ⟨80, _⟩ => ⟨S_, .i32⟩
  | .hbm, ⟨81, _⟩ => ⟨S16384x10x1, .i32⟩
  | .hbm, ⟨82, _⟩ => ⟨S16384x10x1, .i1⟩
  | .hbm, ⟨83, _⟩ => ⟨S1x1x1, .i32⟩
  | .hbm, ⟨84, _⟩ => ⟨S16384x10x1, .i32⟩
  | .hbm, ⟨85, _⟩ => ⟨S16384x10x1, .i1⟩
  | .hbm, ⟨86, _⟩ => ⟨S16384x10x1, .i1⟩
  | .hbm, ⟨87, _⟩ => ⟨S_, .i1⟩
  | .hbm, ⟨88, _⟩ => ⟨S16384x10, .i1⟩
  | .hbm, ⟨89, _⟩ => ⟨S16384x10x16, .f32⟩
  | .hbm, ⟨90, _⟩ => ⟨S16384x10x16, .i1⟩
  | .hbm, ⟨91, _⟩ => ⟨S_, .f32⟩
  | .hbm, ⟨92, _⟩ => ⟨S16384x10x16, .f32⟩
  | .hbm, ⟨93, _⟩ => ⟨S16384x10x16, .f32⟩
  | .hbm, ⟨94, _⟩ => ⟨S16384x10x16, .f32⟩
  | .hbm, ⟨95, _⟩ => ⟨S16384x10, .f32⟩
  | .hbm, ⟨96, _⟩ => ⟨S16384x10, .f32⟩
  | .hbm, ⟨97, _⟩ => ⟨S_, .f32⟩
  | .hbm, ⟨98, _⟩ => ⟨S16384x10, .f32⟩
  | .hbm, ⟨99, _⟩ => ⟨S16384x10, .f32⟩
  | .hbm, ⟨100, _⟩ => ⟨S16384x10, .f32⟩
  | .hbm, ⟨101, _⟩ => ⟨S16384x10, .f32⟩
  | .hbm, ⟨102, _⟩ => ⟨S16384x10, .i1⟩
  | .hbm, ⟨103, _⟩ => ⟨S16384x10, .f32⟩
  | .hbm, ⟨104, _⟩ => ⟨S16384x10, .f32⟩
  | .hbm, ⟨105, _⟩ => ⟨S16384x10, .f32⟩
  | .hbm, ⟨106, _⟩ => ⟨S16384x10, .f32⟩
  | .hbm, ⟨107, _⟩ => ⟨S16384x10, .f32⟩
  | .hbm, ⟨108, _⟩ => ⟨S16384x10, .f32⟩
  | .hbm, ⟨109, _⟩ => ⟨S16384x10, .f32⟩
  | .hbm, ⟨110, _⟩ => ⟨S16384x10, .f32⟩
  | .hbm, ⟨111, _⟩ => ⟨S16384x10, .f32⟩
  | .hbm, ⟨112, _⟩ => ⟨S_, .f32⟩
  | .hbm, ⟨113, _⟩ => ⟨S16384, .f32⟩
  | .hbm, ⟨114, _⟩ => ⟨S16384, .f32⟩
  | .hbm, ⟨115, _⟩ => ⟨S16384, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v1 : Ref sig .tc := ⟨.hbm, 50, rfl⟩
abbrev main_v2 : Ref sig .tc := ⟨.hbm, 51, rfl⟩
abbrev main_cst : Ref sig .tc := ⟨.hbm, 52, rfl⟩
abbrev main_v3 : Ref sig .tc := ⟨.hbm, 53, rfl⟩
abbrev main_call2_v0 : Ref sig .tc := ⟨.hbm, 54, rfl⟩
abbrev main_call2_call0_cst : Ref sig .tc := ⟨.hbm, 55, rfl⟩
abbrev main_call2_call0_v0 : Ref sig .tc := ⟨.hbm, 56, rfl⟩
abbrev main_call2_call0_v1 : Ref sig .tc := ⟨.hbm, 57, rfl⟩
abbrev main_call2_call0_v2 : Ref sig .tc := ⟨.hbm, 58, rfl⟩
abbrev main_call2_call0_v3 : Ref sig .tc := ⟨.hbm, 59, rfl⟩
abbrev main_call2_call0_v4 : Ref sig .tc := ⟨.hbm, 60, rfl⟩
abbrev main_call2_call0_v5 : Ref sig .tc := ⟨.hbm, 61, rfl⟩
abbrev main_call2_call0_v6 : Ref sig .tc := ⟨.hbm, 62, rfl⟩
abbrev main_call2_call0_v7 : Ref sig .tc := ⟨.hbm, 63, rfl⟩
abbrev main_call2_call0_v8 : Ref sig .tc := ⟨.hbm, 64, rfl⟩
abbrev main_call2_call0_v9 : Ref sig .tc := ⟨.hbm, 65, rfl⟩
abbrev main_call2_call0_v10 : Ref sig .tc := ⟨.hbm, 66, rfl⟩
abbrev main_call2_call0_v11 : Ref sig .tc := ⟨.hbm, 67, rfl⟩
abbrev main_call2_v1 : Ref sig .tc := ⟨.hbm, 68, rfl⟩
abbrev main_v4 : Ref sig .tc := ⟨.hbm, 69, rfl⟩
abbrev main_v5 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v6 : Ref sig .tc := ⟨.hbm, 93, rfl⟩
abbrev main_v7 : Ref sig .tc := ⟨.hbm, 94, rfl⟩
abbrev main_v8 : Ref sig .tc := ⟨.hbm, 95, rfl⟩
abbrev main_call4_v0 : Ref sig .tc := ⟨.hbm, 96, rfl⟩
abbrev main_call4_call0_cst : Ref sig .tc := ⟨.hbm, 97, rfl⟩
abbrev main_call4_call0_v0 : Ref sig .tc := ⟨.hbm, 98, rfl⟩
abbrev main_call4_call0_v1 : Ref sig .tc := ⟨.hbm, 99, rfl⟩
abbrev main_call4_call0_v2 : Ref sig .tc := ⟨.hbm, 100, rfl⟩
abbrev main_call4_call0_v3 : Ref sig .tc := ⟨.hbm, 101, rfl⟩
abbrev main_call4_call0_v4 : Ref sig .tc := ⟨.hbm, 102, rfl⟩
abbrev main_call4_call0_v5 : Ref sig .tc := ⟨.hbm, 103, rfl⟩
abbrev main_call4_call0_v6 : Ref sig .tc := ⟨.hbm, 104, rfl⟩
abbrev main_call4_call0_v7 : Ref sig .tc := ⟨.hbm, 105, rfl⟩
abbrev main_call4_call0_v8 : Ref sig .tc := ⟨.hbm, 106, rfl⟩
abbrev main_call4_call0_v9 : Ref sig .tc := ⟨.hbm, 107, rfl⟩
abbrev main_call4_call0_v10 : Ref sig .tc := ⟨.hbm, 108, rfl⟩
abbrev main_call4_call0_v11 : Ref sig .tc := ⟨.hbm, 109, rfl⟩
abbrev main_call4_v1 : Ref sig .tc := ⟨.hbm, 110, rfl⟩
abbrev main_v9 : Ref sig .tc := ⟨.hbm, 111, rfl⟩
abbrev main_cst_0 : Ref sig .tc := ⟨.hbm, 112, rfl⟩
abbrev main_v10 : Ref sig .tc := ⟨.hbm, 113, rfl⟩
abbrev main_v11 : Ref sig .tc := ⟨.hbm, 114, rfl⟩
abbrev main_v12 : Ref sig .tc := ⟨.hbm, 115, rfl⟩
abbrev main_cst_1 : Ref sig .tc := ⟨.hbm, 116, rfl⟩
abbrev main_v13 : Ref sig .tc := ⟨.hbm, 117, rfl⟩
abbrev main_cst_2 : Ref sig .tc := ⟨.hbm, 118, rfl⟩
abbrev main_v14 : Ref sig .tc := ⟨.hbm, 119, rfl⟩

abbrev nD : Nat := 1
abbrev τ : Topo := Topo.v7x

variable {F : FTy → Type} [FloatOps F]
-- ==== Proof.Trips.lean ====
/- The vector subcore's two kinds of inner trips, each written once over the buffers and offsets it works on:
   a trip that spreads sixteen gathered rows over the sixteen feature rows of the centre table, and a trip that
   accumulates sixteen dot products.  The sixteen unrolled steps of a trip are a recursion on the feature. -/
module

public import proofs.«01_k».proof.Proof.Gen.KernelIdeal.Skeleton

@[expose] public section

noncomputable section

namespace Cert.KernelIdeal.Sc

open Idealize.ShloMosaic Idealize.SL.Sem
open Cert.KernelIdeal.Gen

variable {F : FTy → Type} [FloatOps F]

/-- Programs of the tile at the grid point `i`. -/
abbrev TProg (F : FTy → Type) (i : grid0.Coords) (β : Type) : Type 1 :=
  Prog (TpuEff nD τ sig (Elt F) Λ₀ (.scVector ((i 0).castLE hcore0) ((i 1).castLE hsub0))) β

/-- Every lane's pair (row, column) lies in a gathered buffer. -/
def InBuf (rows cols : IVec S16 32) : Prop :=
  ∀ a x, ((![rows, cols] : Fin 2 → IVec S16 32) a x).toNat < S128x128.size a

/-- Whether sixteen places lie in the buffer can be decided. -/
instance InBuf.dec (rows cols : IVec S16 32) : Decidable (InBuf rows cols) :=
  decidable_of_iff' _ (Iff.of_eq (InBuf.eq_1 rows cols))

/-- A sixteen-lane window of the centre table lies inside it. -/
theorem ctInb {d co : ℕ} (hd : d < 16) (hco : co + 16 ≤ 512) :
    ∀ a, (![d, co] : Fin 2 → ℕ) a + S1x16.size a ≤ S16x512.size a :=
  Fin.forall_fin_two.mpr ⟨(by show d + 1 ≤ 16; omega), hco⟩

/-- Feature `d` of a spreading trip and the ones after it: read the sixteen gathered entries of feature `d`, put them
    in row `d` of the centre table. -/
def exSteps (i : grid0.Coords) (gb : Memref sig .scVector .vmem S128x128 .f32) (ct : Memref sig .scVector .vmem S16x512 .f32)
    (rows : IVec S16 32) (sub : Vec F S16 .i32) (co : ℕ) (hco : co + 16 ≤ 512) : (n d : ℕ) → d + n = 16 → TProg F i Unit
  | 0, _, _ => pure ⟨⟩
  | n + 1, d, hd => do
    have hw : InBuf rows (addi sub (broadcast S16 (BitVec.ofNat 32 d))) :=
      (← Prog.lift (TpuEff.assume (InBuf rows (addi sub (broadcast S16 (BitVec.ofNat 32 d)))) (InBuf.dec rows _))).down
    let v : Vec F S16 .f32 ← SparseCore.vectorLoadIdx gb ![rows, addi sub (broadcast S16 (BitVec.ofNat 32 d))] hw (View.loads_vmem h_S128x128)
    let _ld : Vec F S1x16 .f32 ← Prog.lift (.load ct (Rect.unit (s := S16x512) ![d, co] S1x16.size (ctInb (by omega) hco)).toLoadRect (View.loadsAt_vmem h_S1x16))
    Prog.lift (.store ct (Rect.unit (s := S16x512) ![d, co] S1x16.size (ctInb (by omega) hco)) (shapeCast S1x16 v shapeCasts_S16_S1x16) Finset.univ (View.stores_vmem_bits_univ h_S1x16 rfl) (.inl rfl))
    exSteps i gb ct rows sub co hco n (d + 1) (by omega)

/-- A spreading trip. -/
def exTrip (i : grid0.Coords) (gb : Memref sig .scVector .vmem S128x128 .f32) (sb : Memref sig .scVector .vmem S48x128 .i32)
    (ct : Memref sig .scVector .vmem S16x512 .f32) (rows : IVec S16 32) (so : Fin 2 → ℕ)
    (hso : ∀ a, so a + S1x16.size a ≤ S48x128.size a) (co : ℕ) (hco : co + 16 ≤ 512) : TProg F i Unit := do
  let ld : Vec F S1x16 .i32 ← Prog.lift (.load sb (Rect.unit (s := S48x128) so S1x16.size hso).toLoadRect (View.loadsAt_vmem h_S1x16))
  exSteps i gb ct rows (shapeCast S16 ld shapeCasts_S1x16_S16) co hco 16 0 rfl

/-- Feature `d` of an accumulating trip and the ones after it, then what is done with the sum. -/
def dotSteps (i : grid0.Coords) (gb : Memref sig .scVector .vmem S128x128 .f32) (ct : Memref sig .scVector .vmem S16x512 .f32)
    (rows : IVec S16 32) (sub : Vec F S16 .i32) (co : ℕ) (hco : co + 16 ≤ 512) (k : FVec F S16 .f32 → TProg F i Unit) :
    (n d : ℕ) → d + n = 16 → FVec F S16 .f32 → TProg F i Unit
  | 0, _, _, acc => k acc
  | n + 1, d, hd, acc => do
    have hw : InBuf rows (addi sub (broadcast S16 (BitVec.ofNat 32 d))) :=
      (← Prog.lift (TpuEff.assume (InBuf rows (addi sub (broadcast S16 (BitVec.ofNat 32 d)))) (InBuf.dec rows _))).down
    let v : Vec F S16 .f32 ← SparseCore.vectorLoadIdx gb ![rows, addi sub (broadcast S16 (BitVec.ofNat 32 d))] hw (View.loads_vmem h_S128x128)
    let ld : Vec F S1x16 .f32 ← Prog.lift (.load ct (Rect.unit (s := S16x512) ![d, co] S1x16.size (ctInb (by omega) hco)).toLoadRect (View.loadsAt_vmem h_S1x16))
    dotSteps i gb ct rows sub co hco k n (d + 1) (by omega) (addf acc (mulf v (shapeCast S16 ld shapeCasts_S1x16_S16)))

/-- Sixteen zeros. -/
def zeros : FVec F S16 .f32 := broadcast S16 (Scalar.ofBits .f32 0x00000000#32 : F .f32)

/-- What an accumulating trip stores of its sum: a pair of the outside words is stored negated. -/
def fin (neg : Bool) (acc : FVec F S16 .f32) : FVec F S16 .f32 :=
  match neg with
  | true => subf zeros acc
  | false => acc

/-- An accumulating trip. -/
def dotTrip (i : grid0.Coords) (neg : Bool) (gb : Memref sig .scVector .vmem S128x128 .f32) (sb : Memref sig .scVector .vmem S48x128 .i32)
    (ct : Memref sig .scVector .vmem S16x512 .f32) (xb : Memref sig .scVector .vmem S44x128 .f32) (rows : IVec S16 32) (so : Fin 2 → ℕ)
    (hso : ∀ a, so a + S1x16.size a ≤ S48x128.size a) (co : ℕ) (hco : co + 16 ≤ 512)
    (xo : Fin 2 → ℕ) (hxo : ∀ a, xo a + S1x16.size a ≤ S44x128.size a) : TProg F i Unit := do
  let ld : Vec F S1x16 .i32 ← Prog.lift (.load sb (Rect.unit (s := S48x128) so S1x16.size hso).toLoadRect (View.loadsAt_vmem h_S1x16))
  dotSteps i gb ct rows (shapeCast S16 ld shapeCasts_S1x16_S16) co hco (fun acc => do
    let _ld : Vec F S1x16 .f32 ← Prog.lift (.load xb (Rect.unit (s := S44x128) xo S1x16.size hxo).toLoadRect (View.loadsAt_vmem h_S1x16))
    Prog.lift (.store xb (Rect.unit (s := S44x128) xo S1x16.size hxo) (shapeCast S1x16 (fin neg acc) shapeCasts_S16_S1x16) Finset.univ (View.stores_vmem_bits_univ h_S1x16 rfl) (.inl rfl))
    pure ⟨⟩) 16 0 rfl zeros

/-- The trip number as the word the kernel computes. -/
def trip (k : ℕ) : BitVec 32 := Scalar.addi 0#32 (Scalar.muli (Scf.iv 0#32 1#32 k) 1#32)

/-- The lanes' rows in the gathered buffer at trip word `g`. -/
def rowsAt (lanes : IVec S16 32) (g : BitVec 32) : IVec S16 32 := addi (broadcast S16 (Scalar.muli g 16#32)) lanes

/-- The column of the centre table at which trip word `g` of the chunk whose columns start at `cb` works. -/
def colAt (cb g : BitVec 32) : ℕ := (Scalar.indexCast (Scalar.addi cb (Scalar.muli g 16#32))).toNat

/-- The column of the index lists (and of the products) at which trip word `g` works. -/
def laneAt (g : BitVec 32) : ℕ := (Scalar.indexCast (Scalar.muli g 16#32)).toNat

end Cert.KernelIdeal.Sc

end
-- ==== Proof.Base.lean ====
/- The vocabulary of the run: the program's labels and configuration, the algebra of the resources, and the programs'
   threads. -/
module

public import proofs.«01_k».proof.Proof.Trips
public import proofs.«01_k».proof.Proof.Gen.KernelIdeal.Launch
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Tactic
public import Idealize.ShloMosaic.Lib.Pipeline.Value
public import Idealize.ShloMosaic.Lib.Writes
public import Idealize.ShloMosaic.Lib.ValueIdxCoords

@[expose] public section

noncomputable section

namespace Cert.KernelIdeal.Sc

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels below the SparseCore's: the TensorCore's one pipeline over the kernels. -/
abbrev ΛP : Labels := Pipeline.Sig Λ₀ (Fin 1) fun p => (pcfgs (F := F) p).Adm
/-- The SparseCore's configuration. -/
abbrev K : SparseCore.Cfg τ sig (ΛP (F := F)) 1 := sc (F := F)
/-- Sixteen tiles to a SparseCore. -/
theorem nSub_zero : (K (F := F)).nSub 0 = 16 := rfl
/-- The definitions below the SparseCore's. -/
abbrev D [FloatOps F] : Defs nD τ sig (Elt F) (ΛP (F := F)) := Pipeline.defs pcfgs defs₀
/-- No kernel of the program needs a variant. -/
abbrev 𝒱₀ : Variants := Variants.none
/-- The variants of the pipeline's level, -/
abbrev 𝒱 : Variants := 𝒱₀.lift
/-- at which a thread starts. -/
abbrev v₀ : 𝒱.V := Sum.inl none

/-- The facts of the configuration that the launch asks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The algebra of the handshakes' rounds, -/
abbrev UH : Type := URounds (GSem nD τ sig) ℕ
/-- that of the pipeline's staging cells, -/
abbrev UP : Type := URounds (GSem nD τ sig) Unit
/-- and all of the certificate's: beside these the counters of the transfers. -/
abbrev UU : Type := UH × (UP × Counters)

local notation "𝕄" => MT nD τ sig (HIx 1) (Elt F) ℕ UU ℕ

/-- The handshakes' part of the resources. -/
abbrev EH : Emb UH (MT nD τ sig (HIx 1) (Elt F) ℕ UU ℕ) := embL

/-- The pipeline's part of the resources. -/
def EP : Emb UP (MT nD τ sig (HIx 1) (Elt F) ℕ UU ℕ) := (Emb.inl : Emb UP (UP × Counters)).trans embR

/-- The handshake's resources live in the part of the ghost state that is kept for the program's own use. -/
instance EP_lands : (EP (F := F)).LandsIn (upEmb : UEmb _ (MT nD τ sig (HIx 1) (Elt F) ℕ UU ℕ)) := by
  unfold EP embR; infer_instance

/-- The thread of the tile that works at the grid point `i`. -/
abbrev thr (dv : Dev nD) (i : grid0.Coords) : Thread nD τ := (dv, .scVector ((i 0).castLE hcore0) ((i 1).castLE hsub0))

/-- A tile's program runs. -/
abbrev Wp [FloatOps F] {β : Type} (dv : Dev nD) (i : grid0.Coords) (p : TProg F i β) (Q : β → sProp 𝕄) : sProp 𝕄 :=
  wp frame (wpE defs₀ 𝒱₀ (thr dv i) none) Set.univ p Q

end Cert.KernelIdeal.Sc

end
-- ==== Proof.TripWp.lean ====
/- What the two kinds of inner trips do: a spreading trip fills sixteen columns of the centre table, an accumulating trip
   stores sixteen dot products. -/
module

public import proofs.«01_k».proof.Proof.Base

@[expose] public section

noncomputable section

namespace Cert.KernelIdeal.Sc

open Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- A buffer of the tile, held at the share `q` with the contents `f`. -/
abbrev Held (dv : Dev nD) (i : grid0.Coords) {sp : Space} {s : Shape} {e : EltTy} (m : Memref sig .scVector sp s e)
    (q : PosShare TreeShare) (f : Buf (Elt F) (m.view.loc (thr dv i))) : sProp 𝕄 :=
  m.view.loc (thr dv i) ↦[Finset.univ]{q} f

/-- A buffer of the tile held outright, its contents having the property `P`. -/
abbrev Holds (dv : Dev nD) (i : grid0.Coords) {sp : Space} {s : Shape} {e : EltTy} (m : Memref sig .scVector sp s e)
    (P : (s.Idx → Elt F e) → Prop) : sProp 𝕄 :=
  iprop(∃ f : Buf (Elt F) (m.view.loc (thr dv i)), ⌜P (m.view.read (Elt F) f)⌝ ∗ Held dv i m fullShare f)

/-- A tile's program that has ended. -/
theorem wp_done (dv : Dev nD) (i : grid0.Coords) {Q : Unit → sProp 𝕄} : Q () ⊢ Wp dv i (pure ⟨⟩) Q := by
  change _ ⊢ wp frame (wpE defs₀ 𝒱₀ (thr dv i) none) Set.univ (pure ⟨⟩) Q
  rw [wp_pure]
  exact fupd_intro

/-- The centre table is filled up to column `co`, and the sixteen columns from there in the first `d` features. -/
def CtOk (CT : ℕ → ℕ → F .f32) (co d : ℕ) (v : S16x512.Idx → Elt F .f32) : Prop :=
  ∀ j : S16x512.Idx, ((j 1).val < co ∨ ((j 1).val < co + 16 ∧ (j 0).val < d)) → v j = CT (j 0).val (j 1).val

/-- The products are stored up to position `n`, in row-major order. -/
def XOk (X : ℕ → ℕ → F .f32) (n : ℕ) (v : S44x128.Idx → Elt F .f32) : Prop :=
  ∀ j : S44x128.Idx, (j 0).val * 128 + (j 1).val < n → v j = X (j 0).val (j 1).val

/-- A one-row window read as sixteen lanes. -/
theorem row_lanes {α : Type} (v : S1x16.Idx → α) (x : S16.Idx) :
    shapeCast S16 v shapeCasts_S1x16_S16 x = v (ix2 0 (x 0)) :=
  shapeCast_apply _ _ _ _ (by
    rw [Shape.rowMajor_val_two, Shape.rowMajor_val_one]; show 0 * 16 + (x 0).val = (x 0).val; omega)

/-- Sixteen lanes written as a one-row window. -/
theorem lanes_row {α : Type} (v : S16.Idx → α) (x : S1x16.Idx) :
    shapeCast S1x16 v shapeCasts_S16_S1x16 x = v (ix1 (x 1)) :=
  shapeCast_apply _ _ _ _ (by
    rw [Shape.rowMajor_val_two, Shape.rowMajor_val_one]
    have h : (x 0).val = 0 := by have := (x 0).isLt; have e : S1x16.size 0 = 1 := rfl; omega
    show (x 1).val = (x 0).val * 16 + (x 1).val; omega)

section Window

variable {sp : Space} {a b : ℕ} {e : EltTy} (m : Memref sig .scVector sp ⟨2, ![a, b]⟩ e) (o : Fin 2 → ℕ)
  (h : ∀ c, o c + S1x16.size c ≤ (⟨2, ![a, b]⟩ : Shape).size c)

/-- What a one-row window of a buffer reads. -/
theorem window_read (f : m.view.ty.Contents (Elt F)) (x : S1x16.Idx) (j : (⟨2, ![a, b]⟩ : Shape).Idx)
    (h0 : (j 0).val = o 0) (h1 : (j 1).val = o 1 + (x 1).val) :
    (m.access (Rect.unit (s := ⟨2, ![a, b]⟩) o S1x16.size h)).read (Elt F) f x = m.view.read (Elt F) f j := by
  show m.view.read (Elt F) f ((Rect.unit (s := ⟨2, ![a, b]⟩) o S1x16.size h).emb x) = _
  congr 1
  funext c
  have hx : (x 0).val = 0 := by have := (x 0).isLt; have e : S1x16.size 0 = 1 := rfl; omega
  fin_cases c
  · apply Fin.ext; rw [Rect.emb_apply]; show o 0 + 1 * (x 0).val = (j 0).val; omega
  · apply Fin.ext; rw [Rect.emb_apply]; show o 1 + 1 * (x 1).val = (j 1).val; omega

/-- What the buffer reads, a one-row window of it stored: in the window the value stored, -/
theorem window_write_in (f : m.view.ty.Contents (Elt F)) (w : S1x16.Idx → Elt F e) (j : (⟨2, ![a, b]⟩ : Shape).Idx) (r : Fin 16)
    (h0 : (j 0).val = o 0) (h1 : (j 1).val = o 1 + r.val) :
    m.view.read (Elt F) ((m.access (Rect.unit (s := ⟨2, ![a, b]⟩) o S1x16.size h)).write (Elt F) f w Finset.univ) j = w (ix2 0 r) := by
  rw [show j = (Rect.unit (s := ⟨2, ![a, b]⟩) o S1x16.size h).emb (ix2 0 r) from by
    funext c
    fin_cases c
    · apply Fin.ext; rw [Rect.emb_apply]; show (j 0).val = o 0 + 1 * 0; omega
    · apply Fin.ext; rw [Rect.emb_apply]; show (j 1).val = o 1 + 1 * r.val; omega]
  exact View.read_slice_write_emb _ _ _ (Finset.mem_univ _)

/-- outside it what was there. -/
theorem window_write_out (f : m.view.ty.Contents (Elt F)) (w : S1x16.Idx → Elt F e) (j : (⟨2, ![a, b]⟩ : Shape).Idx)
    (hj : (j 0).val = o 0 → o 1 ≤ (j 1).val → (j 1).val < o 1 + 16 → False) :
    m.view.read (Elt F) ((m.access (Rect.unit (s := ⟨2, ![a, b]⟩) o S1x16.size h)).write (Elt F) f w Finset.univ) j = m.view.read (Elt F) f j := by
  refine View.read_slice_write_of_not_mem _ _ _ _ fun hm => ?_
  rw [Rect.map_emb_univ, Rect.mem_set_unit] at hm
  have h0 := hm 0
  have h1 := hm 1
  have e0 : S1x16.size 0 = 1 := rfl
  have e1 : S1x16.size 1 = 16 := rfl
  exact hj (by omega) h1.1 (by omega)

end Window

section Steps

variable (dv : Dev nD) (i : grid0.Coords) (gb : Memref sig .scVector .vmem S128x128 .f32) (sb : Memref sig .scVector .vmem S48x128 .i32)
  (ct : Memref sig .scVector .vmem S16x512 .f32) (xb : Memref sig .scVector .vmem S44x128 .f32)

/-- The lanes of a feature step lie in the gathered buffer. -/
theorem inBuf_of {rows : IVec S16 32} {sub : IVec S16 32} {g : ℕ} (hg : g < 8) {sv : ℕ → ℕ} (hsv : ∀ n, sv n ≤ 112)
    (hrows : ∀ x, (rows x).toNat = 16 * g + (x 0).val) (hsub : ∀ x, (sub x).toNat = sv (16 * g + (x 0).val)) {d : ℕ} (hd : d < 16) :
    InBuf rows (addi sub (broadcast S16 (BitVec.ofNat 32 d))) ∧
      ∀ x, ((addi sub (broadcast S16 (BitVec.ofNat 32 d)) : IVec S16 32) x).toNat = sv (16 * g + (x 0).val) + d := by
  have hs : ∀ x, ((addi sub (broadcast S16 (BitVec.ofNat 32 d)) : IVec S16 32) x).toNat = sv (16 * g + (x 0).val) + d := fun x => by
    show (sub x + BitVec.ofNat 32 d).toNat = _
    have := hsv (16 * g + (x 0).val)
    rw [BitVec.toNat_add, hsub, BitVec.toNat_ofNat]
    omega
  refine ⟨fun c x => ?_, hs⟩
  have hx : (x 0).val < 16 := (x 0).isLt
  fin_cases c
  · show (rows x).toNat < 128
    rw [hrows]; omega
  · show ((addi sub (broadcast S16 (BitVec.ofNat 32 d)) : IVec S16 32) x).toNat < 128
    rw [hs]; have := hsv (16 * g + (x 0).val); omega

/-- Column `co` of the centre table filled in one more feature. -/
theorem ctOk_step {CT : ℕ → ℕ → F .f32} {co d : ℕ} (hd : d < 16) (hco : co + 16 ≤ 512) (f : ct.view.ty.Contents (Elt F))
    (w : S1x16.Idx → F .f32) (hw : ∀ r : Fin 16, w (ix2 0 r) = CT d (co + r.val)) (hf : CtOk CT co d (ct.view.read (Elt F) f)) :
    CtOk CT co (d + 1) (ct.view.read (Elt F) ((ct.access (Rect.unit (s := S16x512) ![d, co] S1x16.size (ctInb hd hco))).write (Elt F) f w Finset.univ)) := by
  intro j hj
  by_cases hin : (j 0).val = d ∧ co ≤ (j 1).val ∧ (j 1).val < co + 16
  · obtain ⟨h0, h1, h2⟩ := hin
    rw [window_write_in ct ![d, co] (ctInb hd hco) f w j ⟨(j 1).val - co, by omega⟩ h0 (by show (j 1).val = co + ((j 1).val - co); omega), hw]
    show CT d (co + ((j 1).val - co)) = _
    rw [h0, show co + ((j 1).val - co) = (j 1).val by omega]
  · rw [window_write_out ct ![d, co] (ctInb hd hco) f w j (fun h0 h1 h2 => hin ⟨h0, h1, h2⟩)]
    exact hf j (by omega)

/-- The products with sixteen more stored. -/
theorem xOk_step {X : ℕ → ℕ → F .f32} {xr g : ℕ} (hg : g < 8) {xo : Fin 2 → ℕ} (hxo : ∀ a, xo a + S1x16.size a ≤ S44x128.size a)
    (hx0 : xo 0 = xr) (hx1 : xo 1 = 16 * g)
    (f : xb.view.ty.Contents (Elt F)) (w : S1x16.Idx → F .f32) (hw : ∀ r : Fin 16, w (ix2 0 r) = X xr (16 * g + r.val))
    (hf : XOk X (xr * 128 + 16 * g) (xb.view.read (Elt F) f)) :
    XOk X (xr * 128 + 16 * (g + 1)) (xb.view.read (Elt F) ((xb.access (Rect.unit (s := S44x128) xo S1x16.size hxo)).write (Elt F) f w Finset.univ)) := by
  intro j hj
  have hj1 : (j 1).val < 128 := (j 1).isLt
  by_cases hin : (j 0).val = xr ∧ 16 * g ≤ (j 1).val ∧ (j 1).val < 16 * g + 16
  · obtain ⟨h0, h1, h2⟩ := hin
    rw [window_write_in xb xo hxo f w j ⟨(j 1).val - 16 * g, by omega⟩ (by omega) (by show (j 1).val = xo 1 + ((j 1).val - 16 * g); omega), hw]
    show X xr (16 * g + ((j 1).val - 16 * g)) = _
    rw [h0, show 16 * g + ((j 1).val - 16 * g) = (j 1).val by omega]
  · rw [window_write_out xb xo hxo f w j (fun h0 h1 h2 => hin ⟨by omega, by omega, by omega⟩)]
    exact hf j (by by_contra hn; exact hin (by omega))

variable {q : PosShare TreeShare} {f : Buf (Elt F) (gb.view.loc (thr dv i))} {B : ℕ → ℕ → F .f32}
  (hB : ∀ j : S128x128.Idx, gb.view.read (Elt F) f j = B (j 0).val (j 1).val)
  {rows : IVec S16 32} {sub : Vec F S16 .i32} {g : ℕ} (hg : g < 8) {sv : ℕ → ℕ} (hsv : ∀ n, sv n ≤ 112)
  (hrows : ∀ x, (rows x).toNat = 16 * g + (x 0).val) (hsub : ∀ x, (sub x : BitVec 32).toNat = sv (16 * g + (x 0).val))
  {co : ℕ} (hco : co + 16 ≤ 512) {CT : ℕ → ℕ → F .f32}

include hB hrows in
/-- What the lanes of feature `d` read of the gathered buffer. -/
theorem lanes_read {cols : IVec S16 32} (hw : InBuf rows cols) {d : ℕ} (hc : ∀ x, (cols x).toNat = sv (16 * g + (x 0).val) + d) (x : S16.Idx) :
    loadIdx ((gb.access (.whole S128x128)).read (Elt F) f) ![rows, cols] hw x = B (16 * g + (x 0).val) (sv (16 * g + (x 0).val) + d) := by
  show gb.view.read (Elt F) f ((Rect.whole S128x128).emb (idxAt ![rows, cols] hw x)) = _
  rw [Rect.emb_whole_apply, hB]
  show B (rows x).toNat (cols x).toNat = _
  rw [hrows, hc]

include hB hg hsv hrows hsub in
/-- The spreading steps from feature `d` on. -/
theorem wp_exSteps (hCT : ∀ d r, d < 16 → r < 16 → CT d (co + r) = B (16 * g + r) (sv (16 * g + r) + d)) {Q : Unit → sProp 𝕄} :
    ∀ (n d : ℕ) (hd : d + n = 16),
      iprop(Held dv i gb q f ∗ Holds dv i ct (CtOk CT co d) ∗ ((Held dv i gb q f ∗ Holds dv i ct (CtOk CT co 16)) -∗ Q ()))
        ⊢ Wp dv i (exSteps i gb ct rows sub co hco n d hd) Q
  | 0, d, hd => by
    obtain rfl : d = 16 := by omega
    change iprop(_) ⊢ wp frame (wpE defs₀ 𝒱₀ (thr dv i) none) Set.univ (pure ⟨⟩) Q
    rw [wp_pure]
    iintro ⟨Hg, Hc, HQ⟩
    imodintro
    iapply HQ
    isplitl [Hg]
    · iexact Hg
    · iexact Hc
  | n + 1, d, hd => by
    have hd16 : d < 16 := by omega
    obtain ⟨hw, hc⟩ := inBuf_of hg hsv hrows hsub hd16
    iintro ⟨Hg, ⟨%fc, %hfc, Hc⟩, HQ⟩
    iapply (wp_assume (defs := defs₀ (F := F)) 𝒱₀ (thr dv i) none Set.univ hw)
    iapply (SparseCore.wp_vectorLoadIdx (defs := defs₀ (F := F)) 𝒱₀ (thr dv i) none Set.univ (base := gb) (h := hw) (hl := View.loads_vmem h_S128x128) (q := q) (f := f) (Finset.subset_univ _)) $$ Hg
    iintro Hg
    iapply (wp_load_rect (defs := defs₀ (F := F)) 𝒱₀ (thr dv i) none Set.univ (m := ct) (r := Rect.unit (s := S16x512) ![d, co] S1x16.size (ctInb hd16 hco)) (hl := View.loadsAt_vmem h_S1x16) (q := fullShare) (f := fc) (Finset.subset_univ _)) $$ Hc
    iintro Hc
    iapply (wp_store (defs := defs₀ (F := F)) 𝒱₀ (thr dv i) none Set.univ (m := ct) (r := Rect.unit (s := S16x512) ![d, co] S1x16.size (ctInb hd16 hco)) (hx := View.stores_vmem_bits_univ h_S1x16 rfl) (hm := .inl rfl) (f := fc) (Finset.subset_univ _)) $$ Hc
    iintro Hc
    iapply (wp_exSteps hCT n (d + 1) (by omega))
    isplitl [Hg]
    · iexact Hg
    isplitl [Hc]
    · iexists _
      isplitr [Hc]
      swap
      · iexact Hc
      · ipureintro
        refine ctOk_step ct hd16 hco fc _ (fun r => ?_) hfc
        rw [lanes_row, lanes_read dv i gb hB hrows hw hc, hCT d r.val hd16 r.isLt]
    · iexact HQ

include hB hg hsv hrows hsub in
/-- The accumulating steps from feature `d` on: the lanes' sums `acc` after `d` features become `acc` after sixteen. -/
theorem wp_dotSteps {fc : Buf (Elt F) (ct.view.loc (thr dv i))}
    (hfc : ∀ j : S16x512.Idx, ct.view.read (Elt F) fc j = CT (j 0).val (j 1).val) {k : FVec F S16 .f32 → TProg F i Unit} {Q : Unit → sProp 𝕄}
    {A : ℕ → ℕ → F .f32} (hA : ∀ d r, d < 16 → r < 16 → A r (d + 1) = FloatOps.addf (A r d) (FloatOps.mulf (B (16 * g + r) (sv (16 * g + r) + d)) (CT d (co + r)))) :
    ∀ (n d : ℕ) (hd : d + n = 16) (acc : FVec F S16 .f32) (_ : ∀ x, acc x = A (x 0).val d),
      iprop(Held dv i gb q f ∗ Held dv i ct fullShare fc ∗ ((Held dv i gb q f ∗ Held dv i ct fullShare fc) -∗ ∀ acc, ⌜∀ x, acc x = A (x 0).val 16⌝ -∗ Wp dv i (k acc) Q))
        ⊢ Wp dv i (dotSteps i gb ct rows sub co hco k n d hd acc) Q
  | 0, d, hd, acc, hacc => by
    obtain rfl : d = 16 := by omega
    change iprop(_) ⊢ Wp dv i (k acc) Q
    iintro ⟨Hg, Hc, HQ⟩
    iapply HQ $$ [Hg Hc] %acc
    · isplitl [Hg]
      · iexact Hg
      · iexact Hc
    · ipureintro; exact hacc
  | n + 1, d, hd, acc, hacc => by
    have hd16 : d < 16 := by omega
    obtain ⟨hw, hc⟩ := inBuf_of hg hsv hrows hsub hd16
    iintro ⟨Hg, Hc, HQ⟩
    iapply (wp_assume (defs := defs₀ (F := F)) 𝒱₀ (thr dv i) none Set.univ hw)
    iapply (SparseCore.wp_vectorLoadIdx (defs := defs₀ (F := F)) 𝒱₀ (thr dv i) none Set.univ (base := gb) (h := hw) (hl := View.loads_vmem h_S128x128) (q := q) (f := f) (Finset.subset_univ _)) $$ Hg
    iintro Hg
    iapply (wp_load_rect (defs := defs₀ (F := F)) 𝒱₀ (thr dv i) none Set.univ (m := ct) (r := Rect.unit (s := S16x512) ![d, co] S1x16.size (ctInb hd16 hco)) (hl := View.loadsAt_vmem h_S1x16) (q := fullShare) (f := fc) (Finset.subset_univ _)) $$ Hc
    iintro Hc
    iapply (wp_dotSteps hfc hA n (d + 1) (by omega) _ (fun x => ?_))
    · rw [hA d (x 0).val hd16 (x 0).isLt, ← hacc x]
      show FloatOps.addf (acc x) (FloatOps.mulf _ _) = _
      rw [lanes_read dv i gb hB hrows hw hc, row_lanes,
        window_read ct ![d, co] (ctInb hd16 hco) fc (ix2 0 (x 0)) (ix2 ⟨d, hd16⟩ ⟨co + (x 0).val, by have : (x 0).val < 16 := (x 0).isLt; omega⟩) rfl rfl, hfc]
    · isplitl [Hg]
      · iexact Hg
      isplitl [Hc]
      · iexact Hc
      · iexact HQ

end Steps

/-- What is stored of one sum. -/
def fin1 (neg : Bool) (a : F .f32) : F .f32 :=
  match neg with
  | true => FloatOps.subf (Scalar.ofBits .f32 0x00000000#32 : F .f32) a
  | false => a

/-- Lane by lane, `fin` is `fin1`. -/
theorem fin_apply (neg : Bool) (acc : FVec F S16 .f32) (x : S16.Idx) : fin neg acc x = fin1 neg (acc x) := by
  cases neg <;> rfl

/-- A dot product of sixteen features, in the order in which it is accumulated. -/
def accF (n c : ℕ → F .f32) : ℕ → F .f32
  | 0 => Scalar.ofBits .f32 0x00000000#32
  | d + 1 => FloatOps.addf (accF n c d) (FloatOps.mulf (n d) (c d))

section Trips

variable (dv : Dev nD) (i : grid0.Coords) (gb : Memref sig .scVector .vmem S128x128 .f32) (sb : Memref sig .scVector .vmem S48x128 .i32)
  (ct : Memref sig .scVector .vmem S16x512 .f32) (xb : Memref sig .scVector .vmem S44x128 .f32)

variable {q qs : PosShare TreeShare} {f : Buf (Elt F) (gb.view.loc (thr dv i))} {B : ℕ → ℕ → F .f32}
  (hB : ∀ j : S128x128.Idx, gb.view.read (Elt F) f j = B (j 0).val (j 1).val)
  {fs : Buf (Elt F) (sb.view.loc (thr dv i))} {Sb : ℕ → ℕ → ℕ} (hS : ∀ j : S48x128.Idx, (sb.view.read (Elt F) fs j : BitVec 32).toNat = Sb (j 0).val (j 1).val)
  (hS112 : ∀ r n, Sb r n ≤ 112)
  {rows : IVec S16 32} {g : ℕ} (hg : g < 8) (hrows : ∀ x, (rows x).toNat = 16 * g + (x 0).val)
  {sr : ℕ} (hsr : sr < 48) {so : Fin 2 → ℕ} (hso : ∀ a, so a + S1x16.size a ≤ S48x128.size a) (hs0 : so 0 = sr) (hs1 : so 1 = 16 * g)
  {co : ℕ} (hco : co + 16 ≤ 512) {CT : ℕ → ℕ → F .f32}

include hS hg hsr hs0 hs1 in
/-- The lanes of the offset list that a trip loads. -/
theorem sub_read (x : S16.Idx) :
    (shapeCast S16 ((sb.access (Rect.unit (s := S48x128) so S1x16.size hso)).read (Elt F) fs) shapeCasts_S1x16_S16 x : BitVec 32).toNat = Sb sr (16 * g + (x 0).val) := by
  have hx : (x 0).val < 16 := (x 0).isLt
  rw [row_lanes, window_read sb so hso fs (ix2 0 (x 0)) (ix2 ⟨sr, hsr⟩ ⟨16 * g + (x 0).val, by omega⟩) hs0.symm (by show 16 * g + (x 0).val = so 1 + (x 0).val; omega), hS]

include hB hS hS112 hg hrows hsr hs0 hs1 in
/-- A spreading trip fills sixteen columns of the centre table. -/
theorem wp_exTrip (hCT : ∀ d r, d < 16 → r < 16 → CT d (co + r) = B (16 * g + r) (Sb sr (16 * g + r) + d)) {Q : Unit → sProp 𝕄} :
    iprop(Held dv i gb q f ∗ Held dv i sb qs fs ∗ Holds dv i ct (CtOk CT co 0)
        ∗ ((Held dv i gb q f ∗ Held dv i sb qs fs ∗ Holds dv i ct (CtOk CT (co + 16) 0)) -∗ Q ()))
      ⊢ Wp dv i (exTrip i gb sb ct rows so hso co hco) Q := by
  iintro ⟨Hg, Hs, Hc, HQ⟩
  iapply (wp_load_rect (defs := defs₀ (F := F)) 𝒱₀ (thr dv i) none Set.univ (m := sb) (r := Rect.unit (s := S48x128) so S1x16.size hso) (hl := View.loadsAt_vmem h_S1x16) (q := qs) (f := fs) (Finset.subset_univ _)) $$ Hs
  iintro Hs
  iapply (wp_exSteps dv i gb ct hB hg (hS112 sr) hrows (sub_read dv i sb hS hg hsr hso hs0 hs1) hco hCT 16 0 rfl)
  isplitl [Hg]
  · iexact Hg
  isplitl [Hc]
  · iexact Hc
  iintro ⟨Hg, ⟨%fc, %hfc, Hc⟩⟩
  iapply HQ
  isplitl [Hg]
  · iexact Hg
  isplitl [Hs]
  · iexact Hs
  iexists fc
  isplitr [Hc]
  · ipureintro
    intro j hj
    exact hfc j (by have : (j 0).val < 16 := (j 0).isLt; omega)
  · iexact Hc

include hB hS hS112 hg hrows hsr hs0 hs1 in
/-- An accumulating trip stores sixteen products. -/
theorem wp_dotTrip {fc : Buf (Elt F) (ct.view.loc (thr dv i))} (hfc : ∀ j : S16x512.Idx, ct.view.read (Elt F) fc j = CT (j 0).val (j 1).val)
    (neg : Bool) {xr : ℕ} {xo : Fin 2 → ℕ} (hxo : ∀ a, xo a + S1x16.size a ≤ S44x128.size a) (hx0 : xo 0 = xr) (hx1 : xo 1 = 16 * g)
    {X : ℕ → ℕ → F .f32}
    (hX : ∀ r, r < 16 → X xr (16 * g + r) = fin1 neg (accF (fun d => B (16 * g + r) (Sb sr (16 * g + r) + d)) (fun d => CT d (co + r)) 16))
    {Q : Unit → sProp 𝕄} :
    iprop(Held dv i gb q f ∗ Held dv i sb qs fs ∗ Held dv i ct fullShare fc ∗ Holds dv i xb (XOk X (xr * 128 + 16 * g))
        ∗ ((Held dv i gb q f ∗ Held dv i sb qs fs ∗ Held dv i ct fullShare fc ∗ Holds dv i xb (XOk X (xr * 128 + 16 * (g + 1)))) -∗ Q ()))
      ⊢ Wp dv i (dotTrip i neg gb sb ct xb rows so hso co hco xo hxo) Q := by
  iintro ⟨Hg, Hs, Hc, ⟨%fx, %hfx, Hx⟩, HQ⟩
  iapply (wp_load_rect (defs := defs₀ (F := F)) 𝒱₀ (thr dv i) none Set.univ (m := sb) (r := Rect.unit (s := S48x128) so S1x16.size hso) (hl := View.loadsAt_vmem h_S1x16) (q := qs) (f := fs) (Finset.subset_univ _)) $$ Hs
  iintro Hs
  iapply (wp_dotSteps dv i gb ct hB hg (hS112 sr) hrows (sub_read dv i sb hS hg hsr hso hs0 hs1) hco hfc
    (A := fun r d => accF (fun d => B (16 * g + r) (Sb sr (16 * g + r) + d)) (fun d => CT d (co + r)) d) (fun _ _ _ _ => rfl) 16 0 rfl zeros (fun _ => rfl))
  isplitl [Hg]
  · iexact Hg
  isplitl [Hc]
  · iexact Hc
  iintro ⟨Hg, Hc⟩ %acc %hacc
  iapply (wp_load_rect (defs := defs₀ (F := F)) 𝒱₀ (thr dv i) none Set.univ (m := xb) (r := Rect.unit (s := S44x128) xo S1x16.size hxo) (hl := View.loadsAt_vmem h_S1x16) (q := fullShare) (f := fx) (Finset.subset_univ _)) $$ Hx
  iintro Hx
  iapply (wp_store (defs := defs₀ (F := F)) 𝒱₀ (thr dv i) none Set.univ (m := xb) (r := Rect.unit (s := S44x128) xo S1x16.size hxo) (hx := View.stores_vmem_bits_univ h_S1x16 rfl) (hm := .inl rfl) (f := fx) (Finset.subset_univ _)) $$ Hx
  iintro Hx
  iapply (wp_done dv i)
  iapply HQ
  isplitl [Hg]
  · iexact Hg
  isplitl [Hs]
  · iexact Hs
  isplitl [Hc]
  · iexact Hc
  iexists _
  isplitr [Hx]
  swap
  · iexact Hx
  · ipureintro
    refine xOk_step xb hg hxo hx0 hx1 fx _ (fun r => ?_) hfx
    rw [lanes_row, fin_apply, hacc, hX r.val r.isLt]

end Trips

end Cert.KernelIdeal.Sc

end
-- ==== Proof.Gather.lean ====
/- The indirect gathers: the issue of one and the wait for it, at the value it brings. -/
module

public import proofs.«01_k».proof.Proof.TripWp

@[expose] public section

noncomputable section

namespace Cert.KernelIdeal.Sc

open Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- The row of the list at which a gather's row numbers lie. -/
abbrev listRow (lb : Memref sig .scVector .vmem S48x128 .i32) (o : Fin 2 → ℕ) (ho : ∀ a, o a + S1x128.size a ≤ S48x128.size a) :
    Memref sig .scVector .vmem S128 .i32 :=
  (lb.slice (Rect.unit (s := S48x128) o S1x128.size ho) (fun _ => rfl)).squeeze S128 squeezes_S1x128_S128

/-- The table a gather reads, as the program names it. -/
abbrev tableAll (tb : Memref sig .scVector .hbm S125000x128 .f32) : Memref sig .scVector .hbm S125000x128 .f32 :=
  tb.slice (Rect.unit (s := S125000x128) ![0, 0] S125000x128.size inb_S125000x128_S125000x128_0_0) (fun _ => rfl)

/-- The issue of a gather. -/
def issue (i : grid0.Coords) (tb : Memref sig .scVector .hbm S125000x128 .f32) (gb : Memref sig .scVector .vmem S128x128 .f32)
    (lb : Memref sig .scVector .vmem S48x128 .i32) (sm : DmaSems sig S_) (o : Fin 2 → ℕ) (ho : ∀ a, o a + S1x128.size a ≤ S48x128.size a) : TProg F i PUnit :=
  SparseCore.enqueueIndirectGather rfl (tableAll tb) gb gathers_S125000x128_S128x128 (listRow lb o ho) rfl sm.sem (View.wordExact_bits rfl) rfl (Or.inl rfl)

/-- The wait for a gather. -/
def await (i : grid0.Coords) (tb : Memref sig .scVector .hbm S125000x128 .f32) (gb : Memref sig .scVector .vmem S128x128 .f32)
    (hgb : gb.IsWhole) (sm : DmaSems sig S_) : TProg F i PUnit :=
  SparseCore.waitIndirectGather sm.sem (tableAll tb) gb (View.wordExact_bits rfl) hgb.wordExact

/-- What a wait on the cell `sm` of amount `N` brings: `D`. -/
def Pend (dv : Dev nD) (i : grid0.Coords) (sm : DmaSems sig S_) (N : ℕ) (Dv : sProp 𝕄) : sProp 𝕄 :=
  iprop(∃ D', Transfers.Flight countersEmb (thr dv i) (.dma sm.sem) (default : HIx 1) N D' ∗ (D' -∗ Dv))

/-- The thread's debts and waits, of which it has made some more without a level, and its leave to wait. -/
def Ow (dv : Dev nD) (i : grid0.Coords) (O : CellTallies nD τ sig (HIx 1)) (W : Waits sig (HIx 1)) : sProp 𝕄 :=
  iprop(Transfers.MayWaits (thr dv i) (default : HIx 1) O ∗ ∃ W', ⌜∀ p ∈ W', p ∈ W ∨ p.2 = none⌝ ∗ owes (thr dv i) O W')

section

variable (dv : Dev nD) (i : grid0.Coords) (tb : Memref sig .scVector .hbm S125000x128 .f32) (gb : Memref sig .scVector .vmem S128x128 .f32)
  (hgb : gb.IsWhole) (lb : Memref sig .scVector .vmem S48x128 .i32) (sm : DmaSems sig S_)

/-- The row number that entry `n` of the list's row names. -/
theorem listRow_read (o : Fin 2 → ℕ) (ho : ∀ a, o a + S1x128.size a ≤ S48x128.size a) {r : ℕ} (hr : r < 48) (h0 : o 0 = r) (h1 : o 1 = 0)
    (f : lb.view.ty.Contents (Elt F)) (x : S128.Idx) :
    (listRow lb o ho).view.read (Elt F) f x = lb.view.read (Elt F) f (ix2 ⟨r, hr⟩ (x 0)) := by
  rw [Memref.read_squeeze_slice lb _ (fun _ => rfl) squeezes_S1x128_S128 (show S1x128.ShapeCasts S128 by decide),
    shapeCast_apply _ _ x (ix2 (n0 := 1) (n1 := 128) 0 (x 0)) (by
      rw [Shape.rowMajor_val_two, Shape.rowMajor_val_one]; show 0 * 128 + (x 0).val = (x 0).val; omega)]
  show lb.view.read (Elt F) f ((Rect.unit (s := S48x128) o S1x128.size ho).emb (ix2 0 (x 0))) = _
  congr 1
  funext c
  fin_cases c
  · apply Fin.ext; rw [Rect.emb_apply]; show o 0 + 1 * 0 = r; omega
  · apply Fin.ext; rw [Rect.emb_apply]; show o 1 + 1 * (x 0).val = (x 0).val; omega

variable {q ql : PosShare TreeShare} {ft : Buf (Elt F) (tb.view.loc (thr dv i))} {fl : Buf (Elt F) (lb.view.loc (thr dv i))}
  {Tab : ℕ → ℕ → F .f32} (hT : ∀ j : S125000x128.Idx, tb.view.read (Elt F) ft j = Tab (j 0).val (j 1).val)
  {Lb : ℕ → ℕ → ℕ} (hL : ∀ j : S48x128.Idx, (lb.view.read (Elt F) fl j : BitVec 32).toNat = Lb (j 0).val (j 1).val)
  (hLt : ∀ r n, Lb r n < 125000)

include hT hL in
/-- What a gather puts at row `n`, lane `d` of its buffer: lane `d` of the table's row that entry `n` names. -/
theorem payload_read (o : Fin 2 → ℕ) (ho : ∀ a, o a + S1x128.size a ≤ S48x128.size a) {r : ℕ} (hr : r < 48) (h0 : o 0 = r) (h1 : o 1 = 0)
    (hin : ∀ x, ((listRow lb o ho).view.read (Elt F) fl x : BitVec 32).toNat < S125000x128.size gathers_S125000x128_S128x128.axis) (j : S128x128.Idx) :
    SparseCore.gatherPayload gathers_S125000x128_S128x128 ((tableAll tb).view.read (Elt F) ft)
      (SparseCore.rows ((listRow lb o ho).view.read (Elt F) fl) rfl hin) j = Tab (Lb r (j 0).val) (j 1).val := by
  have hj : (j 0).val < 128 := (j 0).isLt
  show tb.view.read (Elt F) ft ((Rect.unit (s := S125000x128) ![0, 0] S125000x128.size inb_S125000x128_S125000x128_0_0).emb
    (gathers_S125000x128_S128x128.idx (SparseCore.rows ((listRow lb o ho).view.read (Elt F) fl) rfl hin) j)) = _
  rw [hT]
  have e0 : (((Rect.unit (s := S125000x128) ![0, 0] S125000x128.size inb_S125000x128_S125000x128_0_0).emb
      (gathers_S125000x128_S128x128.idx (SparseCore.rows ((listRow lb o ho).view.read (Elt F) fl) rfl hin) j)) 0).val = Lb r (j 0).val := by
    rw [Rect.emb_apply]
    show 0 + 1 * (gathers_S125000x128_S128x128.idx _ j gathers_S125000x128_S128x128.axis).val = _
    rw [Shape.Gathers.idx_axis]
    show 0 + 1 * ((listRow lb o ho).view.read (Elt F) fl _ : BitVec 32).toNat = _
    rw [listRow_read lb o ho hr h0 h1, hL]
    have hx : ((S128.rowMajor.symm (Fin.cast (rfl : S128.numel = S128x128.size gathers_S125000x128_S128x128.axis').symm (j gathers_S125000x128_S128x128.axis'))) 0).val = (j 0).val := by
      have := Shape.rowMajor_val_one (d := ![128]) (S128.rowMajor.symm (Fin.cast (rfl : S128.numel = S128x128.size gathers_S125000x128_S128x128.axis').symm (j gathers_S125000x128_S128x128.axis')))
      rw [Equiv.apply_symm_apply] at this
      exact this.symm
    show 0 + 1 * Lb r _ = _
    rw [show ∀ a b : ℕ, a = b → 0 + 1 * Lb r a = Lb r b from fun a b h => by subst h; omega]
    exact hx
  have e1 : (((Rect.unit (s := S125000x128) ![0, 0] S125000x128.size inb_S125000x128_S125000x128_0_0).emb
      (gathers_S125000x128_S128x128.idx (SparseCore.rows ((listRow lb o ho).view.read (Elt F) fl) rfl hin) j)) 1).val = (j 1).val := by
    rw [Rect.emb_apply]
    show 0 + 1 * (gathers_S125000x128_S128x128.idx _ j 1).val = _
    rw [Shape.Gathers.idx_of_ne _ _ _ _ (by decide)]
    show 0 + 1 * (j 1).val = _
    omega
  rw [e0, e1]

/-- A gathered buffer at the value that row `r` of the list brings from the table. -/
abbrev Got (Tab : ℕ → ℕ → F .f32) (Lb : ℕ → ℕ → ℕ) (r : ℕ) (v : S128x128.Idx → Elt F .f32) : Prop :=
  ∀ j : S128x128.Idx, v j = Tab (Lb r (j 0).val) (j 1).val

include hT hL hLt hgb in
/-- The issue of a gather: from the table's share, the list's share, the buffer and its cell to the gather pending. -/
theorem wp_issue (hN : ∀ h : S125000x128.Gathers 0 S128x128, ∑ j, (gb.slice (S128x128.rowRect h.axis' j) (S128x128.stride_rowRect h.axis' j)).view.dmaCredit = gb.view.dmaCredit)
    (o : Fin 2 → ℕ) (ho : ∀ a, o a + S1x128.size a ≤ S48x128.size a) {r : ℕ} (hr : r < 48) (h0 : o 0 = r) (h1 : o 1 = 0)
    {β : Type} {k : PUnit → TProg F i β} {Q : β → sProp 𝕄} :
    iprop(Held dv i tb q ft ∗ Held dv i lb ql fl ∗ Holds dv i gb (fun _ => True) ∗ semVal (thr dv i, SemLoc.dma sm.sem) 0)
      ⊢ iprop((Pend dv i sm gb.view.dmaCredit iprop(Held dv i tb q ft ∗ Held dv i lb ql fl ∗ Holds dv i gb (Got Tab Lb r)) -∗ Wp dv i (k ⟨⟩) Q)
          -∗ Wp dv i (issue i tb gb lb sm o ho >>= k) Q) := by
  have hin : ∀ x, ((listRow lb o ho).view.read (Elt F) fl x : BitVec 32).toNat < S125000x128.size gathers_S125000x128_S128x128.axis := fun x => by
    rw [listRow_read lb o ho hr h0 h1, hL]; exact hLt _ _
  have hset : gb.view.set = Finset.univ := hgb.set_eq_univ
  unfold Pend
  iintro ⟨Ht, Hl, ⟨%fg, -, Hg⟩, Hv⟩ Hk
  ihave Ht' := (pointsTo_split_subset (q := q) (f := ft) (S := Finset.univ) (Finset.subset_univ (tableAll tb).view.set)).1 $$ Ht
  icases Ht' with ⟨Ht, Htr⟩
  ihave Hl' := (pointsTo_split_subset (q := ql) (f := fl) (S := Finset.univ) (Finset.subset_univ (listRow lb o ho).view.set)).1 $$ Hl
  icases Hl' with ⟨Hl, Hlr⟩
  ihave Hg' := (Entails.of_eq (show (Held dv i gb fullShare fg : sProp 𝕄) = gb.view.loc (thr dv i) ↦[gb.view.set]{fullShare} fg by rw [hset])) $$ Hg
  iapply (SparseCore.wp_indirectGatherLocal countersEmb 𝒱₀ (thr dv i) none (hg := gathers_S125000x128_S128x128) (defs := defs₀ (F := F)) (default : HIx 1)
      gb.view.dmaCredit (hN _) (by decide) hin) $$ [Ht Hg' Hl Hv]
  · isplitl [Ht]; · iexact Ht
    isplitl [Hg']; · iexact Hg'
    isplitl [Hl]; · iexact Hl
    iexact Hv
  iintro Hfl
  iapply Hk
  iexists _
  isplitl [Hfl]; · iexact Hfl
  iintro ⟨Hg, Ht, Hl⟩
  isplitl [Ht Htr]
  · iapply (pointsTo_split_subset (q := q) (f := ft) (S := Finset.univ) (Finset.subset_univ (tableAll tb).view.set)).2
    isplitl [Ht] <;> iassumption
  isplitl [Hl Hlr]
  · iapply (pointsTo_split_subset (q := ql) (f := fl) (S := Finset.univ) (Finset.subset_univ (listRow lb o ho).view.set)).2
    isplitl [Hl] <;> iassumption
  iexists _
  isplitr [Hg]
  swap
  · iapply (Entails.of_eq (show (gb.view.loc (thr dv i) ↦[gb.view.set]{fullShare} _ : sProp 𝕄) = Held dv i gb fullShare _ by rw [hset])) $$ Hg
  · ipureintro
    intro j
    rw [View.read_write_univ]
    exact payload_read dv i tb lb hT hL o ho hr h0 h1 hin j

/-- The wait for what is pending. -/
theorem wp_await {O : CellTallies nD τ sig (HIx 1)} {W : Waits sig (HIx 1)} {Dv : sProp 𝕄} {β : Type} {k : PUnit → TProg F i β} {Q : β → sProp 𝕄} :
    iprop(Pend dv i sm gb.view.dmaCredit Dv ∗ Ow dv i O W)
      ⊢ iprop(((Dv ∗ semVal (thr dv i, SemLoc.dma sm.sem) 0 ∗ Ow dv i O W) -∗ Wp dv i (k ⟨⟩) Q)
          -∗ Wp dv i (await i tb gb hgb sm >>= k) Q) := by
  unfold Pend Ow
  iintro ⟨⟨%D', Hfl, HD⟩, #Hmw, %W', %hW', HO⟩ Hk
  iapply (Transfers.wp_waitLocalO countersEmb 𝒱₀ (thr dv i) none (defs := defs₀ (F := F)) (default : HIx 1) (rfl : gb.view.dmaCredit = _)) $$ [Hfl HO]
  · isplitl [Hfl]; · iexact Hfl
    isplitl [HO]; · iexact HO
    iapply (Transfers.MayWaits.elim (SemLoc.dma sm.sem)) $$ Hmw
  iintro ⟨HD', Hv, HO⟩
  iapply Hk
  isplitl [HD HD']
  · iapply HD $$ HD'
  isplitl [Hv]; · iexact Hv
  isplitr; · iexact Hmw
  iexists _
  isplitr
  swap
  · iexact HO
  ipureintro
  intro p hp
  rcases Finset.mem_insert.mp hp with hp | hp
  · exact .inr (hp ▸ rfl)
  · exact hW' p hp

end

end Cert.KernelIdeal.Sc

end
-- ==== Proof.Chunks.lean ====
/- A chunk's eight trips as one step, and the state of a tile between its steps: two gather buffers, each free, awaiting a gather
   or filled by one; the centre table filled up to a column; the products stored up to a position. -/
module

public import proofs.«01_k».proof.Proof.Gather

@[expose] public section

noncomputable section

namespace Cert.KernelIdeal.Sc

open Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-! ### The words a trip computes -/

/-- Trip `k` works at lanes `16 * k` and on. -/
theorem laneAt_trip (k : ℕ) (hk : k < 8) : laneAt (trip k) = 16 * k :=
  (by decide : ∀ k : Fin 8, laneAt (trip k.val) = 16 * k.val) ⟨k, hk⟩

/-- Trip `k` of chunk `c` works at columns `128 * c + 16 * k` and on. -/
theorem colAt_trip (c : ℕ) (hc : c < 4) (k : ℕ) (hk : k < 8) : colAt (BitVec.ofNat 32 (128 * c)) (trip k) = 128 * c + 16 * k :=
  (by decide : ∀ (c : Fin 4) (k : Fin 8), colAt (BitVec.ofNat 32 (128 * c.val)) (trip k.val) = 128 * c.val + 16 * k.val) ⟨c, hc⟩ ⟨k, hk⟩

/-- The lane numbers. -/
def lanes : IVec S16 32 := iota .scVector S16 32 [0] iota_S16_d0_w32_scVector

/-- The rows of the gathered buffer at trip `k`. -/
theorem rowsAt_trip (k : ℕ) (hk : k < 8) (x : S16.Idx) : (rowsAt lanes (trip k) x).toNat = 16 * k + (x 0).val :=
  (by decide : ∀ (k : Fin 8) (x : S16.Idx), (rowsAt lanes (trip k.val) x).toNat = 16 * k.val + (x 0).val) ⟨k, hk⟩ x

/-- A window of the index lists' row `r` at trip `k` lies inside them. -/
theorem listInb {r k : ℕ} (hr : r < 48) (hk : k < 8) : ∀ a, (![r, laneAt (trip k)] : Fin 2 → ℕ) a + S1x16.size a ≤ S48x128.size a := by
  rw [laneAt_trip k hk]
  intro a
  fin_cases a
  · show r + 1 ≤ 48; omega
  · show 16 * k + 16 ≤ 128; omega

/-- A window of the products' row `r` at trip `k` lies inside them. -/
theorem prodInb {r k : ℕ} (hr : r < 44) (hk : k < 8) : ∀ a, (![r, laneAt (trip k)] : Fin 2 → ℕ) a + S1x16.size a ≤ S44x128.size a := by
  rw [laneAt_trip k hk]
  intro a
  fin_cases a
  · show r + 1 ≤ 44; omega
  · show 16 * k + 16 ≤ 128; omega

/-! ### Chunks -/

section Loops

variable (dv : Dev nD) (i : grid0.Coords) (gb : Memref sig .scVector .vmem S128x128 .f32) (sb : Memref sig .scVector .vmem S48x128 .i32)
  (ct : Memref sig .scVector .vmem S16x512 .f32) (xb : Memref sig .scVector .vmem S44x128 .f32)

variable {q qs : PosShare TreeShare} {f : Buf (Elt F) (gb.view.loc (thr dv i))} {B : ℕ → ℕ → F .f32}
  (hB : ∀ j : S128x128.Idx, gb.view.read (Elt F) f j = B (j 0).val (j 1).val)
  {fs : Buf (Elt F) (sb.view.loc (thr dv i))} {Sb : ℕ → ℕ → ℕ} (hS : ∀ j : S48x128.Idx, (sb.view.read (Elt F) fs j : BitVec 32).toNat = Sb (j 0).val (j 1).val)
  (hS112 : ∀ r n, Sb r n ≤ 112) {CT : ℕ → ℕ → F .f32}
  {lb ub st : BitVec 32} {hok : Scf.OK lb ub st} {body : Fin (Scf.trips lb ub st) → Unit → TProg F i Unit} (ht : Scf.trips lb ub st = 8)

include hB hS hS112 ht in
/-- The trips of a spreading chunk. -/
theorem wp_exLoop {c : ℕ} (hc : c < 4)
    (hbody : ∀ k h1 h2, body k () = exTrip i gb sb ct (rowsAt lanes (trip k.val)) ![c, laneAt (trip k.val)] h1 (colAt (BitVec.ofNat 32 (128 * c)) (trip k.val)) h2)
    (hCT : ∀ d n, d < 16 → n < 128 → CT d (128 * c + n) = B n (Sb c n + d))
    {β : Type} {k : Unit → TProg F i β} {Q : β → sProp 𝕄} :
    iprop(Held dv i gb q f ∗ Held dv i sb qs fs ∗ Holds dv i ct (CtOk CT (128 * c) 0))
      ⊢ iprop(((Held dv i gb q f ∗ Held dv i sb qs fs ∗ Holds dv i ct (CtOk CT (128 * (c + 1)) 0)) -∗ Wp dv i (k ()) Q)
          -∗ Wp dv i (Scf.for lb ub st hok () body >>= k) Q) := by
  iintro H Hk
  iapply (Scf.wp_for_bind frame (wpE defs₀ 𝒱₀ (thr dv i) none) Set.univ lb ub st hok () body
    (fun n _ => iprop(Held dv i gb q f ∗ Held dv i sb qs fs ∗ Holds dv i ct (CtOk CT (128 * c + 16 * n) 0))) (fun n _ => ?_)) $$ [H]
  · have hn : n.val < 8 := ht ▸ n.isLt
    have hcol : colAt (BitVec.ofNat 32 (128 * c)) (trip n.val) + 16 ≤ 512 := by rw [colAt_trip c hc n.val hn]; omega
    rw [hbody n (listInb (by omega) hn) (by rw [colAt_trip c hc n.val hn]; omega)]
    iintro ⟨Hg, Hs, Hc⟩
    iapply (wp_exTrip dv i gb sb ct (Sb := Sb) (CT := CT) (co := colAt (BitVec.ofNat 32 (128 * c)) (trip n.val)) hB hS hS112 hn (rowsAt_trip n.val hn) (show c < 48 by omega) (listInb (by omega) hn) rfl
      (laneAt_trip n.val hn) hcol (fun d r hd hr => by
        rw [colAt_trip c hc n.val hn, show 128 * c + 16 * n.val + r = 128 * c + (16 * n.val + r) by omega]; exact hCT d _ hd (by omega)))
    rw [colAt_trip c hc n.val hn]
    isplitl [Hg]
    · iexact Hg
    isplitl [Hs]
    · iexact Hs
    isplitl [Hc]
    · iexact Hc
    iintro H
    iexact H
  · iexact H
  iintro %u H
  rw [ht]
  iapply Hk
  iexact H

include hB hS hS112 ht in
/-- The trips of an accumulating chunk. -/
theorem wp_dotLoop {fc : Buf (Elt F) (ct.view.loc (thr dv i))} (hfc : ∀ j : S16x512.Idx, ct.view.read (Elt F) fc j = CT (j 0).val (j 1).val)
    (neg : Bool) {xr c : ℕ} (hc : c < 4) (hxr : xr < 44)
    (hbody : ∀ k h1 h2 h3, body k () = dotTrip i neg gb sb ct xb (rowsAt lanes (trip k.val)) ![xr + 4, laneAt (trip k.val)] h1
      (colAt (BitVec.ofNat 32 (128 * c)) (trip k.val)) h2 ![xr, laneAt (trip k.val)] h3)
    {X : ℕ → ℕ → F .f32}
    (hX : ∀ n, n < 128 → X xr n = fin1 neg (accF (fun d => B n (Sb (xr + 4) n + d)) (fun d => CT d (128 * c + n)) 16))
    {β : Type} {k : Unit → TProg F i β} {Q : β → sProp 𝕄} :
    iprop(Held dv i gb q f ∗ Held dv i sb qs fs ∗ Held dv i ct fullShare fc ∗ Holds dv i xb (XOk X (xr * 128)))
      ⊢ iprop(((Held dv i gb q f ∗ Held dv i sb qs fs ∗ Held dv i ct fullShare fc ∗ Holds dv i xb (XOk X ((xr + 1) * 128))) -∗ Wp dv i (k ()) Q)
          -∗ Wp dv i (Scf.for lb ub st hok () body >>= k) Q) := by
  iintro H Hk
  iapply (Scf.wp_for_bind frame (wpE defs₀ 𝒱₀ (thr dv i) none) Set.univ lb ub st hok () body
    (fun n _ => iprop(Held dv i gb q f ∗ Held dv i sb qs fs ∗ Held dv i ct fullShare fc ∗ Holds dv i xb (XOk X (xr * 128 + 16 * n)))) (fun n _ => ?_)) $$ [H]
  · have hn : n.val < 8 := ht ▸ n.isLt
    have hcol : colAt (BitVec.ofNat 32 (128 * c)) (trip n.val) + 16 ≤ 512 := by rw [colAt_trip c hc n.val hn]; omega
    rw [hbody n (listInb (by omega) hn) (by rw [colAt_trip c hc n.val hn]; omega) (prodInb hxr hn)]
    iintro ⟨Hg, Hs, Hc, Hx⟩
    iapply (wp_dotTrip dv i gb sb ct xb (Sb := Sb) (CT := CT) (co := colAt (BitVec.ofNat 32 (128 * c)) (trip n.val)) hB hS hS112 hn (rowsAt_trip n.val hn) (show xr + 4 < 48 by omega) (listInb (by omega) hn) rfl
      (laneAt_trip n.val hn) hcol hfc neg (xr := xr) (prodInb hxr hn) rfl (laneAt_trip n.val hn) (fun r hr => by
        rw [colAt_trip c hc n.val hn, show 128 * c + 16 * n.val + r = 128 * c + (16 * n.val + r) by omega]; exact hX _ (by omega)))
    isplitl [Hg]
    · iexact Hg
    isplitl [Hs]
    · iexact Hs
    isplitl [Hc]
    · iexact Hc
    isplitl [Hx]
    · iexact Hx
    iintro H
    iexact H
  · iexact H
  iintro %u H
  rw [ht, show xr * 128 + 16 * 8 = (xr + 1) * 128 by omega]
  iapply Hk
  iexact H

end Loops

end Cert.KernelIdeal.Sc

end
-- ==== Proof.Tile.lean ====
/- The state of a tile between its steps, and each kind of step as a rule over it. -/
module

public import proofs.«01_k».proof.Proof.Chunks

@[expose] public section

noncomputable section

namespace Cert.KernelIdeal.Sc

open Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- A tile's buffers and semaphores. -/
structure Mem where
  a2 : Memref sig .scVector .hbm S125000x128 .f32
  h2 : a2.IsWhole
  a3 : Memref sig .scVector .hbm S125000x128 .f32
  h3 : a3.IsWhole
  a4 : Memref sig .scVector .hbm S32x48x128 .i32
  h4 : a4.IsWhole
  a5 : Memref sig .scVector .hbm S32x48x128 .i32
  h5 : a5.IsWhole
  a6 : Memref sig .scVector .hbm S32x44x128 .f32
  h6 : a6.IsWhole
  a7 : Memref sig .scVector .vmem S48x128 .i32
  h7 : a7.IsWhole
  a8 : Memref sig .scVector .vmem S48x128 .i32
  h8 : a8.IsWhole
  a9 : Memref sig .scVector .vmem S128x128 .f32
  h9 : a9.IsWhole
  a10 : Memref sig .scVector .vmem S128x128 .f32
  h10 : a10.IsWhole
  a11 : Memref sig .scVector .vmem S16x512 .f32
  h11 : a11.IsWhole
  a12 : Memref sig .scVector .vmem S44x128 .f32
  h12 : a12.IsWhole
  a13 : DmaSems sig S_
  a14 : DmaSems sig S_
  r0 : DmaSems sig S_
  r1 : DmaSems sig S_
  r2 : DmaSems sig S_
  n9 : ∀ h : S125000x128.Gathers 0 S128x128, ∑ j, (a9.slice (S128x128.rowRect h.axis' j) (S128x128.stride_rowRect h.axis' j)).view.dmaCredit = a9.view.dmaCredit
  n10 : ∀ h : S125000x128.Gathers 0 S128x128, ∑ j, (a10.slice (S128x128.rowRect h.axis' j) (S128x128.stride_rowRect h.axis' j)).view.dmaCredit = a10.view.dmaCredit

/-- The gather buffer of side `s`, -/
abbrev Mem.gb (M : Mem) (s : Bool) : Memref sig .scVector .vmem S128x128 .f32 := match s with | false => M.a9 | true => M.a10
/-- which is whole, -/
theorem Mem.hgb (M : Mem) (s : Bool) : (M.gb s).IsWhole := match s with | false => M.h9 | true => M.h10
/-- whose rows' amounts sum to its own, -/
theorem Mem.ngb (M : Mem) (s : Bool) (h : S125000x128.Gathers 0 S128x128) :
    ∑ j, ((M.gb s).slice (S128x128.rowRect h.axis' j) (S128x128.stride_rowRect h.axis' j)).view.dmaCredit = (M.gb s).view.dmaCredit :=
  match s with | false => M.n9 h | true => M.n10 h
/-- its semaphore, -/
abbrev Mem.sm (M : Mem) (s : Bool) : DmaSems sig S_ := match s with | false => M.a13 | true => M.a14
/-- and the table that `t` names: the words' or the contexts'. -/
abbrev Mem.tb (M : Mem) (t : Bool) : Memref sig .scVector .hbm S125000x128 .f32 := match t with | false => M.a2 | true => M.a3

/-- The numbers a tile works on: the two tables, and the rows and offsets in its index lists. -/
structure Dat (F : FTy → Type) where
  Tab : Bool → ℕ → ℕ → F .f32
  Lb : ℕ → ℕ → ℕ
  Sb : ℕ → ℕ → ℕ
  hLb : ∀ r n, Lb r n < 125000
  hSb : ∀ r n, Sb r n ≤ 112

/-- Feature `d` of the looked-up row that entry `n` of the lists' row `r` names in the table `t`. -/
def Dat.emb (Z : Dat F) (t : Bool) (r n d : ℕ) : F .f32 := Z.Tab t (Z.Lb r n) (Z.Sb r n + d)

/-- The centre table: feature `d` of the tile's centre `j`. -/
def Dat.CT (Z : Dat F) (d j : ℕ) : F .f32 := Z.emb false (j / 128) (j % 128) d

/-- The products: row `xr` is of the tile's centre chunk `xr % 4` with the lists' row `xr + 4`; the first four rows are of the
context table, negated. -/
def Dat.X (Z : Dat F) (xr n : ℕ) : F .f32 :=
  fin1 (decide (xr < 4)) (accF (fun d => Z.emb (decide (xr < 4)) (xr + 4) n d) (fun d => Z.CT d (128 * (xr % 4) + n)) 16)

/-- What the tile's inputs hold, read as those numbers. -/
structure Cont (dv : Dev nD) (i : grid0.Coords) (M : Mem) (Z : Dat F) where
  ft : ∀ t : Bool, Buf (Elt F) ((M.tb t).view.loc (thr dv i))
  ht : ∀ (t : Bool) (j : S125000x128.Idx), (M.tb t).view.read (Elt F) (ft t) j = Z.Tab t (j 0).val (j 1).val
  f7 : Buf (Elt F) (M.a7.view.loc (thr dv i))
  h7 : ∀ j : S48x128.Idx, (M.a7.view.read (Elt F) f7 j : BitVec 32).toNat = Z.Lb (j 0).val (j 1).val
  f8 : Buf (Elt F) (M.a8.view.loc (thr dv i))
  h8 : ∀ j : S48x128.Idx, (M.a8.view.read (Elt F) f8 j : BitVec 32).toNat = Z.Sb (j 0).val (j 1).val

/-- A gather buffer is free, awaits the table `t`'s rows of the lists' row `r`, or holds them. -/
inductive Sl where
  | idle
  | pend (t : Bool) (r : ℕ)
  | full (t : Bool) (r : ℕ)

/-- Side `s`'s half of a share. -/
abbrev half (s : Bool) (q : PosShare TreeShare) : PosShare TreeShare := match s with | false => q.left | true => q.right

section

variable (dv : Dev nD) (i : grid0.Coords) (M : Mem) (Z : Dat F) (C : Cont dv i M Z) (q : PosShare TreeShare)

/-- What side `s` reads: its shares of the tables and of the row list. -/
def Src (s : Bool) : sProp 𝕄 :=
  iprop(Held dv i (M.tb false) (half s q) (C.ft false) ∗ Held dv i (M.tb true) (half s q) (C.ft true) ∗ Held dv i M.a7 (half s fullShare) C.f7)

/-- Side `s`'s buffer, free for a gather. -/
def Free (s : Bool) : sProp 𝕄 :=
  iprop(Src dv i M Z C q s ∗ Holds dv i (M.gb s) (fun _ => True) ∗ semVal (thr dv i, SemLoc.dma (M.sm s).sem) 0)

/-- Side `s`'s buffer in the state `x`. -/
def slotP (s : Bool) : Sl → sProp 𝕄
  | .idle => Free dv i M Z C q s
  | .pend t r => Pend dv i (M.sm s) (M.gb s).view.dmaCredit iprop(Src dv i M Z C q s ∗ Holds dv i (M.gb s) (Got (Z.Tab t) Z.Lb r))
  | .full t r => iprop(Src dv i M Z C q s ∗ Holds dv i (M.gb s) (Got (Z.Tab t) Z.Lb r) ∗ semVal (thr dv i, SemLoc.dma (M.sm s).sem) 0)

/-- A slot with a gather under way, spelt out. -/
theorem slot_pend (s t : Bool) (r : ℕ) : slotP dv i M Z C q s (.pend t r)
    = Pend dv i (M.sm s) (M.gb s).view.dmaCredit iprop(Src dv i M Z C q s ∗ Holds dv i (M.gb s) (Got (Z.Tab t) Z.Lb r)) := rfl

/-- A slot with its rows arrived, spelt out. -/
theorem slot_full (s t : Bool) (r : ℕ) : slotP dv i M Z C q s (.full t r)
    = iprop(Src dv i M Z C q s ∗ Holds dv i (M.gb s) (Got (Z.Tab t) Z.Lb r) ∗ semVal (thr dv i, SemLoc.dma (M.sm s).sem) 0) := rfl

/-- Nothing is on its way to the buffer. -/
def Sl.Ready : Sl → Prop
  | .pend _ _ => False
  | _ => True

/-- A buffer to which nothing is on its way is free. -/
theorem slot_free (s : Bool) (x : Sl) (hx : x.Ready) : slotP dv i M Z C q s x ⊢ Free dv i M Z C q s := by
  cases x with
  | idle => exact Entails.refl _
  | pend => exact hx.elim
  | full t r =>
    unfold slotP Free
    iintro ⟨H, ⟨%f, -, Hf⟩, Hv⟩
    isplitl [H]
    · iexact H
    isplitl [Hf]
    · iexists f
      isplitr
      · ipureintro; trivial
      · iexact Hf
    iexact Hv

/-- A pending gather, with what its end brings read differently. -/
theorem Pend_mono {sm : DmaSems sig S_} {N : ℕ} {A B R : sProp 𝕄} (h : iprop(A ∗ R) ⊢ B) : iprop(Pend dv i sm N A ∗ R) ⊢ Pend dv i sm N B := by
  unfold Pend
  iintro ⟨⟨%D', HF, HD⟩, HR⟩
  iexists D'
  isplitl [HF]
  · iexact HF
  iintro H
  iapply h
  isplitr [HR]
  · iapply HD; iexact H
  · iexact HR

/-- A gather is issued into a free buffer. -/
theorem slot_issue (s t : Bool) (o : Fin 2 → ℕ) (ho : ∀ a, o a + S1x128.size a ≤ S48x128.size a) {r : ℕ} (hr : r < 48) (h0 : o 0 = r) (h1 : o 1 = 0)
    {β : Type} {k : PUnit → TProg F i β} {Q : β → sProp 𝕄} :
    Free dv i M Z C q s
      ⊢ iprop((slotP dv i M Z C q s (.pend t r) -∗ Wp dv i (k ⟨⟩) Q) -∗ Wp dv i (issue i (M.tb t) (M.gb s) M.a7 (M.sm s) o ho >>= k) Q) := by
  unfold Free Src
  iintro ⟨⟨H2, H3, H7⟩, Hg, Hv⟩ Hk
  cases t
  · iapply (wp_issue dv i (M.tb false) (M.gb s) (M.hgb s) M.a7 (M.sm s) (C.ht false) C.h7 Z.hLb (M.ngb s) o ho hr h0 h1) $$ [H2 H7 Hg Hv]
    · isplitl [H2]
      · iexact H2
      isplitl [H7]
      · iexact H7
      isplitl [Hg]
      · iexact Hg
      iexact Hv
    iintro H
    iapply Hk
    unfold slotP Src
    iapply (Pend_mono dv i (R := Held dv i (M.tb true) (half s q) (C.ft true)) (A := iprop(Held dv i (M.tb false) (half s q) (C.ft false) ∗ Held dv i M.a7 (half s fullShare) C.f7
      ∗ Holds dv i (M.gb s) (Got (Z.Tab false) Z.Lb r))) ?_)
    · iintro ⟨⟨H2, H7, Hg⟩, H3⟩
      isplitr [Hg]
      · isplitl [H2]
        · iexact H2
        isplitl [H3]
        · iexact H3
        iexact H7
      iexact Hg
    isplitl [H]
    · iexact H
    iexact H3
  · iapply (wp_issue dv i (M.tb true) (M.gb s) (M.hgb s) M.a7 (M.sm s) (C.ht true) C.h7 Z.hLb (M.ngb s) o ho hr h0 h1) $$ [H3 H7 Hg Hv]
    · isplitl [H3]
      · iexact H3
      isplitl [H7]
      · iexact H7
      isplitl [Hg]
      · iexact Hg
      iexact Hv
    iintro H
    iapply Hk
    unfold slotP Src
    iapply (Pend_mono dv i (R := Held dv i (M.tb false) (half s q) (C.ft false)) (A := iprop(Held dv i (M.tb true) (half s q) (C.ft true) ∗ Held dv i M.a7 (half s fullShare) C.f7
      ∗ Holds dv i (M.gb s) (Got (Z.Tab true) Z.Lb r))) ?_)
    · iintro ⟨⟨H3, H7, Hg⟩, H2⟩
      isplitr [Hg]
      · isplitl [H2]
        · iexact H2
        isplitl [H3]
        · iexact H3
        iexact H7
      iexact Hg
    isplitl [H]
    · iexact H
    iexact H2

variable (O : CellTallies nD τ sig (HIx 1)) (W : Waits sig (HIx 1))

/-- The state of side `s` among the two sides'. -/
def sel : Bool → Sl × Sl → Sl
  | false, p => p.1
  | true, p => p.2

/-- The two sides' states, side `s`'s replaced. -/
def put : Bool → Sl → Sl × Sl → Sl × Sl
  | false, x, p => (x, p.2)
  | true, x, p => (p.1, x)

/-- The rest of a tile's state: the offsets, the centre table filled up to column `n`, the products stored up to position `m`. -/
def Rest (n m : ℕ) : sProp 𝕄 :=
  iprop(Held dv i M.a8 fullShare C.f8 ∗ Holds dv i M.a11 (CtOk Z.CT n 0) ∗ Holds dv i M.a12 (XOk Z.X m) ∗ Ow dv i O W)

/-- A tile's state. -/
def St (p : Sl × Sl) (n m : ℕ) : sProp 𝕄 :=
  iprop(slotP dv i M Z C q false p.1 ∗ slotP dv i M Z C q true p.2 ∗ Rest dv i M Z C O W n m)

/-- A tile's state, side `s` apart. -/
theorem St_sel (s : Bool) (p : Sl × Sl) (n m : ℕ) :
    St dv i M Z C q O W p n m ⊢ iprop(slotP dv i M Z C q s (sel s p) ∗ (slotP dv i M Z C q (!s) (sel (!s) p) ∗ Rest dv i M Z C O W n m)) := by
  cases s
  · unfold St; exact Entails.refl _
  · unfold St
    iintro ⟨H1, H2, H3⟩
    isplitl [H2]
    · iexact H2
    isplitl [H1]
    · iexact H1
    iexact H3

/-- A tile's state, of side `s` in its new state and the others. -/
theorem St_put (s : Bool) (x : Sl) (p : Sl × Sl) (n m : ℕ) :
    iprop(slotP dv i M Z C q s x ∗ (slotP dv i M Z C q (!s) (sel (!s) p) ∗ Rest dv i M Z C O W n m)) ⊢ St dv i M Z C q O W (put s x p) n m := by
  cases s
  · unfold St; exact Entails.refl _
  · unfold St
    iintro ⟨H2, H1, H3⟩
    isplitl [H1]
    · iexact H1
    isplitl [H2]
    · iexact H2
    iexact H3

variable {p : Sl × Sl} {n m : ℕ}

/-- A gather is issued. -/
theorem st_issue (s t : Bool) (o : Fin 2 → ℕ) (ho : ∀ a, o a + S1x128.size a ≤ S48x128.size a) (r : ℕ) (hr : r < 48) (h0 : o 0 = r) (h1 : o 1 = 0)
    (hs : (sel s p).Ready) {β : Type} {k : PUnit → TProg F i β} {Q : β → sProp 𝕄}
    (hk : St dv i M Z C q O W (put s (.pend t r) p) n m ⊢ Wp dv i (k ⟨⟩) Q) :
    St dv i M Z C q O W p n m ⊢ Wp dv i (issue i (M.tb t) (M.gb s) M.a7 (M.sm s) o ho >>= k) Q := by
  iintro H
  ihave H' := (St_sel dv i M Z C q O W s p n m) $$ H
  icases H' with ⟨Hs, HR⟩
  ihave Hf := (slot_free dv i M Z C q s _ hs) $$ Hs
  iapply (slot_issue dv i M Z C q s t o ho hr h0 h1) $$ Hf
  iintro Hs
  iapply hk
  iapply (St_put dv i M Z C q O W s _ p n m)
  isplitl [Hs]
  · iexact Hs
  iexact HR

/-- A gather is waited for. -/
theorem st_await (s : Bool) {t : Bool} {r : ℕ} (hs : sel s p = .pend t r) {β : Type} {k : PUnit → TProg F i β} {Q : β → sProp 𝕄}
    (hk : St dv i M Z C q O W (put s (.full t r) p) n m ⊢ Wp dv i (k ⟨⟩) Q) :
    St dv i M Z C q O W p n m ⊢ Wp dv i (await i M.a2 (M.gb s) (M.hgb s) (M.sm s) >>= k) Q := by
  iintro H
  ihave H' := (St_sel dv i M Z C q O W s p n m) $$ H
  rw [hs, slot_pend]
  unfold Rest
  icases H' with ⟨Hs, HR, H8, H11, H12, HO⟩
  iapply (wp_await dv i M.a2 (M.gb s) (M.hgb s) (M.sm s)) $$ [Hs HO]
  · isplitl [Hs]
    · iexact Hs
    iexact HO
  iintro ⟨⟨Hsrc, Hg⟩, Hv, HO⟩
  iapply hk
  iapply (St_put dv i M Z C q O W s (.full t r) p n m)
  rw [slot_full]
  unfold Rest
  isplitl [Hsrc Hg Hv]
  · isplitl [Hsrc]
    · iexact Hsrc
    isplitl [Hg]
    · iexact Hg
    iexact Hv
  isplitl [HR]
  · iexact HR
  isplitl [H8]
  · iexact H8
  isplitl [H11]
  · iexact H11
  isplitl [H12]
  · iexact H12
  iexact HO

variable {lb ub st : BitVec 32} {hok : Scf.OK lb ub st} {body : Fin (Scf.trips lb ub st) → Unit → TProg F i Unit}

/-- A chunk of centres is spread out. -/
theorem st_ex (s : Bool) (c : ℕ) (hs : sel s p = .full false c) (ht : Scf.trips lb ub st = 8) (hc : c < 4)
    (hbody : ∀ k h1 h2, body k () = exTrip i (M.gb s) M.a8 M.a11 (rowsAt lanes (trip k.val)) ![c, laneAt (trip k.val)] h1
      (colAt (BitVec.ofNat 32 (128 * c)) (trip k.val)) h2)
    {β : Type} {k : Unit → TProg F i β} {Q : β → sProp 𝕄}
    (hk : St dv i M Z C q O W p (128 * (c + 1)) m ⊢ Wp dv i (k ⟨⟩) Q) :
    St dv i M Z C q O W p (128 * c) m ⊢ Wp dv i (Scf.for lb ub st hok () body >>= k) Q := by
  have hp : put s (.full false c) p = p := by cases s <;> (rw [← hs]; rfl)
  have hput := fun n m => St_put dv i M Z C q O W s (.full false c) p n m
  simp only [hp, slot_full] at hput
  iintro H
  ihave H' := (St_sel dv i M Z C q O W s p _ m) $$ H
  rw [hs, slot_full]
  unfold Rest
  icases H' with ⟨⟨Hsrc, ⟨%fg, %hfg, Hg⟩, Hv⟩, HR, H8, H11, H12, HO⟩
  iapply (wp_exLoop dv i (M.gb s) M.a8 M.a11 hfg C.h8 Z.hSb (CT := Z.CT) ht hc hbody (fun d n hd hn => by
      unfold Dat.CT Dat.emb
      rw [show (128 * c + n) / 128 = c by omega, show (128 * c + n) % 128 = n by omega])) $$ [Hg H8 H11]
  · isplitl [Hg]
    · iexact Hg
    isplitl [H8]
    · iexact H8
    iexact H11
  iintro ⟨Hg, H8, H11⟩
  iapply hk
  iapply (hput _ _)
  unfold Rest
  isplitl [Hsrc Hg Hv]
  · isplitl [Hsrc]
    · iexact Hsrc
    isplitl [Hg]
    · iexists fg
      isplitr
      · ipureintro; exact hfg
      iexact Hg
    iexact Hv
  isplitl [HR]
  · iexact HR
  isplitl [H8]
  · iexact H8
  isplitl [H11]
  · iexact H11
  isplitl [H12]
  · iexact H12
  iexact HO

/-- A chunk's products are stored. -/
theorem st_dot (s : Bool) (xr : ℕ) (hs : sel s p = .full (decide (xr < 4)) (xr + 4)) (ht : Scf.trips lb ub st = 8) (hxr : xr < 44)
    (hbody : ∀ k h1 h2 h3, body k () = dotTrip i (decide (xr < 4)) (M.gb s) M.a8 M.a11 M.a12 (rowsAt lanes (trip k.val)) ![xr + 4, laneAt (trip k.val)] h1
      (colAt (BitVec.ofNat 32 (128 * (xr % 4))) (trip k.val)) h2 ![xr, laneAt (trip k.val)] h3)
    {β : Type} {k : Unit → TProg F i β} {Q : β → sProp 𝕄}
    (hk : St dv i M Z C q O W p 512 ((xr + 1) * 128) ⊢ Wp dv i (k ⟨⟩) Q) :
    St dv i M Z C q O W p 512 (xr * 128) ⊢ Wp dv i (Scf.for lb ub st hok () body >>= k) Q := by
  have hp : put s (.full (decide (xr < 4)) (xr + 4)) p = p := by cases s <;> (rw [← hs]; rfl)
  have hput := fun n m => St_put dv i M Z C q O W s (.full (decide (xr < 4)) (xr + 4)) p n m
  simp only [hp, slot_full] at hput
  iintro H
  ihave H' := (St_sel dv i M Z C q O W s p _ _) $$ H
  rw [hs, slot_full]
  unfold Rest
  icases H' with ⟨⟨Hsrc, ⟨%fg, %hfg, Hg⟩, Hv⟩, HR, H8, ⟨%fc, %hfc, H11⟩, H12, HO⟩
  iapply (wp_dotLoop dv i (M.gb s) M.a8 M.a11 M.a12 hfg C.h8 Z.hSb (CT := Z.CT) ht (fun j => hfc j (.inl (j 1).isLt)) (decide (xr < 4))
      (Nat.mod_lt _ (by omega)) hxr hbody (X := Z.X) (fun n hn => rfl)) $$ [Hg H8 H11 H12]
  · isplitl [Hg]
    · iexact Hg
    isplitl [H8]
    · iexact H8
    isplitl [H11]
    · iexact H11
    iexact H12
  iintro ⟨Hg, H8, H11, H12⟩
  iapply hk
  iapply (hput _ _)
  unfold Rest
  isplitl [Hsrc Hg Hv]
  · isplitl [Hsrc]
    · iexact Hsrc
    isplitl [Hg]
    · iexists fg
      isplitr
      · ipureintro; exact hfg
      iexact Hg
    iexact Hv
  isplitl [HR]
  · iexact HR
  isplitl [H8]
  · iexact H8
  isplitl [H11]
  · iexists fc
    isplitr
    · ipureintro; exact hfc
    iexact H11
  isplitl [H12]
  · iexact H12
  iexact HO

end

end Cert.KernelIdeal.Sc

end
-- ==== Proof.Parts.lean ====
/- A tile's program in its parts: from the two lists in place to the products stored. -/
module

public import proofs.«01_k».proof.Proof.Tile
public import proofs.«01_k».proof.Proof.Gen.KernelIdeal.Skeleton

@[expose] public section

noncomputable section

namespace Cert.KernelIdeal.Sc

open Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- A tile's program that has ended with the value `x`. -/
theorem wp_ret (dv : Dev nD) (i : grid0.Coords) {β : Type} {x : β} {Q : β → sProp 𝕄} : Q x ⊢ Wp dv i (pure x) Q := by
  change _ ⊢ wp frame (wpE defs₀ 𝒱₀ (thr dv i) none) Set.univ (pure x) Q
  rw [wp_pure]
  exact fupd_intro

section

variable (dv : Dev nD) (i : grid0.Coords) (M : Mem) (Z : Dat F) (C : Cont dv i M Z) (q : PosShare TreeShare)
  (O : CellTallies nD τ sig (HIx 1)) (W : Waits sig (HIx 1))

set_option maxRecDepth 65536 in
/-- The first three chunks of centres. -/
theorem part45 {Q : PUnit → sProp 𝕄} (hk : St dv i M Z C q O W (.full false 2, .pend false 3) 384 0 ⊢ Q ⟨⟩) :
    St dv i M Z C q O W (.pend false 0, .pend false 1) 0 0
      ⊢ Wp dv i (k0_part45 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes) Q := by
  rw [k0_part45_eq_skeleton]
  unfold k0_part45_skel
  refine st_await dv i M Z C q O W false rfl ?_
  refine st_ex dv i M Z C q O W false 0 rfl (by decide) (by omega) (fun _ _ _ => rfl) ?_
  refine st_issue dv i M Z C q O W false false ![2, 0] inb_S48x128_S1x128_2_0 2 (by omega) rfl rfl (by trivial) ?_
  refine st_await dv i M Z C q O W true rfl ?_
  refine st_ex dv i M Z C q O W true 1 rfl (by decide) (by omega) (fun _ _ _ => rfl) ?_
  refine st_issue dv i M Z C q O W true false ![3, 0] inb_S48x128_S1x128_3_0 3 (by omega) rfl rfl (by trivial) ?_
  refine st_await dv i M Z C q O W false rfl ?_
  refine st_ex dv i M Z C q O W false 2 rfl (by decide) (by omega) (fun _ _ _ => rfl) ?_
  exact hk.trans (wp_done dv i)

set_option maxRecDepth 65536 in
/-- The last chunk of centres and the first chunk of contexts. -/
theorem part46 {Q : (Σ' (_ : BitVec 32), BitVec 32) → sProp 𝕄} (hk : St dv i M Z C q O W (.pend true 6, .full true 5) 512 128 ⊢ Q ⟨0#32, 1#32⟩) :
    St dv i M Z C q O W (.full false 2, .pend false 3) 384 0
      ⊢ Wp dv i (k0_part46 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes) Q := by
  rw [k0_part46_eq_skeleton]
  unfold k0_part46_skel
  refine st_issue dv i M Z C q O W false true ![4, 0] inb_S48x128_S1x128_4_0 4 (by omega) rfl rfl (by trivial) ?_
  refine st_await dv i M Z C q O W true rfl ?_
  refine st_ex dv i M Z C q O W true 3 rfl (by decide) (by omega) (fun _ _ _ => rfl) ?_
  refine st_issue dv i M Z C q O W true true ![5, 0] inb_S48x128_S1x128_5_0 5 (by omega) rfl rfl (by trivial) ?_
  refine st_await dv i M Z C q O W false rfl ?_
  refine st_dot dv i M Z C q O W false 0 rfl (by decide) (by omega) (fun _ _ _ _ => rfl) ?_
  refine st_issue dv i M Z C q O W false true ![6, 0] inb_S48x128_S1x128_6_0 6 (by omega) rfl rfl (by trivial) ?_
  refine st_await dv i M Z C q O W true rfl ?_
  exact hk.trans (wp_ret dv i)

/-! ### The loop over the negatives' chunks, two to a trip -/

/-- Twenty trips. -/
theorem trips9 : k0_t9_loop.trips = 20 := by decide

/-- What trip `t`'s words are. -/
theorem words10 : ∀ t : Fin k0_t9_loop.trips,
    (Scalar.indexCast (Scalar.addi 8#32 (Scalar.addi 0#32 (Scalar.muli (Scf.iv 0#32 1#32 t.val) 2#32)))).toNat = 4 + 2 * t.val + 4
    ∧ Scalar.muli (Scalar.andi (Scalar.addi 0#32 (Scalar.muli (Scf.iv 0#32 1#32 t.val) 2#32)) 3#32) 128#32 = BitVec.ofNat 32 (128 * ((4 + 2 * t.val) % 4))
    ∧ (Scalar.indexCast (Scalar.addi 4#32 (Scalar.addi 0#32 (Scalar.muli (Scf.iv 0#32 1#32 t.val) 2#32)))).toNat = 4 + 2 * t.val := by decide

/-- What trip `t`'s words are, for its second chunk. -/
theorem words11 : ∀ t : Fin k0_t9_loop.trips,
    (Scalar.indexCast (Scalar.addi (Scalar.addi 8#32 (Scalar.addi 0#32 (Scalar.muli (Scf.iv 0#32 1#32 t.val) 2#32))) 1#32)).toNat = 5 + 2 * t.val + 4
    ∧ Scalar.muli (Scalar.andi (Scalar.addi (Scalar.addi 0#32 (Scalar.muli (Scf.iv 0#32 1#32 t.val) 2#32)) 1#32) 3#32) 128#32
        = BitVec.ofNat 32 (128 * ((5 + 2 * t.val) % 4))
    ∧ (Scalar.indexCast (Scalar.addi (Scalar.addi 4#32 (Scalar.addi 0#32 (Scalar.muli (Scf.iv 0#32 1#32 t.val) 2#32))) 1#32)).toNat = 5 + 2 * t.val := by
  decide

/-- Trip `t` issues the next trip's first gather unless it is the last. -/
theorem cond1_iff : ∀ t : Fin k0_t9_loop.trips, k0_cond1 t = 1#1 ↔ t.val < 19 := by decide
/-- Trip `t` issues the next trip's second gather unless it is the last. -/
theorem cond2_iff : ∀ t : Fin k0_t9_loop.trips, k0_cond2 t = 1#1 ↔ t.val < 19 := by decide
/-- The list row of the next trip's first gather. -/
theorem off160 : ∀ t : Fin k0_t9_loop.trips, k0_off160 t 0 = 8 + 2 * (t.val + 1) ∧ k0_off160 t 1 = 0 := by decide
/-- The list row of the next trip's second gather. -/
theorem off179 : ∀ t : Fin k0_t9_loop.trips, k0_off179 t 0 = 9 + 2 * (t.val + 1) ∧ k0_off179 t 1 = 0 := by decide

set_option maxRecDepth 65536 in
/-- A trip of a trip's first chunk. -/
theorem t10_eq (c0 c1 : BitVec 32) (t : Fin k0_t9_loop.trips) (a b d cb : BitVec 32) (x y : ℕ)
    (hx : (Scalar.indexCast a).toNat = x) (hcb : Scalar.muli b 128#32 = cb) (hy : (Scalar.indexCast d).toNat = y)
    (ha : a = Scalar.addi 8#32 (Scalar.addi 0#32 (Scalar.muli (Scf.iv 0#32 1#32 t.val) 2#32)))
    (hb : b = Scalar.andi (Scalar.addi 0#32 (Scalar.muli (Scf.iv 0#32 1#32 t.val) 2#32)) 3#32)
    (hd : d = Scalar.addi 4#32 (Scalar.addi 0#32 (Scalar.muli (Scf.iv 0#32 1#32 t.val) 2#32))) (k : Fin k0_t10_loop.trips) (h1) (h2) (h3) :
    k0_t10_body (F := F) i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes c0 c1 t a b d k ()
      = dotTrip i false M.a9 M.a8 M.a11 M.a12 (rowsAt lanes (trip k.val)) ![x, laneAt (trip k.val)] h1 (colAt cb (trip k.val)) h2 ![y, laneAt (trip k.val)] h3 := by
  subst ha hb hd hx hcb hy; rfl

set_option maxRecDepth 65536 in
/-- A trip of a trip's second chunk. -/
theorem t11_eq (c0 c1 : BitVec 32) (t : Fin k0_t9_loop.trips) (a b d cb : BitVec 32) (x y : ℕ)
    (hx : (Scalar.indexCast a).toNat = x) (hcb : Scalar.muli b 128#32 = cb) (hy : (Scalar.indexCast d).toNat = y)
    (ha : a = Scalar.addi (Scalar.addi 8#32 (Scalar.addi 0#32 (Scalar.muli (Scf.iv 0#32 1#32 t.val) 2#32))) 1#32)
    (hb : b = Scalar.andi (Scalar.addi (Scalar.addi 0#32 (Scalar.muli (Scf.iv 0#32 1#32 t.val) 2#32)) 1#32) 3#32)
    (hd : d = Scalar.addi (Scalar.addi 4#32 (Scalar.addi 0#32 (Scalar.muli (Scf.iv 0#32 1#32 t.val) 2#32))) 1#32) (k : Fin k0_t11_loop.trips) (h1) (h2) (h3) :
    k0_t11_body (F := F) i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes c0 c1 t a b d k ()
      = dotTrip i false M.a10 M.a8 M.a11 M.a12 (rowsAt lanes (trip k.val)) ![x, laneAt (trip k.val)] h1 (colAt cb (trip k.val)) h2 ![y, laneAt (trip k.val)] h3 := by
  subst ha hb hd hx hcb hy; rfl

/-- The two sides when trip `t` starts. -/
def sides (t : ℕ) : Sl × Sl := if t < 20 then (.pend false (8 + 2 * t), .pend false (9 + 2 * t)) else (.full false 46, .full false 47)

/-- Side 0 after its gather of trip `t` has been used and the next one issued. -/
def next (s : Bool) (t : ℕ) : Sl := if t < 19 then .pend false ((bif s then 9 else 8) + 2 * (t + 1)) else .full false ((bif s then 9 else 8) + 2 * t)

set_option maxRecDepth 65536 in
/-- A trip's two chunks. -/
theorem part43 (t : Fin k0_t9_loop.trips) {Q : (Σ' (_ : BitVec 32), BitVec 32) → sProp 𝕄}
    (hk : ∀ x, St dv i M Z C q O W (next false t.val, .full false (9 + 2 * t.val)) 512 ((5 + 2 * t.val + 1) * 128) ⊢ Q x) :
    St dv i M Z C q O W (.pend false (8 + 2 * t.val), .pend false (9 + 2 * t.val)) 512 ((4 + 2 * t.val) * 128)
      ⊢ Wp dv i (k0_part43 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes 0#32 1#32 t) Q := by
  have ht : t.val < 20 := trips9 ▸ t.isLt
  have n4 : decide (4 + 2 * t.val < 4) = false := decide_eq_false (by omega)
  have n5 : decide (5 + 2 * t.val < 4) = false := decide_eq_false (by omega)
  rw [k0_part43_eq_skeleton]
  unfold k0_part43_skel
  refine st_await dv i M Z C q O W false rfl ?_
  refine st_dot dv i M Z C q O W false (4 + 2 * t.val) (by rw [n4, show 4 + 2 * t.val + 4 = 8 + 2 * t.val by omega]; rfl) (by decide) (by omega)
    (fun k h1 h2 h3 => by
      rw [n4]
      exact t10_eq i M _ _ t _ _ _ _ _ _ (words10 t).1 (words10 t).2.1 (words10 t).2.2 rfl rfl rfl k h1 h2 h3) ?_
  have hend : St dv i M Z C q O W (next false t.val, .pend false (9 + 2 * t.val)) 512 ((5 + 2 * t.val) * 128)
      ⊢ Wp dv i (await i M.a2 M.a10 M.h10 M.a14 >>= fun _ =>
          Scf.Loop.for k0_t11_loop k0_t11_ok ⟨⟩ (k0_t11_body i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes 0#32 1#32 t
            (Scalar.addi (Scalar.addi 8#32 (Scalar.addi 0#32 (Scalar.muli (Scf.iv 0#32 1#32 t.val) 2#32))) 1#32)
            (Scalar.andi (Scalar.addi (Scalar.addi 0#32 (Scalar.muli (Scf.iv 0#32 1#32 t.val) 2#32)) 1#32) 3#32)
            (Scalar.addi (Scalar.addi 4#32 (Scalar.addi 0#32 (Scalar.muli (Scf.iv 0#32 1#32 t.val) 2#32))) 1#32))
            >>= fun _ => pure ⟨Scalar.addi 0#32 (Scalar.muli (Scf.iv 0#32 1#32 t.val) 2#32), 3#32⟩) Q := by
    refine st_await dv i M Z C q O W true rfl ?_
    refine st_dot dv i M Z C q O W true (5 + 2 * t.val) (by rw [n5, show 5 + 2 * t.val + 4 = 9 + 2 * t.val by omega]; rfl) (by decide) (by omega)
      (fun k h1 h2 h3 => by
        rw [n5]
        exact t11_eq i M _ _ t _ _ _ _ _ _ (words11 t).1 (words11 t).2.1 (words11 t).2.2 rfl rfl rfl k h1 h2 h3) ?_
    exact (hk _).trans (wp_ret dv i)
  by_cases hc : k0_cond1 t = 1#1
  · have hlt := (cond1_iff t).1 hc
    simp only [dif_pos hc, Prog.bind_assoc]
    refine st_issue dv i M Z C q O W false false (k0_off160 t) (k0_off160_inb t hc) (8 + 2 * (t.val + 1)) (by omega) (off160 t).1 (off160 t).2 (by trivial) ?_
    have e : put false (.pend false (8 + 2 * (t.val + 1))) (put false (.full false (8 + 2 * t.val)) (.pend false (8 + 2 * t.val), .pend false (9 + 2 * t.val)))
        = (next false t.val, .pend false (9 + 2 * t.val)) := by unfold next; rw [if_pos hlt]; rfl
    rw [e, show 4 + 2 * t.val + 1 = 5 + 2 * t.val by omega]
    exact hend
  · have hlt : ¬ t.val < 19 := fun h => hc ((cond1_iff t).2 h)
    simp only [dif_neg hc]
    have e : put false (.full false (8 + 2 * t.val)) (.pend false (8 + 2 * t.val), .pend false (9 + 2 * t.val))
        = (next false t.val, .pend false (9 + 2 * t.val)) := by unfold next; rw [if_neg hlt]; rfl
    rw [e, show 4 + 2 * t.val + 1 = 5 + 2 * t.val by omega]
    exact hend

/-- A trip of the loop over the negatives' chunks. -/
theorem trip9 (t : Fin k0_t9_loop.trips) :
    St dv i M Z C q O W (sides t.val) 512 ((4 + 2 * t.val) * 128)
      ⊢ Wp dv i (k0_t9_body i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes 0#32 1#32 t ()) (fun _ => St dv i M Z C q O W (sides (t.val + 1)) 512 ((4 + 2 * (t.val + 1)) * 128)) := by
  have ht : t.val < 20 := trips9 ▸ t.isLt
  unfold k0_t9_body
  rw [show sides t.val = (.pend false (8 + 2 * t.val), .pend false (9 + 2 * t.val)) by unfold sides; rw [if_pos ht]]
  unfold Wp
  rw [wp_bind]
  refine part43 dv i M Z C q O W t (fun x => ?_)
  change _ ⊢ Wp dv i _ _
  rw [show 5 + 2 * t.val + 1 = 4 + 2 * (t.val + 1) by omega]
  by_cases hc : k0_cond2 t = 1#1
  · have hlt := (cond2_iff t).1 hc
    simp only [dif_pos hc, Prog.bind_assoc]
    refine st_issue dv i M Z C q O W true false (k0_off179 t) (k0_off179_inb t hc) (9 + 2 * (t.val + 1)) (by omega) (off179 t).1 (off179 t).2 (by trivial) ?_
    have e : put true (.pend false (9 + 2 * (t.val + 1))) (next false t.val, .full false (9 + 2 * t.val)) = sides (t.val + 1) := by
      unfold next sides; rw [if_pos hlt, if_pos (by omega)]; rfl
    rw [e]
    exact wp_ret dv i
  · have hlt : ¬ t.val < 19 := fun h => hc ((cond2_iff t).2 h)
    have h19 : t.val = 19 := by omega
    simp only [dif_neg hc]
    have e : (next false t.val, Sl.full false (9 + 2 * t.val)) = sides (t.val + 1) := by
      unfold next sides; rw [if_neg hlt, if_neg (by omega), h19]; rfl
    rw [e]
    exact wp_ret dv i

set_option maxRecDepth 65536 in
/-- The other chunks of contexts, and all the negatives'. -/
theorem part47 {Q : PUnit → sProp 𝕄} (hk : St dv i M Z C q O W (.full false 46, .full false 47) 512 (44 * 128) ⊢ Q ⟨⟩) :
    St dv i M Z C q O W (.pend true 6, .full true 5) 512 128
      ⊢ Wp dv i (k0_part47 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes 0#32 1#32) Q := by
  rw [k0_part47_eq_skeleton]
  unfold k0_part47_skel
  refine st_dot dv i M Z C q O W true 1 rfl (by decide) (by omega) (fun _ _ _ _ => rfl) ?_
  refine st_issue dv i M Z C q O W true true ![7, 0] inb_S48x128_S1x128_7_0 7 (by omega) rfl rfl (by trivial) ?_
  refine st_await dv i M Z C q O W false rfl ?_
  refine st_dot dv i M Z C q O W false 2 rfl (by decide) (by omega) (fun _ _ _ _ => rfl) ?_
  refine st_issue dv i M Z C q O W false false ![8, 0] inb_S48x128_S1x128_8_0 8 (by omega) rfl rfl (by trivial) ?_
  refine st_await dv i M Z C q O W true rfl ?_
  refine st_dot dv i M Z C q O W true 3 rfl (by decide) (by omega) (fun _ _ _ _ => rfl) ?_
  refine st_issue dv i M Z C q O W true false ![9, 0] inb_S48x128_S1x128_9_0 9 (by omega) rfl rfl (by trivial) ?_
  iintro H
  iapply (Scf.wp_for_bind frame (wpE defs₀ 𝒱₀ (thr dv i) none) Set.univ _ _ _ k0_t9_ok () (k0_t9_body i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes 0#32 1#32)
    (fun n _ => St dv i M Z C q O W (sides n) 512 ((4 + 2 * n) * 128)) (fun t _ => trip9 dv i M Z C q O W t)) $$ [H]
  · iexact H
  iintro %u H
  iapply (hk.trans (wp_done dv i))
  iexact H

end

end Cert.KernelIdeal.Sc

end
-- ==== Proof.Body.lean ====
/- A tile's whole program: the two lists copied in, the parts, and the products copied out. -/
module

public import proofs.«01_k».proof.Proof.Parts

@[expose] public section

noncomputable section

namespace Cert.KernelIdeal.Sc

open Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- The part of a memory that a reference names, held at the share `q` with the contents `f`. -/
abbrev Part (dv : Dev nD) (i : grid0.Coords) {sp : Space} {s : Shape} {e : EltTy} (m : Memref sig .scVector sp s e)
    (q : PosShare TreeShare) (f : Buf (Elt F) (m.view.loc (thr dv i))) : sProp 𝕄 :=
  m.view.loc (thr dv i) ↦[m.view.set]{q} f

/-- A copy and the wait for it. -/
def copyWait (i : grid0.Coords) {sp sp' : Space} {s : Shape} {e : EltTy} (src : Memref sig .scVector sp s e) (dst : Memref sig .scVector sp' s e)
    (sm : DmaSems sig S_) (hs : src.view.WordExact) (hd : dst.view.WordExact)
    (hsem : (DmaTarget.here dst : DmaTarget nD τ sig (.scVector ((i 0).castLE hcore0) ((i 1).castLE hsub0)) sp' s e).Typed sp (.dma sm.sem)) : TProg F i PUnit :=
  Prog.lift (.enqueueDma src (.here dst) (.dma sm.sem) hs hd hsem) >>= fun _ => Prog.lift (.waitDma2 sm.sem src dst hs hd)

/-- A copy and the wait for it. -/
theorem wp_copy (dv : Dev nD) (i : grid0.Coords) {sp sp' : Space} {s : Shape} {e : EltTy} (src : Memref sig .scVector sp s e) (dst : Memref sig .scVector sp' s e)
    (sm : DmaSems sig S_) {hs : src.view.WordExact} {hd : dst.view.WordExact}
    {hsem : (DmaTarget.here dst : DmaTarget nD τ sig (.scVector ((i 0).castLE hcore0) ((i 1).castLE hsub0)) sp' s e).Typed sp (.dma sm.sem)} (hN0 : 0 < dst.view.dmaCredit)
    {q : PosShare TreeShare} {fs : Buf (Elt F) (src.view.loc (thr dv i))} {fd : Buf (Elt F) (dst.view.loc (thr dv i))}
    {O : CellTallies nD τ sig (HIx 1)} {W : Waits sig (HIx 1)} {β : Type} {k : PUnit → TProg F i β} {Q : β → sProp 𝕄} :
    iprop(Part dv i src q fs ∗ Part dv i dst fullShare fd ∗ semVal (thr dv i, SemLoc.dma sm.sem) 0 ∗ Ow dv i O W)
      ⊢ iprop(((Part dv i src q fs ∗ Part dv i dst fullShare (dst.view.write (Elt F) fd (src.view.read (Elt F) fs) Finset.univ)
            ∗ semVal (thr dv i, SemLoc.dma sm.sem) 0 ∗ Ow dv i O W) -∗ Wp dv i (k ⟨⟩) Q)
          -∗ Wp dv i (copyWait i src dst sm hs hd hsem >>= k) Q) := by
  unfold Ow
  iintro ⟨Hs, Hd, Hv, #Hmw, %W', %hW', HO⟩ Hk
  iapply (Transfers.wp_dmaLocal countersEmb 𝒱₀ (thr dv i) none (defs := defs₀ (F := F)) (default : HIx 1) dst.view.dmaCredit rfl hN0 (Finset.Subset.refl _)) $$ [Hs Hd Hv]
  · isplitl [Hs]
    · iexact Hs
    isplitl [Hd]
    · iexact Hd
    iexact Hv
  iintro Hfl
  iapply (Transfers.wp_waitLocalO countersEmb 𝒱₀ (thr dv i) none (defs := defs₀ (F := F)) (default : HIx 1) (rfl : dst.view.dmaCredit = _)) $$ [Hfl HO]
  · isplitl [Hfl]
    · iexact Hfl
    isplitl [HO]
    · iexact HO
    iapply (Transfers.MayWaits.elim (SemLoc.dma sm.sem)) $$ Hmw
  iintro ⟨⟨Hd, Hs⟩, Hv, HO⟩
  iapply Hk
  isplitl [Hs]
  · iexact Hs
  isplitl [Hd]
  · iexact Hd
  isplitl [Hv]
  · iexact Hv
  isplitr
  · iexact Hmw
  iexists _
  isplitr
  swap
  · iexact HO
  ipureintro
  intro p hp
  rcases Finset.mem_insert.mp hp with hp | hp
  · exact .inr (hp ▸ rfl)
  · exact hW' p hp

/-- The tile's rows of an index list in memory, -/
abbrev rowIn (i : grid0.Coords) (a : Memref sig .scVector .hbm S32x48x128 .i32) : Memref sig .scVector .hbm S48x128 .i32 :=
  (a.slice (Rect.unit (s := S32x48x128) (k0_off1 i) S1x48x128.size (k0_off1_inb i)) (fun _ => rfl)).squeeze S48x128 squeezes_S1x48x128_S48x128

/-- and of the products. -/
abbrev rowOut (i : grid0.Coords) (a : Memref sig .scVector .hbm S32x44x128 .f32) : Memref sig .scVector .hbm S44x128 .f32 :=
  (a.slice (Rect.unit (s := S32x44x128) (k0_off180 i) S1x44x128.size (k0_off180_inb i)) (fun _ => rfl)).squeeze S44x128 squeezes_S1x44x128_S44x128

section

variable (dv : Dev nD) (i : grid0.Coords) (M : Mem) (Z : Dat F) (q : PosShare TreeShare)
  (O : CellTallies nD τ sig (HIx 1)) (W : Waits sig (HIx 1))
  (ft : ∀ t : Bool, Buf (Elt F) ((M.tb t).view.loc (thr dv i)))
  (f4 : Buf (Elt F) ((rowIn i M.a4).view.loc (thr dv i))) (f5 : Buf (Elt F) ((rowIn i M.a5).view.loc (thr dv i)))

/-- What a tile works with beside its rows of the products: its shares of the tables, its rows of the two lists, its scratch. -/
def Own : sProp 𝕄 :=
  iprop(Held dv i M.a2 q (ft false) ∗ Held dv i M.a3 q (ft true) ∗ Part dv i (rowIn i M.a4) fullShare f4 ∗ Part dv i (rowIn i M.a5) fullShare f5
    ∗ Holds dv i M.a7 (fun _ => True) ∗ Holds dv i M.a8 (fun _ => True) ∗ Holds dv i M.a9 (fun _ => True) ∗ Holds dv i M.a10 (fun _ => True)
    ∗ Holds dv i M.a11 (fun _ => True) ∗ Holds dv i M.a12 (fun _ => True)
    ∗ semVal (thr dv i, SemLoc.dma M.a13.sem) 0 ∗ semVal (thr dv i, SemLoc.dma M.a14.sem) 0
    ∗ semVal (thr dv i, SemLoc.dma M.r0.sem) 0 ∗ semVal (thr dv i, SemLoc.dma M.r1.sem) 0 ∗ semVal (thr dv i, SemLoc.dma M.r2.sem) 0)

variable (ht : ∀ (t : Bool) (j : S125000x128.Idx), (M.tb t).view.read (Elt F) (ft t) j = Z.Tab t (j 0).val (j 1).val)
  (h4 : ∀ j : S48x128.Idx, ((rowIn i M.a4).view.read (Elt F) f4 j : BitVec 32).toNat = Z.Lb (j 0).val (j 1).val)
  (h5 : ∀ j : S48x128.Idx, ((rowIn i M.a5).view.read (Elt F) f5 j : BitVec 32).toNat = Z.Sb (j 0).val (j 1).val)

/-- A whole buffer's set is everything. -/
theorem part_held {sp : Space} {s : Shape} {e : EltTy} (m : Memref sig .scVector sp s e) (hm : m.IsWhole) (q : PosShare TreeShare)
    (f : Buf (Elt F) (m.view.loc (thr dv i))) : (Part dv i m q f : sProp 𝕄) = Held dv i m q f := by
  unfold Part Held; rw [hm.set_eq_univ]

/-- The lists in place, as the parts name them. -/
def cont (g7 : Buf (Elt F) (M.a7.view.loc (thr dv i))) (g8 : Buf (Elt F) (M.a8.view.loc (thr dv i))) : Cont dv i M Z where
  ft := ft
  ht := ht
  f7 := M.a7.view.write (Elt F) g7 ((rowIn i M.a4).view.read (Elt F) f4) Finset.univ
  h7 j := by rw [View.read_write_univ]; exact h4 j
  f8 := M.a8.view.write (Elt F) g8 ((rowIn i M.a5).view.read (Elt F) f5) Finset.univ
  h8 j := by rw [View.read_write_univ]; exact h5 j

variable (p7 : 0 < M.a7.view.dmaCredit) (p8 : 0 < M.a8.view.dmaCredit)

set_option maxRecDepth 65536 in
include p7 p8 in
/-- The two lists copied in and the first two gathers issued. -/
theorem part44 {Q : IVec S16 32 → sProp 𝕄} :
    iprop(Own dv i M q ft f4 f5 ∗ Ow dv i O W)
      ⊢ iprop((∀ g7 g8, (Part dv i (rowIn i M.a4) fullShare f4 ∗ Part dv i (rowIn i M.a5) fullShare f5
            ∗ semVal (thr dv i, SemLoc.dma M.r0.sem) 0 ∗ semVal (thr dv i, SemLoc.dma M.r1.sem) 0 ∗ semVal (thr dv i, SemLoc.dma M.r2.sem) 0
            ∗ St dv i M Z (cont dv i M Z ft f4 f5 ht h4 h5 g7 g8) q O W (.pend false 0, .pend false 1) 0 0) -∗ Q lanes)
        -∗ Wp dv i (k0_part44 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2) Q) := by
  rw [k0_part44_eq_skeleton]
  unfold k0_part44_skel Own
  change _ ⊢ iprop(_ -∗ Wp dv i (copyWait i (rowIn i M.a4) M.a7 M.r0 _ _ _ >>= fun _ => copyWait i (rowIn i M.a5) M.a8 M.r1 _ _ _ >>= fun _ =>
    issue i M.a2 M.a9 M.a7 M.a13 ![0, 0] inb_S48x128_S1x128_0_0 >>= fun _ => issue i M.a2 M.a10 M.a7 M.a14 ![1, 0] inb_S48x128_S1x128_1_0 >>= fun _ => pure lanes) Q)
  iintro ⟨⟨H2, H3, H4, H5, ⟨%g7, -, H7⟩, ⟨%g8, -, H8⟩, H9, H10, ⟨%g11, -, H11⟩, ⟨%g12, -, H12⟩, V13, V14, V0, V1, V2⟩, HO⟩ HQ
  iapply (wp_copy dv i (rowIn i M.a4) M.a7 M.r0 p7 (fd := g7)) $$ [H4 H7 V0 HO]
  · isplitl [H4]
    · iexact H4
    isplitl [H7]
    · rw [part_held dv i M.a7 M.h7]; iexact H7
    isplitl [V0]
    · iexact V0
    iexact HO
  iintro ⟨H4, H7, V0, HO⟩
  iapply (wp_copy dv i (rowIn i M.a5) M.a8 M.r1 p8 (fd := g8)) $$ [H5 H8 V1 HO]
  · isplitl [H5]
    · iexact H5
    isplitl [H8]
    · rw [part_held dv i M.a8 M.h8]; iexact H8
    isplitl [V1]
    · iexact V1
    iexact HO
  iintro ⟨H5, H8, V1, HO⟩
  ihave H7 := (Entails.of_eq (part_held dv i M.a7 M.h7 _ _)) $$ H7
  ihave H8 := (Entails.of_eq (part_held dv i M.a8 M.h8 _ _)) $$ H8
  ihave H2' := (pointsTo_share (PosShare.mem_left_op_right q)).1 $$ H2
  icases H2' with ⟨H2l, H2r⟩
  ihave H3' := (pointsTo_share (PosShare.mem_left_op_right q)).1 $$ H3
  icases H3' with ⟨H3l, H3r⟩
  ihave H7' := (pointsTo_share (PosShare.mem_left_op_right fullShare)).1 $$ H7
  icases H7' with ⟨H7l, H7r⟩
  iapply (slot_issue dv i M Z (cont dv i M Z ft f4 f5 ht h4 h5 g7 g8) q false false ![0, 0] inb_S48x128_S1x128_0_0 (r := 0) (by omega) rfl rfl) $$ [H2l H3l H7l H9 V13]
  · unfold Free Src
    isplitl [H2l H3l H7l]
    · isplitl [H2l]
      · iexact H2l
      isplitl [H3l]
      · iexact H3l
      iexact H7l
    isplitl [H9]
    · iexact H9
    iexact V13
  iintro HA
  iapply (slot_issue dv i M Z (cont dv i M Z ft f4 f5 ht h4 h5 g7 g8) q true false ![1, 0] inb_S48x128_S1x128_1_0 (r := 1) (by omega) rfl rfl) $$ [H2r H3r H7r H10 V14]
  · unfold Free Src
    isplitl [H2r H3r H7r]
    · isplitl [H2r]
      · iexact H2r
      isplitl [H3r]
      · iexact H3r
      iexact H7r
    isplitl [H10]
    · iexact H10
    iexact V14
  iintro HB
  iapply (wp_ret dv i)
  iapply HQ $$ %g7 %g8
  isplitl [H4]
  · iexact H4
  isplitl [H5]
  · iexact H5
  isplitl [V0]
  · iexact V0
  isplitl [V1]
  · iexact V1
  isplitl [V2]
  · iexact V2
  unfold St Rest
  isplitl [HA]
  · iexact HA
  isplitl [HB]
  · iexact HB
  isplitl [H8]
  · iexact H8
  isplitl [H11]
  · iexists g11
    isplitr
    · ipureintro
      intro j hj; omega
    iexact H11
  isplitl [H12]
  · iexists g12
    isplitr
    · ipureintro
      intro j hj; omega
    iexact H12
  iexact HO

/-- A contents whatever it is. -/
theorem holds_any {sp : Space} {s : Shape} {e : EltTy} (m : Memref sig .scVector sp s e) (f : Buf (Elt F) (m.view.loc (thr dv i))) :
    (Held dv i m fullShare f : sProp 𝕄) ⊢ Holds dv i m (fun _ => True) := by
  iintro H
  iexists f
  isplitr
  · ipureintro; trivial
  iexact H

/-- The tile's rows of the products, holding them. -/
def Out : sProp 𝕄 :=
  iprop(∃ f, ⌜∀ j : S44x128.Idx, (rowOut i M.a6).view.read (Elt F) f j = Z.X (j 0).val (j 1).val⌝ ∗ Part dv i (rowOut i M.a6) fullShare f)

/-- The run from the first gathers pending to the products stored. -/
theorem mid (C : Cont dv i M Z) {β : Type} {k : PUnit → TProg F i β} {Q : β → sProp 𝕄} :
    St dv i M Z C q O W (.pend false 0, .pend false 1) 0 0
      ⊢ iprop((St dv i M Z C q O W (.full false 46, .full false 47) 512 (44 * 128) -∗ Wp dv i (k ⟨⟩) Q)
        -∗ Wp dv i (k0_part45 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes >>= fun _ => k0_part46 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes >>= fun x => k0_part47 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes x.1 x.2 >>= k) Q) := by
  have h : St dv i M Z C q O W (.pend false 0, .pend false 1) 0 0
      ⊢ Wp dv i (k0_part45 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes >>= fun _ => k0_part46 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes >>= fun x => k0_part47 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes x.1 x.2)
        (fun _ => St dv i M Z C q O W (.full false 46, .full false 47) 512 (44 * 128)) := by
    unfold Wp
    rw [wp_bind]
    refine part45 dv i M Z C q O W ?_
    rw [wp_bind]
    refine part46 dv i M Z C q O W ?_
    exact part47 dv i M Z C q O W (Entails.refl _)
  rw [show (k0_part45 (F := F) i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes >>= fun _ => k0_part46 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes >>= fun x => k0_part47 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes x.1 x.2 >>= k)
    = ((k0_part45 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes >>= fun _ => k0_part46 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes >>= fun x => k0_part47 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 lanes x.1 x.2) >>= k) by
      rw [Prog.bind_assoc]; congr 1; funext _; rw [Prog.bind_assoc]]
  unfold Wp
  rw [wp_bind]
  iintro H Hk
  iapply (wp_wand frame (wpE defs₀ 𝒱₀ (thr dv i) none) Set.univ (Q := fun _ => St dv i M Z C q O W (.full false 46, .full false 47) 512 (44 * 128))) $$ [H]
  · iapply h
    iexact H
  iintro %u H
  iapply Hk
  iexact H

seal k0_part44 k0_part45 k0_part46 k0_part47 in
set_option maxRecDepth 65536 in
/-- A tile's program: its parts in a row. -/
theorem body_eq : cc0__sc_body (F := F) i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2
    = (k0_part44 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 >>= fun v2 => k0_part45 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 v2 >>= fun _ => k0_part46 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 v2 >>= fun x => k0_part47 i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2 v2 x.1 x.2 >>= fun _ =>
        copyWait i M.a12 (rowOut i M.a6) M.r2 M.h12.wordExact ((View.wordExact_bits rfl).reshape _ _) ⟨Or.inl rfl, trivial⟩ >>= fun _ => pure ⟨⟩) := by
  rw [cc0__sc_body_eq_skeleton]
  rfl

include p7 p8 ht h4 h5 in
set_option maxRecDepth 65536 in
/-- A tile's whole program: it leaves the products in its rows, and everything else as it found it. -/
theorem tile_run (p6 : 0 < (rowOut i M.a6).view.dmaCredit) :
    iprop(Own dv i M q ft f4 f5 ∗ (∃ f6, Part dv i (rowOut i M.a6) fullShare f6) ∗ Ow dv i O W)
      ⊢ Wp dv i (cc0__sc_body i M.a2 M.h2 M.a3 M.h3 M.a4 M.h4 M.a5 M.h5 M.a6 M.h6 M.a7 M.h7 M.a8 M.h8 M.a9 M.h9 M.a10 M.h10 M.a11 M.h11 M.a12 M.h12
          M.a13 M.a14 M.r0 M.r1 M.r2) (fun _ => iprop(Own dv i M q ft f4 f5 ∗ Out dv i M Z ∗ Ow dv i O W)) := by
  rw [body_eq]
  unfold Wp
  rw [wp_bind]
  iintro ⟨HOwn, ⟨%f6, H6⟩, HO⟩
  iapply (part44 dv i M Z q O W ft f4 f5 ht h4 h5 p7 p8) $$ [HOwn HO]
  · isplitl [HOwn]
    · iexact HOwn
    iexact HO
  iintro %g7 %g8 ⟨H4, H5, V0, V1, V2, HS⟩
  iapply (mid dv i M Z q O W (cont dv i M Z ft f4 f5 ht h4 h5 g7 g8)
    (k := fun _ => copyWait i M.a12 (rowOut i M.a6) M.r2 M.h12.wordExact ((View.wordExact_bits rfl).reshape _ _) ⟨Or.inl rfl, trivial⟩ >>= fun _ => pure ⟨⟩)) $$ HS
  unfold St Rest
  rw [slot_full, slot_full]
  unfold Src
  iintro ⟨⟨⟨H2l, H3l, H7l⟩, ⟨%g9, -, H9⟩, V13⟩, ⟨⟨H2r, H3r, H7r⟩, ⟨%g10, -, H10⟩, V14⟩, H8, ⟨%g11, -, H11⟩, ⟨%g12, %h12, H12⟩, HO⟩
  ihave H12 := (Entails.of_eq (part_held dv i M.a12 M.h12 _ _).symm) $$ H12
  iapply (wp_copy dv i M.a12 (rowOut i M.a6) M.r2 p6) $$ [H12 H6 V2 HO]
  · isplitl [H12]
    · iexact H12
    isplitl [H6]
    · iexact H6
    isplitl [V2]
    · iexact V2
    iexact HO
  iintro ⟨H12, H6, V2, HO⟩
  ihave H12 := (Entails.of_eq (part_held dv i M.a12 M.h12 _ _)) $$ H12
  iapply (wp_ret dv i)
  isplitr [H6 HO]
  · unfold Own
    isplitl [H2l H2r]
    · iapply (pointsTo_share (PosShare.mem_left_op_right q)).2
      isplitl [H2l]
      · iexact H2l
      iexact H2r
    isplitl [H3l H3r]
    · iapply (pointsTo_share (PosShare.mem_left_op_right q)).2
      isplitl [H3l]
      · iexact H3l
      iexact H3r
    isplitl [H4]
    · iexact H4
    isplitl [H5]
    · iexact H5
    isplitl [H7l H7r]
    · iapply (holds_any dv i M.a7)
      iapply (pointsTo_share (PosShare.mem_left_op_right fullShare)).2
      isplitl [H7l]
      · iexact H7l
      iexact H7r
    isplitl [H8]
    · iapply (holds_any dv i M.a8)
      iexact H8
    isplitl [H9]
    · iapply (holds_any dv i M.a9)
      iexact H9
    isplitl [H10]
    · iapply (holds_any dv i M.a10)
      iexact H10
    isplitl [H11]
    · iapply (holds_any dv i M.a11)
      iexact H11
    isplitl [H12]
    · iapply (holds_any dv i M.a12)
      iexact H12
    isplitl [V13]
    · iexact V13
    isplitl [V14]
    · iexact V14
    isplitl [V0]
    · iexact V0
    isplitl [V1]
    · iexact V1
    iexact V2
  isplitl [H6]
  · unfold Out
    iexists _
    isplitr [H6]
    swap
    · iexact H6
    ipureintro
    intro j
    rw [View.read_write_univ]
    exact h12 j (by have h0 : (j 0).val < 44 := (j 0).isLt; have h1 : (j 1).val < 128 := (j 1).isLt; omega)
  iexact HO

end

end Cert.KernelIdeal.Sc

end
-- ==== Proof.Deal.lean ====
/- What the SparseCore call hands each tile and what it takes back: shares of the two tables, the tile's rows of the two index
lists, and its rows of the products. -/
module

public import proofs.«01_k».proof.Proof.Body
public import Idealize.ShloMosaic.Lib.SparseCore.Launch

@[expose] public section

noncomputable section

namespace Cert.KernelIdeal.Sc

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.ValueIdx

variable {F : FTy → Type} [FloatOps F]

local notation "𝕄" => MT nD τ sig (HIx 1) (Elt F) ℕ UU ℕ

/-- The buffers and semaphores a tile's program is run on. -/
def M0 : Mem where
  a2 := Memref.whole main_v0_scv
  h2 := Memref.isWhole_whole _
  a3 := Memref.whole main_v1_scv
  h3 := Memref.isWhole_whole _
  a4 := Memref.whole main_v26_scv
  h4 := Memref.isWhole_whole _
  a5 := Memref.whole main_v27_scv
  h5 := Memref.isWhole_whole _
  a6 := Memref.whole main_v28_scv
  h6 := Memref.isWhole_whole _
  a7 := Memref.whole cc0_scratch0
  h7 := Memref.isWhole_whole _
  a8 := Memref.whole cc0_scratch1
  h8 := Memref.isWhole_whole _
  a9 := Memref.whole cc0_scratch2
  h9 := Memref.isWhole_whole _
  a10 := Memref.whole cc0_scratch3
  h10 := Memref.isWhole_whole _
  a11 := Memref.whole cc0_scratch4
  h11 := Memref.isWhole_whole _
  a12 := Memref.whole cc0_scratch5
  h12 := Memref.isWhole_whole _
  a13 := cc0_scratch6
  a14 := cc0_scratch7
  r0 := cc0_scoped0
  r1 := cc0_scoped1
  r2 := cc0_scoped2
  n9 := by decide
  n10 := by decide

/-- The tables, the lists and the products in a device's memory, as its TensorCore names them. -/
abbrev l0 (d : Dev nD) : Loc nD τ sig := (SparseCore.T d).loc main_v0
/-- Where the second table lies, -/
abbrev l1 (d : Dev nD) : Loc nD τ sig := (SparseCore.T d).loc main_v1
/-- where the row numbers lie, -/
abbrev l26 (d : Dev nD) : Loc nD τ sig := (SparseCore.T d).loc main_v26
/-- where the columns lie, -/
abbrev l27 (d : Dev nD) : Loc nD τ sig := (SparseCore.T d).loc main_v27
/-- and where the products go. -/
abbrev l28 (d : Dev nD) : Loc nD τ sig := (SparseCore.T d).loc main_v28

/-- The contents of the tables and the lists when the SparseCore call starts. -/
structure Ins (F : FTy → Type) where
  t0 : (d : Dev nD) → Buf (Elt F) (l0 d)
  t1 : (d : Dev nD) → Buf (Elt F) (l1 d)
  f4 : (d : Dev nD) → Buf (Elt F) (l26 d)
  f5 : (d : Dev nD) → Buf (Elt F) (l27 d)

/-- The lists name rows of the tables and offsets within them. -/
structure Ins.Ok (I : Ins F) : Prop where
  rows : ∀ (d : Dev nD) (j : S32x48x128.Idx), (I.f4 d j : BitVec 32).toNat < 125000
  offs : ∀ (d : Dev nD) (j : S32x48x128.Idx), (I.f5 d j : BitVec 32).toNat ≤ 112

/-- The table `b` on device `d`, -/
def Ins.tab (I : Ins F) (d : Dev nD) (b : Bool) : S125000x128.Idx → F .f32 := match b with | false => I.t0 d | true => I.t1 d

/-- The numbers tile `w` of a device works on. -/
def Ins.dat (I : Ins F) (d : Dev nD) (w : ℕ) : Dat F where
  Tab b r c := if h : r < 125000 ∧ c < 128 then I.tab d b (ix2 ⟨r, h.1⟩ ⟨c, h.2⟩) else Scalar.ofBits .f32 0x00000000#32
  Lb r n := if h : w < 32 ∧ r < 48 ∧ n < 128 then min (I.f4 d (ix3 ⟨w, h.1⟩ ⟨r, h.2.1⟩ ⟨n, h.2.2⟩) : BitVec 32).toNat 124999 else 0
  Sb r n := if h : w < 32 ∧ r < 48 ∧ n < 128 then min (I.f5 d (ix3 ⟨w, h.1⟩ ⟨r, h.2.1⟩ ⟨n, h.2.2⟩) : BitVec 32).toNat 112 else 0
  hLb r n := by split <;> omega
  hSb r n := by split <;> omega

/-- The grid point of SparseCore `c` and tile `s`. -/
def at2 (c : Fin 2) (s : Fin 16) : grid0.Coords := fun | 0 => c | 1 => s | ⟨_ + 2, h⟩ => absurd h (Nat.not_lt.2 (Nat.le_add_left _ _))

/-- The number of the tile at a grid point. -/
def wid (i : grid0.Coords) : ℕ := 2 * (i 1).val + (i 0).val

/-- There are 32 tiles. -/
theorem wid_lt (i : grid0.Coords) : wid i < 32 := by
  have h0 : (i 0).val < 2 := (i 0).isLt
  have h1 : (i 1).val < 16 := (i 1).isLt
  unfold wid; omega

/-- The tile's rows of the index lists are those of its number, -/
theorem mem_row4 (i : grid0.Coords) (y : S32x48x128.Idx) : y ∈ (rowIn i M0.a4).view.set ↔ (y 0).val = wid i := by
  show y ∈ (((View.whole (main_v26_scv : Ref sig .scVector)).slice (Rect.unit (s := S32x48x128) (k0_off1 i) S1x48x128.size (k0_off1_inb i))).reshape
    S48x128 squeezes_S1x48x128_S48x128.numel_eq).set ↔ _
  rw [View.set_reshape, View.set_slice]
  show y ∈ Finset.map (Function.Embedding.refl _) _ ↔ _
  rw [Finset.map_refl, Rect.mem_set_unit, k0_off1_eq]
  have h0 : (y 0).val < 32 := (y 0).isLt
  have h1 : (y 1).val < 48 := (y 1).isLt
  have h2 : (y 2).val < 128 := (y 2).isLt
  constructor
  · intro h
    have := h 0
    change 2 * (i 1).val + (i 0).val ≤ (y 0).val ∧ (y 0).val < 2 * (i 1).val + (i 0).val + 1 at this
    unfold wid; omega
  · intro h a
    unfold wid at h
    fin_cases a
    · show 2 * (i 1).val + (i 0).val ≤ (y 0).val ∧ (y 0).val < 2 * (i 1).val + (i 0).val + 1; omega
    · show 0 ≤ (y 1).val ∧ (y 1).val < 0 + 48; omega
    · show 0 ≤ (y 2).val ∧ (y 2).val < 0 + 128; omega

/-- of both lists, -/
theorem mem_row5 (i : grid0.Coords) (y : S32x48x128.Idx) : y ∈ (rowIn i M0.a5).view.set ↔ (y 0).val = wid i := mem_row4 i y

/-- and so the tile's rows of the products. -/
theorem mem_row6 (i : grid0.Coords) (y : S32x44x128.Idx) : y ∈ (rowOut i M0.a6).view.set ↔ (y 0).val = wid i := by
  show y ∈ (((View.whole (main_v28_scv : Ref sig .scVector)).slice (Rect.unit (s := S32x44x128) (k0_off180 i) S1x44x128.size (k0_off180_inb i))).reshape
    S44x128 squeezes_S1x44x128_S44x128.numel_eq).set ↔ _
  rw [View.set_reshape, View.set_slice]
  show y ∈ Finset.map (Function.Embedding.refl _) _ ↔ _
  rw [Finset.map_refl, Rect.mem_set_unit, k0_off180_eq]
  have h0 : (y 0).val < 32 := (y 0).isLt
  have h1 : (y 1).val < 44 := (y 1).isLt
  have h2 : (y 2).val < 128 := (y 2).isLt
  constructor
  · intro h
    have := h 0
    change 2 * (i 1).val + (i 0).val ≤ (y 0).val ∧ (y 0).val < 2 * (i 1).val + (i 0).val + 1 at this
    unfold wid; omega
  · intro h a
    unfold wid at h
    fin_cases a
    · show 2 * (i 1).val + (i 0).val ≤ (y 0).val ∧ (y 0).val < 2 * (i 1).val + (i 0).val + 1; omega
    · show 0 ≤ (y 1).val ∧ (y 1).val < 0 + 44; omega
    · show 0 ≤ (y 2).val ∧ (y 2).val < 0 + 128; omega

/-- Reading the tile's rows of an index list, -/
theorem read_rowIn (i : grid0.Coords) (m : Memref sig .scVector .hbm S32x48x128 .i32) (f : m.view.ty.Contents (Elt F)) (j : S48x128.Idx) :
    (rowIn i m).view.read (Elt F) f j = m.view.read (Elt F) f (ix3 ⟨wid i, wid_lt i⟩ (j 0) (j 1)) := by
  have hj0 : (j 0).val < 48 := (j 0).isLt
  have hj1 : (j 1).val < 128 := (j 1).isLt
  unfold rowIn
  rw [Memref.read_squeeze_slice m _ (fun _ => rfl) squeezes_S1x48x128_S48x128 (show S1x48x128.ShapeCasts S48x128 by decide),
    shapeCast_apply _ _ j (ix3 (n0 := 1) (n1 := 48) (n2 := 128) 0 (j 0) (j 1)) (by
      rw [Shape.rowMajor_val_three, Shape.rowMajor_val_two]; show (0 * 48 + (j 0).val) * 128 + (j 1).val = (j 0).val * 128 + (j 1).val; omega)]
  show m.view.read (Elt F) f ((Rect.unit (s := S32x48x128) (k0_off1 i) S1x48x128.size (k0_off1_inb i)).emb (ix3 0 (j 0) (j 1))) = _
  congr 1
  funext c
  fin_cases c
  · apply Fin.ext; rw [Rect.emb_apply]; show k0_off1 i 0 + 1 * 0 = wid i; rw [k0_off1_eq]; show 2 * (i 1).val + (i 0).val + 1 * 0 = wid i; unfold wid; omega
  · apply Fin.ext; rw [Rect.emb_apply]; show k0_off1 i 1 + 1 * (j 0).val = (j 0).val; rw [k0_off1_eq]; show 0 + 1 * (j 0).val = (j 0).val; omega
  · apply Fin.ext; rw [Rect.emb_apply]; show k0_off1 i 2 + 1 * (j 1).val = (j 1).val; rw [k0_off1_eq]; show 0 + 1 * (j 1).val = (j 1).val; omega

/-- and of the products. -/
theorem read_rowOut (i : grid0.Coords) (m : Memref sig .scVector .hbm S32x44x128 .f32) (f : m.view.ty.Contents (Elt F)) (j : S44x128.Idx) :
    (rowOut i m).view.read (Elt F) f j = m.view.read (Elt F) f (ix3 ⟨wid i, wid_lt i⟩ (j 0) (j 1)) := by
  have hj0 : (j 0).val < 44 := (j 0).isLt
  have hj1 : (j 1).val < 128 := (j 1).isLt
  unfold rowOut
  rw [Memref.read_squeeze_slice m _ (fun _ => rfl) squeezes_S1x44x128_S44x128 (show S1x44x128.ShapeCasts S44x128 by decide),
    shapeCast_apply _ _ j (ix3 (n0 := 1) (n1 := 44) (n2 := 128) 0 (j 0) (j 1)) (by
      rw [Shape.rowMajor_val_three, Shape.rowMajor_val_two]; show (0 * 44 + (j 0).val) * 128 + (j 1).val = (j 0).val * 128 + (j 1).val; omega)]
  show m.view.read (Elt F) f ((Rect.unit (s := S32x44x128) (k0_off180 i) S1x44x128.size (k0_off180_inb i)).emb (ix3 0 (j 0) (j 1))) = _
  congr 1
  funext c
  fin_cases c
  · apply Fin.ext; rw [Rect.emb_apply]; show k0_off180 i 0 + 1 * 0 = wid i; rw [k0_off180_eq]; show 2 * (i 1).val + (i 0).val + 1 * 0 = wid i; unfold wid; omega
  · apply Fin.ext; rw [Rect.emb_apply]; show k0_off180 i 1 + 1 * (j 0).val = (j 0).val; rw [k0_off180_eq]; show 0 + 1 * (j 0).val = (j 0).val; omega
  · apply Fin.ext; rw [Rect.emb_apply]; show k0_off180 i 2 + 1 * (j 1).val = (j 1).val; rw [k0_off180_eq]; show 0 + 1 * (j 1).val = (j 1).val; omega

/-! ## The shares -/

/-- The share of the tables that goes to a tile. -/
def tq (c : Fin 2) (s : Fin 16) : PosShare TreeShare := Transfers.shareTok (Transfers.shareTok fullShare 2 c) 16 s

/-- A whole buffer holds every tile's share. -/
theorem shares {ℓ : Loc nD τ sig} (f : Buf (Elt F) ℓ) :
    (ℓ ↦{fullShare} f : sProp 𝕄) ⊢ bigSep Finset.univ fun c : Fin 2 => bigSep Finset.univ fun s : Fin 16 => ℓ ↦{tq c s} f :=
  ((Transfers.pointsTo_toks_split fullShare 2).trans sep_elim_right).trans
    (bigSep_mono fun _ _ => (Transfers.pointsTo_toks_split _ 16).trans sep_elim_right)

/-- A buffer is its parts, when each index is in one tile's part. -/
theorem parts {ℓ : Loc nD τ sig} (f : Buf (Elt F) ℓ) (R : Fin 2 → Fin 16 → Finset (Idx ℓ)) (h0 : ∀ y, ∃ c s, y ∈ R c s)
    (h1 : ∀ y c s c' s', y ∈ R c s → y ∈ R c' s' → c = c' ∧ s = s') :
    (ℓ ↦{fullShare} f : sProp 𝕄) = bigSep Finset.univ fun c : Fin 2 => bigSep Finset.univ fun s : Fin 16 => ℓ ↦[R c s]{fullShare} f := by
  rw [← SparseCore.bigSep_product Finset.univ Finset.univ (fun x : Fin 2 × Fin 16 => (ℓ ↦[R x.1 x.2]{fullShare} f : sProp 𝕄)),
    Finset.univ_product_univ, ← pointsTo_biUnion Finset.univ (ℓ := ℓ) (fun x : Fin 2 × Fin 16 => R x.1 x.2)
      (fun t _ t' _ hne => Finset.disjoint_left.mpr fun y hy hy' => hne (Prod.ext (h1 y _ _ _ _ hy hy').1 (h1 y _ _ _ _ hy hy').2))]
  congr 1
  symm
  rw [Finset.eq_univ_iff_forall]
  intro y
  obtain ⟨c, s, h⟩ := h0 y
  exact Finset.mem_biUnion.mpr ⟨(c, s), Finset.mem_univ _, h⟩

/-- The tile's number from its core and its place. -/
theorem wid_at2 (c : Fin 2) (s : Fin 16) : wid (at2 c s) = 2 * s.val + c.val := rfl

/-- Every row is some tile's, -/
theorem row_some {n : ℕ} (hn : n < 32) : ∃ (c : Fin 2) (s : Fin 16), n = wid (at2 c s) :=
  ⟨⟨n % 2, by omega⟩, ⟨n / 2, by omega⟩, by rw [wid_at2]; show n = 2 * (n / 2) + n % 2; omega⟩
/-- and only one's. -/
theorem row_one {c c' : Fin 2} {s s' : Fin 16} (h : wid (at2 c s) = wid (at2 c' s')) : c = c' ∧ s = s' := by
  rw [wid_at2, wid_at2] at h
  have := c.isLt; have := c'.isLt
  exact ⟨Fin.ext (by omega), Fin.ext (by omega)⟩

end Cert.KernelIdeal.Sc

end
-- ==== Proof.Task.lean ====
/- A tile's task as the launch states it: from what the call hands it and its own scratch to its rows of the products. -/
module

public import proofs.«01_k».proof.Proof.Deal

@[expose] public section

noncomputable section

namespace Cert.KernelIdeal.Sc

open Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (I : Ins F)

/-- The tile's rows as parts of the lists and of the products. -/
def R26 (d : Dev nD) (c : Fin 2) (s : Fin 16) : Finset (Idx (l26 d)) := (rowIn (at2 c s) M0.a4).view.set
/-- The tile's rows of the columns, -/
def R27 (d : Dev nD) (c : Fin 2) (s : Fin 16) : Finset (Idx (l27 d)) := (rowIn (at2 c s) M0.a5).view.set
/-- and of the products. -/
def R28 (d : Dev nD) (c : Fin 2) (s : Fin 16) : Finset (Idx (l28 d)) := (rowOut (at2 c s) M0.a6).view.set

/-- What a tile is handed beside its rows of the products: its shares of the tables and its rows of the lists. -/
def In (d : Dev nD) (c : Fin 2) (s : Fin 16) : sProp 𝕄 :=
  iprop((l0 d ↦{tq c s} I.t0 d) ∗ (l1 d ↦{tq c s} I.t1 d)
    ∗ (l26 d ↦[R26 d c s]{fullShare} I.f4 d) ∗ (l27 d ↦[R27 d c s]{fullShare} I.f5 d))

/-- Its rows of the products, holding anything. -/
def Room (d : Dev nD) (c : Fin 2) (s : Fin 16) : sProp 𝕄 :=
  iprop(∃ f, l28 d ↦[R28 d c s]{fullShare} f)

/-- The products of all the tiles. -/
def prods (d : Dev nD) : Buf (Elt F) (l28 d) := fun y : S32x44x128.Idx => (I.dat d (y 0).val).X (y 1).val (y 2).val

/-- Its rows of the products, holding them. -/
def Made (d : Dev nD) (c : Fin 2) (s : Fin 16) : sProp 𝕄 :=
  iprop(l28 d ↦[R28 d c s]{fullShare} prods I d)

/-- A tile's inputs can be kept in an invariant, -/
instance In_storable (d : Dev nD) (c : Fin 2) (s : Fin 16) : BI.Storable (upEmb : UEmb _ 𝕄) (In I d c s) := by unfold In; infer_instance
/-- so can its room for the products, -/
instance Room_storable (d : Dev nD) (c : Fin 2) (s : Fin 16) : BI.Storable (upEmb : UEmb _ 𝕄) (Room (F := F) d c s) := by unfold Room; infer_instance
/-- and the products made. -/
instance Made_storable (d : Dev nD) (c : Fin 2) (s : Fin 16) : BI.Storable (upEmb : UEmb _ 𝕄) (Made I d c s) := by unfold Made; infer_instance

/-- What the call hands over and takes back: to a SparseCore its tiles' pieces, to a tile its own. -/
def P : (K (F := F)).Pay (nD := nD) (Val := Elt F) (Name := ℕ) (U := UU) where
  st := fun q d c => match q with | 0 => bigSep Finset.univ fun s : Fin 16 => iprop(In I d c s ∗ Room d c s)
  dn := fun q d c => match q with | 0 => bigSep Finset.univ fun s : Fin 16 => iprop(In I d c s ∗ Made I d c s)
  go := fun q d c s => match q with | 0 => iprop(In I d c s ∗ Room d c s)
  td := fun q d c s => match q with | 0 => iprop(In I d c s ∗ Made I d c s)
  x := fun _ _ => iprop(emp)

/-- So can all that the call passes. -/
instance P_storable : (P I).IsStorable where
  st q d c := match q with
    | 0 => (inferInstance : BI.Storable (upEmb : UEmb _ 𝕄) (bigSep Finset.univ fun s : Fin 16 => iprop(In I d c s ∗ Room d c s)))
  dn q d c := match q with
    | 0 => (inferInstance : BI.Storable (upEmb : UEmb _ 𝕄) (bigSep Finset.univ fun s : Fin 16 => iprop(In I d c s ∗ Made I d c s)))
  go q d c s := match q with
    | 0 => (inferInstance : BI.Storable (upEmb : UEmb _ 𝕄) iprop(In I d c s ∗ Room d c s))
  td q d c s := match q with
    | 0 => (inferInstance : BI.Storable (upEmb : UEmb _ 𝕄) iprop(In I d c s ∗ Made I d c s))

/-- A SparseCore's pieces are its tiles'. -/
theorem vecSplit : (K (F := F)).VecSplit' (P I) 0 := by
  intro d c
  show (bigSep Finset.univ fun s : Fin 16 => iprop(In I d c s ∗ Room d c s)) ⊢ |={Set.univ}=> iprop(
    (bigSep Finset.univ fun s : Fin 16 => iprop(In I d c s ∗ Room d c s))
      ∗ ((bigSep Finset.univ fun s : Fin 16 => iprop(In I d c s ∗ Made I d c s)) -∗ bigSep Finset.univ fun s : Fin 16 => iprop(In I d c s ∗ Made I d c s)))
  iintro H
  imodintro
  isplitl [H]
  · iexact H
  iintro H
  iexact H

section

variable (d : Dev nD) (i : grid0.Coords)

/-- Naming a tile's semaphores, -/
def semEmb : SemLoc sig ↪ GSem nD τ sig := ⟨fun s => (thr d i, s), fun _ _ h => (Prod.mk.inj h).2⟩
/-- and its buffers. -/
def refEmb : Ref sig .scVector ↪ DevRef τ sig :=
  ⟨fun b => (thr d i).2.devRef b, fun _ _ h => Proc.devRef_injective _ h⟩

/-- The semaphores a tile's program uses, -/
def mySems : Finset (SemLoc sig) :=
  {SemLoc.dma cc0_scratch6.sem, SemLoc.dma cc0_scratch7.sem, SemLoc.dma cc0_scoped0.sem, SemLoc.dma cc0_scoped1.sem, SemLoc.dma cc0_scoped2.sem}
/-- and its scratch. -/
def myRefs : Finset (Ref sig .scVector) := {cc0_scratch0, cc0_scratch1, cc0_scratch2, cc0_scratch3, cc0_scratch4, cc0_scratch5}

/-- They are among the tile's own. -/
theorem mySems_own : (mySems.map (semEmb d i)) ⊆ ownCells (thr d i) := by
  intro g hg
  obtain ⟨s, hs, rfl⟩ := Finset.mem_map.mp hg
  refine mem_ownCells.mpr ⟨rfl, ?_⟩
  exact (show ∀ s ∈ mySems, s.isScoped .scVector = true by decide) s hs

/-- The tile's scratch buffers are its own. -/
theorem myRefs_own : (myRefs.map (refEmb d i)) ⊆ ownRefs (thr d i).2 := by
  intro b hb
  obtain ⟨r, hr, rfl⟩ := Finset.mem_map.mp hb
  refine SparseCore.Cfg.mem_ownRefs_of_owner (p := (thr d i).2) ?_
  simp only [myRefs, Finset.mem_insert, Finset.mem_singleton] at hr
  rcases hr with rfl | rfl | rfl | rfl | rfl | rfl <;> rfl

/-- A tile's own semaphores at zero are those its program uses and the rest. -/
theorem own_sems :
    (ownSems0 (thr d i) : sProp 𝕄)
      = iprop((semVal (thr d i, SemLoc.dma M0.a13.sem) 0 ∗ semVal (thr d i, SemLoc.dma M0.a14.sem) 0
          ∗ semVal (thr d i, SemLoc.dma M0.r0.sem) 0 ∗ semVal (thr d i, SemLoc.dma M0.r1.sem) 0 ∗ semVal (thr d i, SemLoc.dma M0.r2.sem) 0)
        ∗ bigSep (ownCells (thr d i) \ mySems.map (semEmb d i)) fun g => semVal g 0) := by
  unfold SparseCore.Cfg.ownSems0
  rw [bigSep_sdiff_split (mySems_own d i), bigSep_map]
  unfold mySems
  rw [SparseCore.bigSep_insert' (by decide), SparseCore.bigSep_insert' (by decide), SparseCore.bigSep_insert' (by decide), SparseCore.bigSep_insert' (by decide), bigSep_singleton]
  rfl

/-- A tile's own buffers are its program's scratch and the rest. -/
theorem own_bufs :
    (ownBufs (thr d i) : sProp 𝕄)
      = iprop(((∃ f, Held d i M0.a7 fullShare f) ∗ (∃ f, Held d i M0.a8 fullShare f) ∗ (∃ f, Held d i M0.a9 fullShare f) ∗ (∃ f, Held d i M0.a10 fullShare f)
          ∗ (∃ f, Held d i M0.a11 fullShare f) ∗ (∃ f, Held d i M0.a12 fullShare f))
        ∗ bigSep (ownRefs (thr d i).2 \ myRefs.map (refEmb d i)) fun b => iprop(∃ f, ((d, b) : Loc nD τ sig) ↦{fullShare} f)) := by
  unfold SparseCore.Cfg.ownBufs
  rw [bigSep_sdiff_split (myRefs_own d i), bigSep_map]
  unfold myRefs
  rw [SparseCore.bigSep_insert' (by decide), SparseCore.bigSep_insert' (by decide), SparseCore.bigSep_insert' (by decide), SparseCore.bigSep_insert' (by decide),
    SparseCore.bigSep_insert' (by decide), bigSep_singleton]
  rfl

variable (hI : I.Ok)

include hI in
/-- What the tile's rows of the lists hold is what the tile's numbers say. -/
theorem lists_ok (j : S48x128.Idx) :
    ((rowIn i M0.a4).view.read (Elt F) (I.f4 d) j : BitVec 32).toNat = (I.dat d (wid i)).Lb (j 0).val (j 1).val
      ∧ ((rowIn i M0.a5).view.read (Elt F) (I.f5 d) j : BitVec 32).toNat = (I.dat d (wid i)).Sb (j 0).val (j 1).val := by
  have hw : wid i < 32 ∧ (j 0).val < 48 ∧ (j 1).val < 128 := ⟨wid_lt i, (j 0).isLt, (j 1).isLt⟩
  constructor
  · refine (congrArg BitVec.toNat (read_rowIn i M0.a4 (I.f4 d) j)).trans ?_
    show (I.f4 d (ix3 ⟨wid i, hw.1⟩ (j 0) (j 1)) : BitVec 32).toNat = dite _ _ _
    rw [dif_pos hw]
    have := hI.rows d (ix3 ⟨wid i, hw.1⟩ (j 0) (j 1))
    exact (min_eq_left (by omega)).symm
  · refine (congrArg BitVec.toNat (read_rowIn i M0.a5 (I.f5 d) j)).trans ?_
    show (I.f5 d (ix3 ⟨wid i, hw.1⟩ (j 0) (j 1)) : BitVec 32).toNat = dite _ _ _
    rw [dif_pos hw]
    have := hI.offs d (ix3 ⟨wid i, hw.1⟩ (j 0) (j 1))
    exact (min_eq_left (by omega)).symm

/-- The tables a tile is handed, by name. -/
def tabs : ∀ t : Bool, Buf (Elt F) ((M0.tb t).view.loc (thr d i))
  | false => I.t0 d
  | true => I.t1 d

/-- They hold what the tile's numbers say. -/
theorem tabs_ok (t : Bool) (j : S125000x128.Idx) : (M0.tb t).view.read (Elt F) (tabs I d i t) j = (I.dat d (wid i)).Tab t (j 0).val (j 1).val := by
  have hj : (j 0).val < 125000 ∧ (j 1).val < 128 := ⟨(j 0).isLt, (j 1).isLt⟩
  show _ = dite _ _ _
  rw [dif_pos hj, show (ix2 ⟨(j 0).val, hj.1⟩ ⟨(j 1).val, hj.2⟩ : S125000x128.Idx) = j from by funext a; fin_cases a <;> rfl]
  cases t <;> rfl

/-- A row of the products that holds what the tile's numbers say is that row of all the products. -/
theorem made_of (c : Fin 2) (s : Fin 16) : (Out d (at2 c s) M0 (I.dat d (wid (at2 c s))) : sProp 𝕄) ⊢ Made I d c s := by
  unfold Out Made
  iintro ⟨%f, %hf, H⟩
  have key : ∀ y : S32x44x128.Idx, (y 0).val = wid (at2 c s) → f y = prods I d y := by
    intro y hy0
    have h2 := (read_rowOut (at2 c s) M0.a6 f (ix2 (y 1) (y 2))).symm.trans (hf (ix2 (y 1) (y 2)))
    have h3 : (ix3 ⟨wid (at2 c s), wid_lt (at2 c s)⟩ (y 1) (y 2) : S32x44x128.Idx) = y := by
      funext a; fin_cases a
      · exact Fin.ext hy0.symm
      · rfl
      · rfl
    refine (congrArg f h3.symm).trans (h2.trans ?_)
    unfold prods
    rw [hy0]
  have e : (Part d (at2 c s) (rowOut (at2 c s) M0.a6) fullShare f : sProp 𝕄) = (l28 d ↦[R28 d c s]{fullShare} prods I d) :=
    pointsTo_congr fun y hy => key y ((mem_row6 (at2 c s) y).mp hy)
  ihave H := (Entails.of_eq e) $$ H
  iexact H

end

set_option maxRecDepth 65536 in
/-- The task on tile `s` of SparseCore `c`. -/
theorem task (hI : I.Ok) (d : Dev nD) (c : Fin 2) (s : Fin 16) (O : CellTallies nD τ sig (HIx 1)) (W : Waits sig (HIx 1)) (hO : ∀ g, O g none = 0) :
    iprop(levAts (K (F := F)).L (K (F := F)).lev ∗ emp ∗ (In I d c s ∗ Room d c s)
        ∗ scopedBufs (thr d (at2 c s)) ∗ scopedSems0 (thr d (at2 c s)) ∗ owes (thr d (at2 c s)) O W)
      ⊢ Wp d (at2 c s) (cc0__sc_body (at2 c s) M0.a2 M0.h2 M0.a3 M0.h3 M0.a4 M0.h4 M0.a5 M0.h5 M0.a6 M0.h6 M0.a7 M0.h7 M0.a8 M0.h8 M0.a9 M0.h9
            M0.a10 M0.h10 M0.a11 M0.h11 M0.a12 M0.h12 M0.a13 M0.a14 M0.r0 M0.r1 M0.r2)
          fun _ => iprop((In I d c s ∗ Made I d c s) ∗ scopedBufs (thr d (at2 c s)) ∗ scopedSems0 (thr d (at2 c s))
            ∗ ∃ W', ⌜∀ p ∈ W', p ∈ W ∨ p.2 = none ∨ p.2 = some (0 : Fin 1)⌝ ∗ owes (thr d (at2 c s)) O W') := by
  rw [(K (F := F)).scopedBufs_V facts d, SparseCore.Cfg.scopedSems0_V (Val := Elt F) d, own_sems, own_bufs]
  unfold In Room
  iintro ⟨#Hlv, -, ⟨⟨H0, H1, H4, H5⟩, ⟨%f6, H6⟩⟩, ⟨⟨⟨%g7, H7⟩, ⟨%g8, H8⟩, ⟨%g9, H9⟩, ⟨%g10, H10⟩, ⟨%g11, H11⟩, ⟨%g12, H12⟩⟩, Hb⟩, ⟨⟨V13, V14, V0, V1, V2⟩, Hs⟩, HO⟩
  ihave Hmw := (show levAts (K (F := F)).L (K (F := F)).lev ⊢ Transfers.MayWaits (thr d (at2 c s)) (default : HIx 1) O from
    (K (F := F)).mayWaits_none (thr := thr d (at2 c s)) hO) $$ Hlv
  ihave K7 := (holds_any d (at2 c s) M0.a7 g7) $$ H7
  ihave K8 := (holds_any d (at2 c s) M0.a8 g8) $$ H8
  ihave K9 := (holds_any d (at2 c s) M0.a9 g9) $$ H9
  ihave K10 := (holds_any d (at2 c s) M0.a10 g10) $$ H10
  ihave K11 := (holds_any d (at2 c s) M0.a11 g11) $$ H11
  ihave K12 := (holds_any d (at2 c s) M0.a12 g12) $$ H12
  ihave HW := (tile_run d (at2 c s) M0 (I.dat d (wid (at2 c s))) (tq c s) O W (tabs I d (at2 c s)) (I.f4 d) (I.f5 d)
    (tabs_ok I d (at2 c s)) (fun j => (lists_ok I d (at2 c s) hI j).1) (fun j => (lists_ok I d (at2 c s) hI j).2)
    (by decide) (by decide) (show 0 < (rowOut (at2 0 0) M0.a6).view.dmaCredit by decide)) $$ [H0 H1 H4 H5 H6 K7 K8 K9 K10 K11 K12 V13 V14 V0 V1 V2 Hmw HO]
  · isplitl [H0 H1 H4 H5 K7 K8 K9 K10 K11 K12 V13 V14 V0 V1 V2]
    · unfold Own
      isplitl [H0]; · iexact H0
      isplitl [H1]; · iexact H1
      isplitl [H4]; · iexact H4
      isplitl [H5]; · iexact H5
      isplitl [K7]; · iexact K7
      isplitl [K8]; · iexact K8
      isplitl [K9]; · iexact K9
      isplitl [K10]; · iexact K10
      isplitl [K11]; · iexact K11
      isplitl [K12]; · iexact K12
      isplitl [V13]; · iexact V13
      isplitl [V14]; · iexact V14
      isplitl [V0]; · iexact V0
      isplitl [V1]; · iexact V1
      iexact V2
    isplitl [H6]
    · iexists f6; iexact H6
    unfold Ow
    isplitl [Hmw]; · iexact Hmw
    iexists W
    isplitr [HO]; swap; · iexact HO
    ipureintro
    exact fun p hp => Or.inl hp
  unfold Wp
  iapply (wp_wand frame (wpE defs₀ 𝒱₀ (thr d (at2 c s)) none) Set.univ
    (Q := fun _ => iprop(Own d (at2 c s) M0 (tq c s) (tabs I d (at2 c s)) (I.f4 d) (I.f5 d) ∗ Out d (at2 c s) M0 (I.dat d (wid (at2 c s))) ∗ Ow d (at2 c s) O W))) $$ [HW]
  · iexact HW
  iintro %_ ⟨HOwn, HOut, HO⟩
  ihave HM := (made_of I d c s) $$ HOut
  unfold Own Ow
  icases HOwn with ⟨H0, H1, H4, H5, ⟨%k7, -, K7⟩, ⟨%k8, -, K8⟩, ⟨%k9, -, K9⟩, ⟨%k10, -, K10⟩, ⟨%k11, -, K11⟩, ⟨%k12, -, K12⟩, V13, V14, V0, V1, V2⟩
  icases HO with ⟨-, ⟨%W', %hW', HO⟩⟩
  isplitl [H0 H1 H4 H5 HM]
  · isplitl [H0 H1 H4 H5]
    · isplitl [H0]; · iexact H0
      isplitl [H1]; · iexact H1
      isplitl [H4]; · iexact H4
      iexact H5
    iexact HM
  isplitl [K7 K8 K9 K10 K11 K12 Hb]
  · isplitl [K7 K8 K9 K10 K11 K12]
    · isplitl [K7]; · iexists k7; iexact K7
      isplitl [K8]; · iexists k8; iexact K8
      isplitl [K9]; · iexists k9; iexact K9
      isplitl [K10]; · iexists k10; iexact K10
      isplitl [K11]; · iexists k11; iexact K11
      iexists k12; iexact K12
    iexact Hb
  isplitl [V13 V14 V0 V1 V2 Hs]
  · isplitl [V13 V14 V0 V1 V2]
    · isplitl [V13]; · iexact V13
      isplitl [V14]; · iexact V14
      isplitl [V0]; · iexact V0
      isplitl [V1]; · iexact V1
      iexact V2
    iexact Hs
  iexists W'
  isplitr [HO]; swap; · iexact HO
  ipureintro
  intro p hp
  rcases hW' p hp with h | h
  · exact Or.inl h
  · exact Or.inr (Or.inl h)

/-- The vector sub-cores' program, as the kernel's table of programs gives it. -/
theorem defs_tile (c : Fin τ.nSC) (s : Fin τ.nSub) :
    defs₀ (F := F) (.scVector c s) 0 () = SparseCore.onTile hcore0 hsub0 (fun c s => cc0__sc_body (at2 c s) M0.a2 M0.h2 M0.a3 M0.h3 M0.a4 M0.h4 M0.a5 M0.h5
      M0.a6 M0.h6 M0.a7 M0.h7 M0.a8 M0.h8 M0.a9 M0.h9 M0.a10 M0.h10 M0.a11 M0.h11 M0.a12 M0.h12 M0.a13 M0.a14 M0.r0 M0.r1 M0.r2) ⟨⟩ c s := rfl

/-- What a tile's task leaves is what the launch asks of it. -/
theorem tileObl (hI : I.Ok) : (K (F := F)).TileObl D 𝒱 (P I) v₀ 0 := by
  intro d c s O W hO _ _
  simp only [show (P I).ox = fun _ _ => 0 from rfl, add_zero]
  have hb : ((K (F := F)).core 0 c).val < grid0.bound 0 ∧ ((K (F := F)).sub 0 s).val < grid0.bound 1 := ⟨c.isLt, s.isLt⟩
  change _ ⊢ wp _ _ _ (Pipeline.liftProg (defs₀ (F := F) (.scVector ((K (F := F)).core 0 c) ((K (F := F)).sub 0 s)) 0 ())) _
  refine BI.Entails.trans ?_ (Pipeline.wp_liftProg D (Pipeline.defs_kernel pcfgs defs₀) 𝒱₀ _ Set.univ none _ _)
  rw [defs_tile]
  simp only [SparseCore.onTile, hb, and_self, ↓reduceDIte]
  exact task I hI d c s O W hO

end Cert.KernelIdeal.Sc
-- ==== Proof.Loss.lean ====
/- The TensorCore's call: its proof data, what its body leaves, and what its one write-back makes of the result. -/
module

public import proofs.«01_k».proof.Proof.Task
public import proofs.«01_k».proof.Proof.Gen.KernelIdeal.Points
public import proofs.«01_k».proof.Proof.Gen.KernelIdeal.Skeleton
public import Idealize.ShloMosaic.Lib.Pipeline.FrameTail

@[expose] public section

noncomputable section

namespace Cert.KernelIdeal.Sc

open Cert.KernelIdeal.Gen
open Idealize.ShloMosaic Idealize.ShloMosaic.TcCoe
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- What every buffer of every device holds. -/
abbrev Vals (F : FTy → Type) : Type := Dev nD → Valuation τ sig (Elt F)

/-- The pairs a TensorCore may have recorded before: those of a level up to `b`. -/
def past (b : ℕ) (c : Dev nD) : Set (SemLoc sig × HIx 1) := {p | (K (F := F)).lev (SparseCore.T c, p.1) p.2 ≤ b}

variable (b : ℕ) (X : Vals F)

/-- The products as the call finds them. -/
abbrev xin (c : Dev nD) : Vec F S32x44x128 .f32 := X c (Proc.devRef .tc main_v28)

/-- The call's proof data: its body leaves the products alone and writes their loss. -/
def ldat (c : Dev nD) : Pipeline.Dat τ (Elt F) (HIx 1) ℕ UU ℕ cfg1 c where
  A := fun w => X c (Proc.devRef .tc (Pipeline.arrRef cfg1.spec w))
  after := fun w _ => match w with
    | ⟨0, _⟩ => xin X c
    | ⟨1, _⟩ => fun _ => k1_pay1 (xin X c)
  Φ := fun _ => Pipeline.scopedRest cfg1.spec c
  q := fun _ => fullShare
  owed := fun _ => 0
  recorded := fun _ => past (F := F) b c

/-- The program's one pipeline's data. -/
def ldats (p : Fin 1) (c : Dev nD) : Pipeline.Dat τ (Elt F) (HIx 1) ℕ UU ℕ (cfgs p) c :=
  match p with
  | 0 => ldat b X c

/-- The grid is one point, at index zero in every axis. -/
theorem lidx0 : ∀ t : Fin cfg1.N, win1_0.index t (0 : Fin 3) = 0 ∧ win1_0.index t (1 : Fin 3) = 0 ∧ win1_0.index t (2 : Fin 3) = 0 := by
  decide +kernel

/-- The loss's block is the only one. -/
theorem lidx1 : ∀ t : Fin cfg1.N, win1_1.index t (0 : Fin 2) = 0 ∧ win1_1.index t (1 : Fin 2) = 0 := by decide +kernel

/-- So a block's index is the array's. -/
theorem lemb0 (t : Fin cfg1.N) (j : S32x44x128.Idx) : ((cfg1.win 0).blk t).view.emb j = j := by
  obtain ⟨e0, e1, e2⟩ := lidx0 t
  funext a; apply Fin.ext
  match a with
  | ⟨0, _⟩ => show win1_0.index t (0 : Fin 3) * 32 + 1 * (j 0).val = (j 0).val; omega
  | ⟨1, _⟩ => show win1_0.index t (1 : Fin 3) * 44 + 1 * (j 1).val = (j 1).val; omega
  | ⟨2, _⟩ => show win1_0.index t (2 : Fin 3) * 128 + 1 * (j 2).val = (j 2).val; omega

/-- An index of that block is the same index of the array. -/
theorem lemb1 (t : Fin cfg1.N) (j : S1x1.Idx) : ((cfg1.win 1).blk t).view.emb j = j := by
  obtain ⟨e0, e1⟩ := lidx1 t
  funext a; apply Fin.ext
  match a with
  | ⟨0, _⟩ => show win1_1.index t (0 : Fin 2) * 1 + 1 * (j 0).val = (j 0).val; omega
  | ⟨1, _⟩ => show win1_1.index t (1 : Fin 2) * 1 + 1 * (j 1).val = (j 1).val; omega

/-- The body finds the products in its first buffer. -/
theorem lbefore (c : Dev nD) (t : Fin cfg1.N) (d) : (ldat b X c).before 0 t d = xin X c := by
  unfold Pipeline.Dat.before
  rw [if_pos (fetch1_0 t)]
  funext j
  show X c (Proc.devRef .tc main_v28) (((cfg1.win 0).blk t).view.emb j) = X c (Proc.devRef .tc main_v28) j
  rw [lemb0]

/-- What the point writes back is the loss, wherever in the result. -/
theorem lflushed (c : Dev nD) (t : Fin cfg1.N) :
    (ldat b X c).flushed 1 t = ((cfg1.win 1).blk t).view.read (Elt F) (fun _ : S1x1.Idx => k1_pay1 (xin X c)) := rfl

/-- Every index of the result is in the point's block. -/
theorem lcovered (i : S1x1.Idx) :
    ∃ t : Fin cfg1.N, (cfg1.win 1).flush t = true ∧ i ∈ ((cfg1.win 1).blk t).view.set :=
  ⟨t1_0, flush1_1 _, by
    have h := ((cfg1.win 1).blk t1_0).view.emb_mem_set i; rwa [lemb1] at h⟩

/-- The result after the call: the loss of the products. -/
theorem lfinal (c : Dev nD) : (ldat b X c).arrAt 1 cfg1.N = (fun _ : S1x1.Idx => k1_pay1 (xin X c)) :=
  (ldat b X c).arrAt_eq_of_cover 1 (fun _ : S1x1.Idx => k1_pay1 (xin X c)) (fun t _ => lflushed b X c t) lcovered

/-- Reading a whole buffer through the rectangle of all of it gives what it holds. -/
theorem lread (f : S32x44x128.Idx → Elt F .f32) :
    ((Memref.whole cc1_stg0_0 : Memref sig .tc _ _ _).view.readAt (Elt F) (Rect.unit (s := S32x44x128) ![0, 0, 0] S32x44x128.size inb_S32x44x128_S32x44x128_0_0_0).toLoadRect f)
      = f :=
  View.ld_unit_zero (S := S32x44x128) (e := .f32) (Val := Elt F) (funext fun a => by fin_cases a <;> rfl) _ f

/-- Storing a value through the rectangle of the whole one-word buffer leaves it holding that. -/
theorem lwrite (f : S1x1.Idx → Elt F .f32) (a : F .f32) :
    ((Memref.whole cc1_stg1_0 : Memref sig .tc _ _ _).access (Rect.unit (s := S1x1) ![0, 0] S1x1.size inb_S1x1_S1x1_0_0)).write (Elt F) f (fun _ => a) Finset.univ
      = (fun _ : S1x1.Idx => a) :=
  Memref.write_access_unit_zero_univ (Elt F) cc1_stg1_0 (funext fun a => by fin_cases a <;> rfl) _ f _

/-- The body, from the products in its first buffer to their loss in its second. -/
theorem lbody (c : Dev nD) : Pipeline.BodyObligation (ldat b X c) (defs₀ (F := F)) 𝒱₀ none Set.univ := fun t => by
  rw [fin_N1 t, bigSep_W1, bigSep_W1]
  show iprop(Pipeline.scopedRest spec1 c ∗ (ldat b X c).owesAt none 0
      ∗ (∃ d, owns (c : Thread nD τ) (Memref.whole cc1_stg0_0) fullShare ((ldat b X c).before 0 t1_0 d))
      ∗ (∃ d, owns (c : Thread nD τ) (Memref.whole cc1_stg1_0) fullShare ((ldat b X c).before 1 t1_0 d)))
    ⊢ wp frame (wpE (defs₀ (F := F)) 𝒱₀ c none) Set.univ
      (cc1__tc_loss_body (Memref.whole cc1_stg0_0) (Memref.isWhole_whole _) (Memref.whole cc1_stg1_0) (Memref.isWhole_whole _))
      fun _ => iprop(Pipeline.scopedRest spec1 c ∗ (ldat b X c).owesAt none 0
        ∗ owns (c : Thread nD τ) (Memref.whole cc1_stg0_0) fullShare (xin X c)
        ∗ owns (c : Thread nD τ) (Memref.whole cc1_stg1_0) fullShare (fun _ => k1_pay1 (xin X c)))
  simp only [lbefore]
  simp only [owns_whole_eq]
  rw [cc1__tc_loss_body_eq_skeleton]
  unfold cc1__tc_loss_body_skel smemLoad
  simp only [Prog.bind_op, Prog.bind_ret, Prog.pure_eq_ret, Prog.lift, bind, Bind.bind]
  iintro ⟨HΦ, HO, ⟨%d0, %f, %hf, Hx⟩, ⟨%d1, %g, %hg, Ho⟩⟩
  subst hf
  iapply (wp_load 𝒱₀ (c : Thread nD τ) none Set.univ (m := Memref.whole cc1_stg0_0) (Finset.subset_univ _)) $$ Hx; iintro Hx
  iapply (wp_load_rect 𝒱₀ (c : Thread nD τ) none Set.univ (m := Memref.whole cc1_stg1_0) (r := Rect.unit (s := S1x1) ![0, 0] S1x1.size inb_S1x1_S1x1_0_0) (Finset.subset_univ _)) $$ Ho; iintro Ho
  iapply (wp_store 𝒱₀ (c : Thread nD τ) none Set.univ (m := Memref.whole cc1_stg1_0) (r := Rect.unit (s := S1x1) ![0, 0] S1x1.size inb_S1x1_S1x1_0_0) (Mk := Finset.univ) (Finset.subset_univ _)) $$ Ho; iintro Ho
  dsimp only [Prog.bind]; sl_step
  isplitl [HΦ]; · iexact HΦ
  isplitl [HO]; · iexact HO
  isplitl [Hx]
  · iexists _; isplitr [Hx]; swap; · iexact Hx
    ipureintro; rfl
  · iexists _; isplitr [Ho]; swap; · iexact Ho
    ipureintro
    rw [lread]
    exact lwrite _ _

end Cert.KernelIdeal.Sc

end
-- ==== Proof.Region.lean ====
/- The TensorCore's call as a region of the program: from every buffer of its device to the same with the result at the
   loss of the products. -/
module

public import proofs.«01_k».proof.Proof.Loss

@[expose] public section

noncomputable section

namespace Cert.KernelIdeal.Sc

open Cert.KernelIdeal.Gen
open Idealize.ShloMosaic Idealize.ShloMosaic.TcCoe
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [∀ e, Nonempty (Elt F e)]

local notation "𝕄" => MT nD τ sig (HIx 1) (Elt F) ℕ UU ℕ

/-- No pipeline of the program has run-time tables. -/
abbrev adm (p : Fin 1) : (pcfgs (F := F) p).Adm := (cfgs p).toPCfg_adm

/-- Its staging cells are distinct. -/
theorem pinj : Function.Injective (Pipeline.cellOf (nD := nD) (τ := τ) (Pipeline.pin (pcfgs (F := F)) adm)) :=
  (launch1.toP (Val := Elt F)).cellOf_inj adm

/-- The pipeline's ghost state on one device. -/
def ghost (d : Dev nD) : sProp 𝕄 :=
  iprop(Pipeline.cellsGhost (Pipeline.pin (pcfgs (F := F)) adm) EP 0 d ∗ Pipeline.toksInit (Pipeline.pin (pcfgs (F := F)) adm) EP 0 d)

variable (b : ℕ) (X : Vals F)

/-- Every buffer of a device after the call. -/
def Xend : Vals F := fun c => Pipeline.afterRegion (ldat b X c) (X c)

/-- The core owing nothing, its record of waits below the bound. -/
def owing (c : Dev nD) : sProp 𝕄 :=
  iprop(∃ W, ⌜(K (F := F)).WBelow (SparseCore.T c) W b⌝ ∗ owes (SparseCore.T c) (0 : CellTallies nD τ sig (HIx 1)) W)

/-- Every window of the loss call is held whole. -/
theorem lshare (c : Dev nD) (w : Fin cfg1.W) : (ldat b X c).share w = fullShare := by
  unfold Pipeline.Dat.share
  split <;> rfl

set_option backward.isDefEq.respectTransparency.types false in
/-- The call's region. -/
def region : Pipeline.RegionSeg (pcfgs (F := F)) adm (ldats b X) none defs₀ 𝒱₀ (K (F := F)).L (K (F := F)).lev 0 :=
  { win := (launch1.toP (Val := Elt F)).win.to₀
    block_pos := (launch1.toP (Val := Elt F)).block_pos
    stage_whole := (launch1.toP (Val := Elt F)).stage_whole
    K := PEmpty
    osem := fun k => k.elim
    ho := Pipeline.OwnSemFacts.none _
    hbody := fun c => (lbody b X c).loose
    hwaits := Pipeline.hwaits_of_owed_zero _ _ _ _ _ _ 0 (fun _ _ => rfl)
    pre := fun c => iprop(StableHlo.held (c.tc : Thread nD τ) (Pipeline.ucRefs τ sig) (X c) ∗ owing b c)
    post := fun c => iprop(StableHlo.held (c.tc : Thread nD τ) (Pipeline.ucRefs τ sig) (Xend b X c) ∗ owing b c)
    X := fun _ => iprop(emp)
    Y := fun _ => iprop(emp)
    Z := fun c => Pipeline.unscopedRest cfg1.spec c (fun r => X c (Proc.devRef .tc r))
    hentry := fun c => by
      rw [Pipeline.ownSems0_none,
        show StableHlo.held (c.tc : Thread nD τ) (Pipeline.ucRefs τ sig) (X c) = unscopedBufs c (fun r => X c (Proc.devRef .tc r))
          from (Pipeline.unscopedBufs_held (Ix := HIx 1) (Name := ℕ) (U := UU) (Lvl := ℕ) c (X c)).symm]
      have hsplit := Pipeline.arrays_of_unscopedBufs (p := 0) (pcfgs (F := F)) adm (ldats b X) (launch1.toP (Val := Elt F)).win (launch1.toP (Val := Elt F)).arr_whole c (lshare b X c)
        (fun r => X c (Proc.devRef .tc r)) (fun w => rfl)
      unfold owing
      iintro ⟨⟨Hub, %W, %hW, HO⟩, -, -⟩
      ihave H := hsplit $$ Hub
      icases H with ⟨Ha, Hrest⟩
      imodintro
      isplitl [Ha]; · iexact Ha
      isplitr
      · unfold Pipeline.prefHeld
        iapply (show (BI.emp : sProp 𝕄) ⊢ bigSep (Finset.univ : Finset (Fin 0)) _ from by
          rw [show (Finset.univ : Finset (Fin 0)) = ∅ from rfl, BI.bigSep_empty])
        iempintro
      isplitl [HO]
      · unfold Pipeline.Dat.owesAt Pipeline.owesWithin
        iexists W; isplitr; swap; · iexact HO
        ipureintro; exact fun p hp => Or.inl (hW p hp)
      isplitr; · iempintro
      iexact Hrest
    hin := fun c => (show _ ⊢ Pipeline.scopedRest cfg1.spec c from by
      iintro ⟨-, -, Hr⟩
      iexact Hr)
    hout := fun c => (show Pipeline.scopedRest cfg1.spec c ⊢ _ from by
      rw [Pipeline.ownSems0_none]
      iintro Hr
      isplitr; · iempintro
      isplitr; · iempintro
      iexact Hr)
    hexit := fun c => by
      have hjoin := Pipeline.unscopedBufs_of_arrays (p := 0) (pcfgs (F := F)) adm (Ix := HIx 1) (Name := ℕ) (U := UU) (Lvl := ℕ)
        (launch1.toP (Val := Elt F)).win (launch1.toP (Val := Elt F)).arr_whole c (ldats b X) (lshare b X c)
        (fun r => X c (Proc.devRef .tc r)) (fun r => Xend b X c (Proc.devRef .tc r)) ((ldat b X c).arrAt · cfg1.N)
        (fun w => (Pipeline.afterRegion_arr (ldat b X c) (X c) launch1.win.arr_inj w).symm)
        (fun r hr => Pipeline.afterRegion_of_not_arr (ldat b X c) (X c)
          fun w h => hr (h ▸ Finset.mem_image.mpr ⟨w, Finset.mem_univ _, rfl⟩))
      rw [show StableHlo.held (c.tc : Thread nD τ) (Pipeline.ucRefs τ sig) (Xend b X c) = unscopedBufs c (fun r => Xend b X c (Proc.devRef .tc r))
          from (Pipeline.unscopedBufs_held (Ix := HIx 1) (Name := ℕ) (U := UU) (Lvl := ℕ) c (Xend b X c)).symm]
      unfold owing
      iintro ⟨Ha, HO, -, Hrest⟩
      imodintro
      isplitl [Ha Hrest]
      · iapply hjoin
        isplitl [Ha]; · iexact Ha
        iexact Hrest
      unfold Pipeline.Dat.owesAt Pipeline.owesWithin
      icases HO with ⟨%W, %hW, HO⟩; iexists W; isplitr; swap; · iexact HO
      ipureintro
      intro p hp
      rcases hW hp with h | ⟨w, s, rfl⟩
      · exact h
      · exact Nat.zero_le _ }

/-- The call runs, from every buffer of its device to the same after it. -/
theorem wp_loss (d : Dev nD) {α : Type} (k : PUnit → Prog (TpuEff nD τ sig (Elt F) (ΛP (F := F)) .tc) α) (Q : α → sProp 𝕄) :
    iprop((iprop(boundary (d.tc : Thread nD τ) ∗ StableHlo.held (d.tc : Thread nD τ) (Pipeline.ucRefs τ sig) (Xend b X d) ∗ owing b d)
          -∗ wp frame (wpE D 𝒱 (d.tc : Thread nD τ) none) Set.univ (k ⟨⟩) Q)
        ∗ boundary (d.tc : Thread nD τ)
        ∗ (StableHlo.held (d.tc : Thread nD τ) (Pipeline.ucRefs τ sig) (X d) ∗ owing b d)
        ∗ levAts (K (F := F)).L (K (F := F)).lev ∗ ghost d)
      ⊢ wp frame (wpE D 𝒱 (d.tc : Thread nD τ) none) Set.univ (.op (.customCall (Pipeline.entry 0) ()) k) Q :=
  Pipeline.RegionSeg.wp (pcfgs (F := F)) adm (ldats b X) none pinj EP defs₀ 𝒱₀ (K (F := F)).L (K (F := F)).lev
    (region b X) d none (fun u hu => nomatch hu) k Q

/-- The result after the call. -/
theorem Xend_v29 (c : Dev nD) : Xend b X c (Proc.devRef .tc main_v29) = (fun _ : S1x1.Idx => k1_pay1 (xin X c)) :=
  (Pipeline.afterRegion_arr (ldat b X c) (X c) launch1.win.arr_inj 1).trans (lfinal b X c)

/-- Any buffer that the call does not name stays. -/
theorem Xend_other (c : Dev nD) (r : Ref sig .tc) (h : r ≠ main_v28 ∧ r ≠ main_v29) :
    Xend b X c (Proc.devRef .tc r) = X c (Proc.devRef .tc r) :=
  Pipeline.afterRegion_of_not_arr (ldat b X c) (X c) fun w => match w with
    | ⟨0, _⟩ => h.1
    | ⟨1, _⟩ => h.2

end Cert.KernelIdeal.Sc

end
-- ==== Proof.Call.lean ====
/- What the SparseCore call takes of the device's buffers, and what it gives back. -/
module

public import proofs.«01_k».proof.Proof.Task

@[expose] public section

noncomputable section

namespace Cert.KernelIdeal.Sc

open Cert.KernelIdeal.Gen
open Idealize.ShloMosaic Idealize.ShloMosaic.TcCoe
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

/-- What stays of a buffer that every tile has a share of. -/
def left (ℓ : Loc nD τ sig) (f : Buf (Elt F) ℓ) : sProp 𝕄 :=
  iprop((ℓ ↦{Transfers.shareDrop fullShare 2} f)
    ∗ bigSep Finset.univ fun c : Fin 2 => ℓ ↦{Transfers.shareDrop (Transfers.shareTok fullShare 2 c) 16} f)

/-- A whole buffer is every tile's share and what stays. -/
theorem shared {ℓ : Loc nD τ sig} (f : Buf (Elt F) ℓ) :
    (ℓ ↦{fullShare} f : sProp 𝕄)
      ⊣⊢ iprop((bigSep Finset.univ fun c : Fin 2 => bigSep Finset.univ fun s : Fin 16 => ℓ ↦{tq c s} f) ∗ left ℓ f) := by
  constructor
  · refine (Transfers.pointsTo_toks_split fullShare 2).trans ?_
    refine (sep_mono_right (bigSep_mono fun c _ => Transfers.pointsTo_toks_split _ 16)).trans ?_
    rw [bigSep_sep']
    unfold left
    iintro ⟨H, Ha, Hb⟩
    isplitl [Hb]; · iexact Hb
    isplitl [H] <;> iassumption
  · refine BIBase.Entails.trans ?_ (Transfers.pointsTo_toks_join fullShare 2)
    refine BIBase.Entails.trans ?_ (sep_mono_right (bigSep_mono fun c _ => Transfers.pointsTo_toks_join _ 16))
    rw [bigSep_sep']
    unfold left
    iintro ⟨Hb, H, Ha⟩
    isplitl [H]; · iexact H
    isplitl [Ha]; · iexact Ha
    iexact Hb

variable (I : Ins F) (d : Dev nD)

/-- The lists and the products are the tiles' rows. -/
theorem parts26 (f : Buf (Elt F) (l26 d)) : (l26 d ↦{fullShare} f : sProp 𝕄)
    = bigSep Finset.univ fun c : Fin 2 => bigSep Finset.univ fun s : Fin 16 => l26 d ↦[R26 d c s]{fullShare} f :=
  parts f (R26 d)
    (fun y => by
      obtain ⟨c, s, h⟩ := row_some (show ((y : S32x48x128.Idx) 0).val < 32 from ((y : S32x48x128.Idx) 0).isLt)
      exact ⟨c, s, (mem_row4 (at2 c s) y).mpr h⟩)
    (fun y c s c' s' h h' => row_one (((mem_row4 (at2 c s) y).mp h).symm.trans ((mem_row4 (at2 c' s') y).mp h')))

/-- The columns' buffer is the tiles' rows of it together. -/
theorem parts27 (f : Buf (Elt F) (l27 d)) : (l27 d ↦{fullShare} f : sProp 𝕄)
    = bigSep Finset.univ fun c : Fin 2 => bigSep Finset.univ fun s : Fin 16 => l27 d ↦[R27 d c s]{fullShare} f :=
  parts f (R27 d)
    (fun y => by
      obtain ⟨c, s, h⟩ := row_some (show ((y : S32x48x128.Idx) 0).val < 32 from ((y : S32x48x128.Idx) 0).isLt)
      exact ⟨c, s, (mem_row5 (at2 c s) y).mpr h⟩)
    (fun y c s c' s' h h' => row_one (((mem_row5 (at2 c s) y).mp h).symm.trans ((mem_row5 (at2 c' s') y).mp h')))

/-- The products' buffer is the tiles' rows of it together. -/
theorem parts28 (f : Buf (Elt F) (l28 d)) : (l28 d ↦{fullShare} f : sProp 𝕄)
    = bigSep Finset.univ fun c : Fin 2 => bigSep Finset.univ fun s : Fin 16 => l28 d ↦[R28 d c s]{fullShare} f :=
  parts f (R28 d)
    (fun y => by
      obtain ⟨c, s, h⟩ := row_some (show ((y : S32x44x128.Idx) 0).val < 32 from ((y : S32x44x128.Idx) 0).isLt)
      exact ⟨c, s, (mem_row6 (at2 c s) y).mpr h⟩)
    (fun y c s c' s' h h' => row_one (((mem_row6 (at2 c s) y).mp h).symm.trans ((mem_row6 (at2 c' s') y).mp h')))

/-- The five buffers of the call, the products holding `f`. -/
def five (f : Buf (Elt F) (l28 d)) : sProp 𝕄 :=
  iprop((l0 d ↦{fullShare} I.t0 d) ∗ (l1 d ↦{fullShare} I.t1 d) ∗ (l26 d ↦{fullShare} I.f4 d) ∗ (l27 d ↦{fullShare} I.f5 d)
    ∗ (l28 d ↦{fullShare} f))

/-- All the tiles' pieces: their shares of the tables, their rows of the lists. -/
theorem ins_all : (bigSep Finset.univ fun c : Fin 2 => bigSep Finset.univ fun s : Fin 16 => In I d c s : sProp 𝕄)
    = iprop((bigSep Finset.univ fun c : Fin 2 => bigSep Finset.univ fun s : Fin 16 => l0 d ↦{tq c s} I.t0 d)
      ∗ (bigSep Finset.univ fun c : Fin 2 => bigSep Finset.univ fun s : Fin 16 => l1 d ↦{tq c s} I.t1 d)
      ∗ (l26 d ↦{fullShare} I.f4 d) ∗ (l27 d ↦{fullShare} I.f5 d)) := by
  unfold In
  simp only [bigSep_sep']
  rw [← parts26, ← parts27]

/-- A tile's rows of a buffer are room for its products. -/
theorem room_of (f : Buf (Elt F) (l28 d)) (c : Fin 2) (s : Fin 16) : (l28 d ↦[R28 d c s]{fullShare} f : sProp 𝕄) ⊢ Room d c s := by
  unfold Room
  iintro H; iexists f; iexact H

/-- The call's pieces out of the buffers, -/
theorem call_in (f : Buf (Elt F) (l28 d)) :
    five I d f ⊢ iprop((bigSep Finset.univ fun c : Fin 2 => bigSep Finset.univ fun s : Fin 16 => iprop(In I d c s ∗ Room d c s))
      ∗ left (l0 d) (I.t0 d) ∗ left (l1 d) (I.t1 d)) := by
  simp only [bigSep_sep']
  rw [ins_all]
  have h28 : (l28 d ↦{fullShare} f : sProp 𝕄) ⊢ bigSep Finset.univ fun c : Fin 2 => bigSep Finset.univ fun s : Fin 16 => Room d c s := by
    rw [parts28]
    exact bigSep_mono fun c _ => bigSep_mono fun s _ => room_of d f c s
  unfold five
  iintro ⟨H0, H1, H26, H27, H28⟩
  ihave A := ((shared (I.t0 d)).1) $$ H0
  icases A with ⟨H0, L0⟩
  ihave A := ((shared (I.t1 d)).1) $$ H1
  icases A with ⟨H1, L1⟩
  ihave A := h28 $$ H28
  isplitr [L0 L1]
  · isplitr [A]
    · isplitl [H0]; · iexact H0
      isplitl [H1]; · iexact H1
      isplitl [H26] <;> iassumption
    · iexact A
  · isplitl [L0] <;> iassumption

/-- and the buffers out of its results. -/
theorem call_out :
    iprop((bigSep Finset.univ fun c : Fin 2 => bigSep Finset.univ fun s : Fin 16 => iprop(In I d c s ∗ Made I d c s))
      ∗ left (l0 d) (I.t0 d) ∗ left (l1 d) (I.t1 d)) ⊢ five I d (prods I d) := by
  simp only [bigSep_sep']
  rw [ins_all]
  have h28 : (bigSep Finset.univ fun c : Fin 2 => bigSep Finset.univ fun s : Fin 16 => Made I d c s : sProp 𝕄) ⊢ (l28 d ↦{fullShare} prods I d) := by
    rw [parts28]
    exact .rfl
  unfold five
  iintro ⟨⟨⟨H0, H1, H26, H27⟩, A⟩, L0, L1⟩
  isplitl [H0 L0]
  · iapply (shared (I.t0 d)).2; isplitl [H0] <;> iassumption
  isplitl [H1 L1]
  · iapply (shared (I.t1 d)).2; isplitl [H1] <;> iassumption
  isplitl [H26]; · iexact H26
  isplitl [H27]; · iexact H27
  iapply h28; iexact A

end Cert.KernelIdeal.Sc

end
-- ==== Proof.Host.lean ====
/- The host's operations before the SparseCore call, as a list, and @main as that list and the rest. -/
module

public import proofs.«01_k».proof.Proof.Region
public import proofs.«01_k».proof.Proof.Call
public import Idealize.ShloMosaic.Lib.StableHlo.RunRead

@[expose] public section

noncomputable section

namespace Cert.KernelIdeal.Sc

open Cert.KernelIdeal.Gen
open Idealize.ShloMosaic Idealize.ShloMosaic.TcCoe
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

/-- The operations before the call: the tables' and the index arrays' other shapes, the rows and the offsets. -/
def hostOps : List (HloOp τ sig (Elt F)) :=
  [ StableHlo.reshape main_arg3 main_v0 (rfl : (.f32 : EltTy) = .f32) shapeCasts_S1000000x16_S125000x128,
    StableHlo.reshape main_arg4 main_v1 (rfl : (.f32 : EltTy) = .f32) shapeCasts_S1000000x16_S125000x128,
    StableHlo.unary main_arg2 main_v2 ((transpose S10x16384 [1, 0] · transposes_S16384x10_S10x16384_1_0) : (⟨S16384x10, .i32⟩ : BufTy).Contents (Elt F) → (⟨S10x16384, .i32⟩ : BufTy).Contents (Elt F)),
    StableHlo.reshape main_arg0 main_v3 (rfl : (.i32 : EltTy) = .i32) shapeCasts_S16384_S32x4x128,
    StableHlo.nullary main_c (constantI S_ 32 3#32),
    StableHlo.unary main_c main_v4 (broadcastInDim S32x4x128 ![] bcast_S_S32x4x128 : (⟨S_, .i32⟩ : BufTy).Contents (Elt F) → (⟨S32x4x128, .i32⟩ : BufTy).Contents (Elt F)),
    StableHlo.binary main_v3 main_v4 main_v5 (Host.shrsi : (⟨S32x4x128, .i32⟩ : BufTy).Contents (Elt F) → (⟨S32x4x128, .i32⟩ : BufTy).Contents (Elt F) → (⟨S32x4x128, .i32⟩ : BufTy).Contents (Elt F)),
    StableHlo.nullary main_c_0 (constantI S_ 32 7#32),
    StableHlo.unary main_c_0 main_v6 (broadcastInDim S32x4x128 ![] bcast_S_S32x4x128 : (⟨S_, .i32⟩ : BufTy).Contents (Elt F) → (⟨S32x4x128, .i32⟩ : BufTy).Contents (Elt F)),
    StableHlo.binary main_v3 main_v6 main_v7 (andi : (⟨S32x4x128, .i32⟩ : BufTy).Contents (Elt F) → (⟨S32x4x128, .i32⟩ : BufTy).Contents (Elt F) → (⟨S32x4x128, .i32⟩ : BufTy).Contents (Elt F)),
    StableHlo.nullary main_c_1 (constantI S_ 32 4#32),
    StableHlo.unary main_c_1 main_v8 (broadcastInDim S32x4x128 ![] bcast_S_S32x4x128 : (⟨S_, .i32⟩ : BufTy).Contents (Elt F) → (⟨S32x4x128, .i32⟩ : BufTy).Contents (Elt F)),
    StableHlo.binary main_v7 main_v8 main_v9 (Host.shli : (⟨S32x4x128, .i32⟩ : BufTy).Contents (Elt F) → (⟨S32x4x128, .i32⟩ : BufTy).Contents (Elt F) → (⟨S32x4x128, .i32⟩ : BufTy).Contents (Elt F)),
    StableHlo.reshape main_arg1 main_v10 (rfl : (.i32 : EltTy) = .i32) shapeCasts_S16384_S32x4x128,
    StableHlo.nullary main_c_2 (constantI S_ 32 3#32),
    StableHlo.unary main_c_2 main_v11 (broadcastInDim S32x4x128 ![] bcast_S_S32x4x128 : (⟨S_, .i32⟩ : BufTy).Contents (Elt F) → (⟨S32x4x128, .i32⟩ : BufTy).Contents (Elt F)),
    StableHlo.binary main_v10 main_v11 main_v12 (Host.shrsi : (⟨S32x4x128, .i32⟩ : BufTy).Contents (Elt F) → (⟨S32x4x128, .i32⟩ : BufTy).Contents (Elt F) → (⟨S32x4x128, .i32⟩ : BufTy).Contents (Elt F)),
    StableHlo.nullary main_c_3 (constantI S_ 32 7#32),
    StableHlo.unary main_c_3 main_v13 (broadcastInDim S32x4x128 ![] bcast_S_S32x4x128 : (⟨S_, .i32⟩ : BufTy).Contents (Elt F) → (⟨S32x4x128, .i32⟩ : BufTy).Contents (Elt F)),
    StableHlo.binary main_v10 main_v13 main_v14 (andi : (⟨S32x4x128, .i32⟩ : BufTy).Contents (Elt F) → (⟨S32x4x128, .i32⟩ : BufTy).Contents (Elt F) → (⟨S32x4x128, .i32⟩ : BufTy).Contents (Elt F)),
    StableHlo.nullary main_c_4 (constantI S_ 32 4#32),
    StableHlo.unary main_c_4 main_v15 (broadcastInDim S32x4x128 ![] bcast_S_S32x4x128 : (⟨S_, .i32⟩ : BufTy).Contents (Elt F) → (⟨S32x4x128, .i32⟩ : BufTy).Contents (Elt F)),
    StableHlo.binary main_v14 main_v15 main_v16 (Host.shli : (⟨S32x4x128, .i32⟩ : BufTy).Contents (Elt F) → (⟨S32x4x128, .i32⟩ : BufTy).Contents (Elt F) → (⟨S32x4x128, .i32⟩ : BufTy).Contents (Elt F)),
    StableHlo.reshape main_v2 main_v17 (rfl : (.i32 : EltTy) = .i32) shapeCasts_S10x16384_S10x32x4x128,
    StableHlo.unary main_v17 main_v18 ((transpose S32x10x4x128 [1, 0, 2, 3] · transposes_S10x32x4x128_S32x10x4x128_1_0_2_3) : (⟨S10x32x4x128, .i32⟩ : BufTy).Contents (Elt F) → (⟨S32x10x4x128, .i32⟩ : BufTy).Contents (Elt F)),
    StableHlo.reshape main_v18 main_v19 (rfl : (.i32 : EltTy) = .i32) shapeCasts_S32x10x4x128_S32x40x128,
    StableHlo.nullary main_c_5 (constantI S_ 32 3#32),
    StableHlo.unary main_c_5 main_v20 (broadcastInDim S32x40x128 ![] bcast_S_S32x40x128 : (⟨S_, .i32⟩ : BufTy).Contents (Elt F) → (⟨S32x40x128, .i32⟩ : BufTy).Contents (Elt F)),
    StableHlo.binary main_v19 main_v20 main_v21 (Host.shrsi : (⟨S32x40x128, .i32⟩ : BufTy).Contents (Elt F) → (⟨S32x40x128, .i32⟩ : BufTy).Contents (Elt F) → (⟨S32x40x128, .i32⟩ : BufTy).Contents (Elt F)),
    StableHlo.nullary main_c_6 (constantI S_ 32 7#32),
    StableHlo.unary main_c_6 main_v22 (broadcastInDim S32x40x128 ![] bcast_S_S32x40x128 : (⟨S_, .i32⟩ : BufTy).Contents (Elt F) → (⟨S32x40x128, .i32⟩ : BufTy).Contents (Elt F)),
    StableHlo.binary main_v19 main_v22 main_v23 (andi : (⟨S32x40x128, .i32⟩ : BufTy).Contents (Elt F) → (⟨S32x40x128, .i32⟩ : BufTy).Contents (Elt F) → (⟨S32x40x128, .i32⟩ : BufTy).Contents (Elt F)),
    StableHlo.nullary main_c_7 (constantI S_ 32 4#32),
    StableHlo.unary main_c_7 main_v24 (broadcastInDim S32x40x128 ![] bcast_S_S32x40x128 : (⟨S_, .i32⟩ : BufTy).Contents (Elt F) → (⟨S32x40x128, .i32⟩ : BufTy).Contents (Elt F)),
    StableHlo.binary main_v23 main_v24 main_v25 (Host.shli : (⟨S32x40x128, .i32⟩ : BufTy).Contents (Elt F) → (⟨S32x40x128, .i32⟩ : BufTy).Contents (Elt F) → (⟨S32x40x128, .i32⟩ : BufTy).Contents (Elt F)),
    StableHlo.nary ![main_v5, main_v12, main_v21] main_v26 (fun u => (concatenate S32x48x128 1 [⟨S32x4x128, (u 0 : (⟨S32x4x128, .i32⟩ : BufTy).Contents (Elt F))⟩, ⟨S32x4x128, (u 1 : (⟨S32x4x128, .i32⟩ : BufTy).Contents (Elt F))⟩, ⟨S32x40x128, (u 2 : (⟨S32x40x128, .i32⟩ : BufTy).Contents (Elt F))⟩] concatenates_S32x4x128_S32x4x128_S32x40x128_S32x48x128_d1 : (⟨S32x48x128, .i32⟩ : BufTy).Contents (Elt F))),
    StableHlo.nary ![main_v9, main_v16, main_v25] main_v27 (fun u => (concatenate S32x48x128 1 [⟨S32x4x128, (u 0 : (⟨S32x4x128, .i32⟩ : BufTy).Contents (Elt F))⟩, ⟨S32x4x128, (u 1 : (⟨S32x4x128, .i32⟩ : BufTy).Contents (Elt F))⟩, ⟨S32x40x128, (u 2 : (⟨S32x40x128, .i32⟩ : BufTy).Contents (Elt F))⟩] concatenates_S32x4x128_S32x4x128_S32x40x128_S32x48x128_d1 : (⟨S32x48x128, .i32⟩ : BufTy).Contents (Elt F))) ]

/-- @main after them: the SparseCore call, the TensorCore's, the result's other shape. -/
def mainTail (d : Dev nD) : Prog (TpuEff nD τ sig (Elt F) (SparseCore.Sig (ΛP (F := F)) 1) .tc) PUnit := do
  sc.run d 0
  Prog.lift (.customCall (SparseCore.inner (Pipeline.entry 0)) ())
  hlo rfl (StableHlo.reshape main_v29 main_v30 (rfl : (.f32 : EltTy) = .f32) shapeCasts_S1x1_S_) (fun _ => .ret ⟨⟩)
  pure ⟨⟩

/-- The program is its host operations, then the calls. -/
theorem main_eq (d : Dev nD) : main (F := F) d = (StableHlo.seq hostOps >>= fun _ => mainTail d) := by
  rw [StableHlo.seq_bind_seqK]; rfl

/-- Every operation's buffers are the TensorCore's, none scoped, -/
theorem hostOps_sub : ∀ op ∈ hostOps (F := F), op.bufs ⊆ Pipeline.ucRefs τ sig := by
  intro op h
  refine Pipeline.sub_ucRefs op ?_
  revert op
  refine List.forall_iff_forall_mem.mp ?_
  unfold hostOps
  simp only [List.Forall, StableHlo.reshape_bufs_sub, StableHlo.nullary_bufs_sub, StableHlo.unary_bufs_sub, StableHlo.binary_bufs_sub,
    StableHlo.nary_bufs_sub, and_self]

/-- and each determines its results. -/
theorem hostOps_fresh : ∀ op ∈ hostOps (F := F), op.fresh = ∅ := by
  intro _ h; (repeat (cases h with | head => rfl | tail _ h => ?_)); exact nomatch h

/-- What they leave, from the launch's memory. -/
def V₁ (m : (ℓ : Loc nD τ sig) → Buf (Elt F) ℓ) : Vals F := fun d => StableHlo.after hostOps (StableHlo.launchContents m d)

end Cert.KernelIdeal.Sc

end
-- ==== Proof.Main.lean ====
/- The TensorCore's program from the launch to its end: the host's operations, the SparseCore call, the TensorCore call,
   the result's other shape. -/
module

public import proofs.«01_k».proof.Proof.Host

@[expose] public section

noncomputable section

namespace Cert.KernelIdeal.Sc

open Cert.KernelIdeal.Gen
open Idealize.ShloMosaic Idealize.ShloMosaic.TcCoe
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic Idealize.ShloMosaic.ValueIdx

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- What the SparseCore call finds in its four inputs. -/
def ins : Ins F where
  t0 d := V₁ m d (Proc.devRef .tc main_v0)
  t1 d := V₁ m d (Proc.devRef .tc main_v1)
  f4 d := V₁ m d (Proc.devRef .tc main_v26)
  f5 d := V₁ m d (Proc.devRef .tc main_v27)

/-- The buffers after the SparseCore call: the products are in. -/
def V₂ : Vals F := fun d => Function.update (V₁ m d) (Proc.devRef .tc main_v28) (prods (ins m) d)

/-- The last operation: the loss read as a scalar. -/
def lastOps : List (HloOp τ sig (Elt F)) :=
  [StableHlo.reshape main_v29 main_v30 (rfl : (.f32 : EltTy) = .f32) shapeCasts_S1x1_S_]

/-- The buffers at the end. -/
def V₄ : Vals F := fun d => StableHlo.after lastOps (Xend 8 (V₂ m) d)

/-- The five buffers of the SparseCore call. -/
def callRefs : Finset (DevRef τ sig) :=
  {Proc.devRef .tc main_v0, Proc.devRef .tc main_v1, Proc.devRef .tc main_v26, Proc.devRef .tc main_v27, Proc.devRef .tc main_v28}

/-- The call's buffers are the host's. -/
theorem callRefs_sub : callRefs ⊆ Pipeline.ucRefs τ sig := by
  intro b hb
  simp only [callRefs, Finset.mem_insert, Finset.mem_singleton] at hb
  rcases hb with rfl | rfl | rfl | rfl | rfl <;> exact Pipeline.devRef_mem_ucRefs (by decide)

/-- The call's buffers held are the five of them, each whole. -/
theorem held_five (d : Dev nD) (f : Buf (Elt F) (l28 d)) :
    (StableHlo.held d.tc callRefs (Function.update (V₁ m d) (Proc.devRef .tc main_v28) f) : sProp 𝕄) = five (ins m) d f := by
  have hne : ∀ b b' : Ref sig .tc, b ≠ b' → Proc.devRef (τ := τ) .tc b ≠ Proc.devRef .tc b' :=
    fun b b' h e => h (Proc.devRef_injective _ e)
  have h1 : ∀ b b' : Ref sig .tc, b ≠ b' → (Proc.devRef (τ := τ) .tc b = Proc.devRef .tc b') = False :=
    fun b b' h => eq_false (hne b b' h)
  unfold StableHlo.held callRefs five
  rw [SparseCore.bigSep_insert' (by simp only [Finset.mem_insert, Finset.mem_singleton, h1 main_v0 main_v1 (by decide), h1 main_v0 main_v26 (by decide), h1 main_v0 main_v27 (by decide), h1 main_v0 main_v28 (by decide), or_self, not_false_eq_true]),
    SparseCore.bigSep_insert' (by simp only [Finset.mem_insert, Finset.mem_singleton, h1 main_v1 main_v26 (by decide), h1 main_v1 main_v27 (by decide), h1 main_v1 main_v28 (by decide), or_self, not_false_eq_true]),
    SparseCore.bigSep_insert' (by simp only [Finset.mem_insert, Finset.mem_singleton, h1 main_v26 main_v27 (by decide), h1 main_v26 main_v28 (by decide), or_self, not_false_eq_true]),
    SparseCore.bigSep_insert' (by simp only [Finset.mem_singleton, h1 main_v27 main_v28 (by decide), not_false_eq_true]),
    bigSep_singleton,
    Function.update_of_ne (hne main_v0 main_v28 (by decide)), Function.update_of_ne (hne main_v1 main_v28 (by decide)),
    Function.update_of_ne (hne main_v26 main_v28 (by decide)), Function.update_of_ne (hne main_v27 main_v28 (by decide)),
    Function.update_self]
  rfl

/-- The buffers before the call are its five and the rest, -/
theorem held_before (d : Dev nD) :
    (StableHlo.held d.tc (Pipeline.ucRefs τ sig) (V₁ m d) : sProp 𝕄)
      = iprop(five (ins m) d (V₁ m d (Proc.devRef .tc main_v28)) ∗ StableHlo.held d.tc (Pipeline.ucRefs τ sig \ callRefs) (V₁ m d)) := by
  rw [StableHlo.held_sub_split d.tc callRefs_sub, ← held_five, Function.update_eq_self]

/-- and those after it its five with the products in, and the same rest. -/
theorem held_after (d : Dev nD) :
    (StableHlo.held d.tc (Pipeline.ucRefs τ sig) (V₂ m d) : sProp 𝕄)
      = iprop(five (ins m) d (prods (ins m) d) ∗ StableHlo.held d.tc (Pipeline.ucRefs τ sig \ callRefs) (V₁ m d)) := by
  rw [StableHlo.held_sub_split d.tc callRefs_sub, ← held_five]
  refine congrArg _ (StableHlo.held_congr d.tc fun b hb => Function.update_of_ne ?_ _ _)
  rintro rfl
  exact (Finset.mem_sdiff.mp hb).2 (by simp only [callRefs, Finset.mem_insert, Finset.mem_singleton, or_true])

/-- So are those of the operations after the calls, -/
theorem lastOps_sub : ∀ op ∈ lastOps (F := F), op.bufs ⊆ Pipeline.ucRefs τ sig := by
  intro op h
  refine Pipeline.sub_ucRefs op ?_
  revert op
  refine List.forall_iff_forall_mem.mp ?_
  unfold lastOps
  simp only [List.Forall, StableHlo.reshape_bufs_sub]

/-- which allocate none. -/
theorem lastOps_fresh : ∀ op ∈ lastOps (F := F), op.fresh = ∅ := by
  intro _ h; (repeat (cases h with | head => rfl | tail _ h => ?_)); exact nomatch h

/-- The TensorCore call and what follows it. -/
def afterSc : Prog (TpuEff nD τ sig (Elt F) (SparseCore.Sig (ΛP (F := F)) 1) .tc) PUnit :=
  SparseCore.liftProg (.op (.customCall (Pipeline.entry 0) ()) .ret) >>= fun _ => StableHlo.seq lastOps >>= fun _ => .ret ⟨⟩

/-- The rest of the program is the SparseCore call, then what follows. -/
theorem mainTail_eq (d : Dev nD) : mainTail (F := F) d = ((K (F := F)).run d 0 >>= fun _ => afterSc) := rfl

/-- The last operation runs on the buffers the TensorCore call leaves. -/
theorem wp_last (d : Dev nD) (V : Valuation τ sig (Elt F)) :
    (iprop(boundary d.tc ∗ StableHlo.held d.tc (Pipeline.ucRefs τ sig) V ∗ owing 8 d) : sProp 𝕄)
      ⊢ wp frame (wpE ((K (F := F)).defs D) 𝒱 (SparseCore.T d) none) Set.univ
          (StableHlo.seq lastOps >>= fun _ => (.ret ⟨⟩ : Prog (TpuEff nD τ sig (Elt F) (SparseCore.Sig (ΛP (F := F)) 1) .tc) PUnit))
          fun _ => iprop(boundary d.tc ∗ StableHlo.held d.tc (Pipeline.ucRefs τ sig) (StableHlo.after lastOps V) ∗ owing 8 d) := by
  iintro ⟨Hb, Hh, Ho⟩
  iapply (StableHlo.wp_seq (defs := (K (F := F)).defs D) 𝒱 none Set.univ d (Pipeline.ucRefs τ sig) (fun _ => .ret ⟨⟩) lastOps lastOps_sub lastOps_fresh V) $$ [Hb Hh]
  · isplitl [Hb]; · iexact Hb
    iexact Hh
  iintro ⟨Hb, Hh⟩
  sl_step
  isplitl [Hb]; · iexact Hb
  isplitl [Hh]; · iexact Hh
  iexact Ho

/-- After the SparseCore call: the TensorCore call, then the last operation. -/
theorem wp_afterSc (d : Dev nD) (X : Vals F) :
    (iprop(boundary d.tc ∗ StableHlo.held d.tc (Pipeline.ucRefs τ sig) (X d) ∗ owing 8 d
        ∗ levAts (K (F := F)).L (K (F := F)).lev ∗ ghost d) : sProp 𝕄)
      ⊢ wp frame (wpE ((K (F := F)).defs D) 𝒱 (SparseCore.T d) none) Set.univ afterSc
          fun _ => iprop(boundary d.tc ∗ StableHlo.held d.tc (Pipeline.ucRefs τ sig) (StableHlo.after lastOps (Xend 8 X d)) ∗ owing 8 d) := by
  unfold afterSc
  rw [wp_bind]
  refine BIBase.Entails.trans ?_ ((K (F := F)).wp_liftProg D 𝒱 (SparseCore.T d) Set.univ none _ _)
  iintro ⟨Hb, Hh, Ho, Hl, Hg⟩
  iapply (wp_loss 8 X d)
  isplitr [Hb Hh Ho Hl Hg]
  · iintro ⟨Hb, Hh, Ho⟩
    sl_step
    iapply (wp_last d (Xend 8 X d))
    isplitl [Hb]; · iexact Hb
    isplitl [Hh]; · iexact Hh
    iexact Ho
  isplitl [Hb]; · iexact Hb
  isplitl [Hh Ho]
  · isplitl [Hh]; · iexact Hh
    iexact Ho
  isplitl [Hl]; · iexact Hl
  iexact Hg

/-- What the TensorCore's state after the call holds beside what it owes. -/
def tcRest (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the call the TensorCore owes nothing. -/
theorem tcSt_one (d : Dev nD) : ((K (F := F)).tcSt EH d 1 : sProp 𝕄) = iprop(owing 8 d ∗ tcRest d) := by
  unfold SparseCore.Cfg.tcSt owing
  rw [(K (F := F)).Otc_end d (le_refl 1)]
  rfl

/-- What @main leaves beside the launch's own: the buffers at their last contents. -/
def FIN (d : Dev nD) : sProp 𝕄 := StableHlo.held d.tc (Pipeline.ucRefs τ sig) (V₄ m d)

/-- What the SparseCore call takes, over its SparseCores, -/
theorem st_eq (d : Dev nD) :
    (bigSep Finset.univ fun c => (P (ins m)).st 0 d c : sProp 𝕄)
      = bigSep Finset.univ fun c : Fin 2 => bigSep Finset.univ fun s : Fin 16 => iprop(In (ins m) d c s ∗ Room d c s) := rfl

/-- and what it gives back. -/
theorem dn_eq (d : Dev nD) :
    (bigSep Finset.univ fun c => (P (ins m)).dn 0 d c : sProp 𝕄)
      = bigSep Finset.univ fun c : Fin 2 => bigSep Finset.univ fun s : Fin 16 => iprop(In (ins m) d c s ∗ Made (ins m) d c s) := rfl

/-- From the call on. -/
theorem wp_mainTail (κ : GSem nD τ sig → ℕ) (d : Dev nD) :
    iprop((K (F := F)).ctx EH (P (ins m)) κ ∗ (K (F := F)).tcSt EH d 0 ∗ boundary d.tc
        ∗ StableHlo.held d.tc (Pipeline.ucRefs τ sig) (V₁ m d) ∗ ghost d)
      ⊢ wp frame (wpE ((K (F := F)).defs D) 𝒱 (SparseCore.T d) none) Set.univ (mainTail d)
          fun _ => iprop((K (F := F)).tcSt EH d 1 ∗ FIN m d ∗ boundary d.tc) := by
  rw [mainTail_eq, wp_bind, held_before]
  iintro ⟨#Hctx, Hst, Hb, ⟨Hf, Hr⟩, Hg⟩
  ihave Hf := (call_in (ins m) d _) $$ Hf
  icases Hf with ⟨Hin, HL0, HL1⟩
  iapply ((K (F := F)).wp_run D 𝒱 (EH := EH) (P := P (ins m)) κ d 0) $$ [Hst Hin Hb Hr HL0 HL1 Hg]
  isplitl []; · iexact Hctx
  isplitl [Hst]; · iexact Hst
  isplitl [Hin]
  · iapply (Entails.of_eq (st_eq m d).symm); iexact Hin
  iintro ⟨Hst, Hout⟩
  ihave Hout := (Entails.of_eq (dn_eq m d)) $$ Hout
  ihave Hf := (call_out (ins m) d) $$ [Hout HL0 HL1]
  · isplitl [Hout]; · iexact Hout
    isplitl [HL0]; · iexact HL0
    iexact HL1
  ihave Hst := (show ((K (F := F)).tcSt EH d (((0 : Fin 1) : ℕ) + 1) : sProp 𝕄) ⊢ iprop(owing 8 d ∗ tcRest d) from Entails.of_eq (tcSt_one d)) $$ Hst
  icases Hst with ⟨Ho, Hst⟩
  ihave Hh := (Entails.of_eq (held_after m d).symm) $$ [Hf Hr]
  · isplitl [Hf]; · iexact Hf
    iexact Hr
  ihave Hl := ((K (F := F)).ctx_levAts κ) $$ Hctx
  iapply (wp_wand frame (wpE ((K (F := F)).defs D) 𝒱 (SparseCore.T d) none) Set.univ
    (Q := fun _ => iprop(boundary d.tc ∗ StableHlo.held d.tc (Pipeline.ucRefs τ sig) (StableHlo.after lastOps (Xend 8 (V₂ m) d)) ∗ owing 8 d))) $$ [Hb Hh Ho Hl Hg]
  · iapply (wp_afterSc d (V₂ m))
    isplitl [Hb]; · iexact Hb
    isplitl [Hh]; · iexact Hh
    isplitl [Ho]; · iexact Ho
    isplitl [Hl]; · iexact Hl
    iexact Hg
  iintro %_ ⟨Hb, Hh, Ho⟩
  isplitl [Ho Hst]
  · iapply (Entails.of_eq (tcSt_one d).symm)
    isplitl [Ho]; · iexact Ho
    iexact Hst
  isplitl [Hh]
  · unfold FIN V₄; iexact Hh
  iexact Hb

/-- The TensorCore's program. -/
theorem hmain (κ : GSem nD τ sig → ℕ) (d : Dev nD) :
    iprop((K (F := F)).ctx EH (P (ins m)) κ ∗ (K (F := F)).tcSt EH d 0 ∗ (K (F := F)).tcRes m ρ d ∗ ghost d)
      ⊢ wp frame (wpE ((K (F := F)).defs D) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  iintro ⟨#Hctx, Hst, ⟨Hb, Hu, Hs, -⟩, Hg⟩
  ihave Hu := (show (unscopedBufs d (fun b => m ((SparseCore.T d).loc b)) : sProp 𝕄)
      ⊢ StableHlo.held d.tc (Pipeline.ucRefs τ sig) (StableHlo.launchContents m d) from
    Entails.of_eq (Pipeline.unscopedBufs_held d (StableHlo.launchContents m d))) $$ Hu
  iapply (StableHlo.wp_seq (defs := (K (F := F)).defs D) 𝒱 none Set.univ d (Pipeline.ucRefs τ sig) (fun _ => mainTail d) hostOps hostOps_sub hostOps_fresh
    (StableHlo.launchContents m d)) $$ [Hb Hu]
  · isplitl [Hb]; · iexact Hb
    iexact Hu
  iintro ⟨Hb, Hh⟩
  iapply (wp_wand frame (wpE ((K (F := F)).defs D) 𝒱 (SparseCore.T d) none) Set.univ
    (Q := fun _ => iprop((K (F := F)).tcSt EH d 1 ∗ FIN m d ∗ boundary d.tc))) $$ [Hst Hb Hh Hg]
  · iapply (wp_mainTail m κ d)
    isplitl []; · iexact Hctx
    isplitl [Hst]; · iexact Hst
    isplitl [Hb]; · iexact Hb
    isplitl [Hh]; · iexact Hh
    iexact Hg
  iintro %_ ⟨Hst, Hf, Hb⟩
  isplitl [Hst]; · iexact Hst
  isplitl [Hf]; · iexact Hf
  isplitl [Hb]; · iexact Hb
  iexact Hs

end Cert.KernelIdeal.Sc

end
-- ==== Proof.Final.lean ====
/- The launch: the resources of the handshakes and of the pipeline, the run of the whole program, and what the memory
   holds at its end. -/
module

public import proofs.«01_k».proof.Proof.Main

@[expose] public section

noncomputable section

namespace Cert.KernelIdeal.Sc

open Cert.KernelIdeal.Gen
open Idealize.ShloMosaic Idealize.ShloMosaic.TcCoe
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic Idealize.ShloMosaic.ValueIdx

variable {F : FTy → Type} [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-- The pipeline's staging cells' element. -/
def uP : UP := initOf (Pipeline.cells (Pipeline.pin (pcfgs (F := F)) adm) pinj) (Pipeline.launchToks (Pipeline.pin (pcfgs (F := F)) adm) pinj)

/-- The launch's element: the handshakes' cells, the staging cells, no counter. -/
def u₀ : UU := (initOf (K (F := F)).hsCells (K (F := F)).hsToks, (uP (F := F), 1))

/-- Many copies of nothing are nothing. -/
theorem bigSep_emp' {I : Type} (s : Finset I) : (bigSep s fun _ => iprop(emp)) = (iprop(emp) : sProp 𝕄) := bigSep_emp_const s

/-- No thread gets anything at the launch beside the ghosts. -/
theorem x_emp : (bigSep Finset.univ fun thr : Thread nD τ => bigSep Finset.univ fun q : Fin 1 => (P (ins m)).x q thr) = (iprop(emp) : sProp 𝕄) := by
  rw [show (bigSep Finset.univ fun thr : Thread nD τ => bigSep Finset.univ fun q : Fin 1 => (P (ins m)).x q thr) = (bigSep Finset.univ fun _ => iprop(emp) : sProp 𝕄) from
    bigSep_congr fun _ _ => bigSep_univ_of_subsingleton (0 : Fin 1), bigSep_emp']

/-- The pipeline's ghosts, over the devices. -/
theorem ghosts_join :
    iprop((bigSep Finset.univ fun d : Dev nD => bigSep Finset.univ fun p : Fin 1 => Pipeline.cellsGhost (Pipeline.pin (pcfgs (F := F)) adm) EP p d)
      ∗ (bigSep Finset.univ fun d : Dev nD => bigSep Finset.univ fun p : Fin 1 => Pipeline.toksInit (Pipeline.pin (pcfgs (F := F)) adm) EP p d))
      ⊢ (bigSep Finset.univ fun d : Dev nD => ghost d : sProp 𝕄) := by
  rw [← bigSep_sep']
  refine Entails.of_eq (bigSep_congr fun d _ => ?_)
  rw [bigSep_univ_of_subsingleton (0 : Fin 1), bigSep_univ_of_subsingleton (0 : Fin 1)]
  rfl

/-- The program's own ghost state at the start. -/
theorem hu₀ : (ownU (u₀ (F := F)) : sProp 𝕄)
    ⊢ |={Set.univ}=> iprop(BI.own (EH (initOf (K (F := F)).hsCells (K (F := F)).hsToks)) ∗ (bigSep Finset.univ fun d : Dev nD => ghost d)
        ∗ bigSep Finset.univ fun thr : Thread nD τ => bigSep Finset.univ fun q : Fin 1 => (P (ins m)).x q thr) := by
  rw [x_emp]
  unfold u₀
  iintro Hu
  ihave H := (ownU_pair (initOf (K (F := F)).hsCells (K (F := F)).hsToks) ((uP (F := F), 1) : UP × Counters)) $$ Hu
  icases H with ⟨HH, HR⟩
  ihave HR := (own_pair_emb embR (uP (F := F)) (1 : Counters)) $$ HR
  icases HR with ⟨HP, -⟩
  ihave HP := (show BI.own (((Emb.inl : Emb UP (UP × Counters)).trans embR) (uP (F := F))) ⊢ (BI.own ((EP (F := F)) (initOf (Pipeline.cells (Pipeline.pin (pcfgs (F := F)) adm) pinj) (Pipeline.launchToks (Pipeline.pin (pcfgs (F := F)) adm) pinj))) : sProp 𝕄) from BI.Entails.refl _) $$ HP
  imod (Pipeline.fund_ghost (Pipeline.pin (pcfgs (F := F)) adm) EP pinj) $$ HP with ⟨Hg, Ht⟩
  imodintro
  isplitl [HH]; · iexact HH
  isplitl [Hg Ht]
  · iapply ghosts_join
    isplitl [Hg]; · iexact Hg
    iexact Ht
  iempintro

/-- At the end every buffer of the TensorCore holds what `V₄` says. -/
def fq (d : Dev nD) (s' : Phys nD τ sig (Elt F)) : Prop :=
  ∀ b ∈ Pipeline.ucRefs τ sig, s'.mem.mem (d, b) = V₄ m d b

/-- What the program holds at its end says what the memory then is. -/
theorem hfin (d : Dev nD) (s' : Phys nD τ sig (Elt F)) : iprop(FIN m d ∗ SI s') ⊢ (⌜fq m d s'⌝ : sProp 𝕄) := by
  unfold FIN StableHlo.held
  refine (pointsTo_read_all (Pipeline.ucRefs τ sig) (fun b => (d, b)) (fun b => V₄ m d b) s').trans ?_
  iintro ⟨%h, -⟩
  ipureintro; exact h

/-- The end of a run: the TensorCore's buffers as `V₄` says, every semaphore at zero. -/
def QC : PUnit × MemSt nD τ sig (Elt F) → Prop := fun r =>
  (∀ (d : Dev nD), ∀ b ∈ Pipeline.ucRefs τ sig, r.2.mem (d, b) = V₄ m d b) ∧ r.2.sem = fun _ => 0

/-- Every run of the program from a memory whose row numbers are rows of the tables ends so. -/
theorem run_main (hI : (ins m).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (ins m)) (A := ∅) facts v₀
    (fun q hq => match q with | 0 => nomatch hq)
    (fun q _ => match q with | 0 => tileObl (ins m) hI)
    (fun q _ => match q with | 0 => SparseCore.Cfg.VecSplit.of_plain (vecSplit (ins m)))
    m ρ main (fun d => ghost d) (FIN m) (u₀ (F := F)) (sep_elim_left.trans (hu₀ m)) (hmain m ρ) (fq m) (hfin m) (QC m) (fun _ h hz => ⟨h, hz⟩)

end Cert.KernelIdeal.Sc

end
-- ==== Proof.Args.lean ====
/- What the host's operations leave in the SparseCore call's inputs, and what the program leaves at its end, as functions
   of its arguments. -/
module

public import proofs.«01_k».proof.Proof.Final

@[expose] public section

noncomputable section

namespace Cert.KernelIdeal.Sc

open Cert.KernelIdeal.Gen
open Idealize.ShloMosaic Idealize.ShloMosaic.TcCoe
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic Idealize.ShloMosaic.ValueIdx

variable {F : FTy → Type} [FloatOps F] [∀ e, Nonempty (Elt F e)]

local notation "𝕄" => MT nD τ sig (HIx 1) (Elt F) ℕ UU ℕ

variable (m : (ℓ : Loc nD τ sig) → Buf (Elt F) ℓ) (d : Dev nD)

/-- The centres' indices, the contexts', the negatives', the two tables. -/
def arg0 : IVec S16384 32 := m (d, Proc.devRef .tc main_arg0)
@[inherit_doc arg0] def arg1 : IVec S16384 32 := m (d, Proc.devRef .tc main_arg1)
@[inherit_doc arg0] def arg2 : IVec S16384x10 32 := m (d, Proc.devRef .tc main_arg2)
@[inherit_doc arg0] def arg3 : FVec F S1000000x16 .f32 := m (d, Proc.devRef .tc main_arg3)
@[inherit_doc arg0] def arg4 : FVec F S1000000x16 .f32 := m (d, Proc.devRef .tc main_arg4)

/-- Three pieces of rows, one below the other. -/
def cat3 (a b : IVec S32x4x128 32) (c : IVec S32x40x128 32) : IVec S32x48x128 32 :=
  concatenate S32x48x128 1 [⟨S32x4x128, a⟩, ⟨S32x4x128, b⟩, ⟨S32x40x128, c⟩] concatenates_S32x4x128_S32x4x128_S32x40x128_S32x48x128_d1

/-- An index's row of the regrouped table, -/
def rowOf {s : Shape} (hs : S_.BroadcastsInDim s (![] : Fin 0 → Fin s.rank)) (x : IVec s 32) : IVec s 32 :=
  Host.shrsi x (broadcastInDim s ![] hs (constantI S_ 32 3#32))
/-- and its first column in that row. -/
def colOf {s : Shape} (hs : S_.BroadcastsInDim s (![] : Fin 0 → Fin s.rank)) (x : IVec s 32) : IVec s 32 :=
  Host.shli (andi x (broadcastInDim s ![] hs (constantI S_ 32 7#32))) (broadcastInDim s ![] hs (constantI S_ 32 4#32))

/-- The centres, and the contexts, dealt to the tiles, -/
def deal (x : IVec S16384 32) : IVec S32x4x128 32 := shapeCast S32x4x128 x shapeCasts_S16384_S32x4x128
/-- and the negatives. -/
def dealN (x : IVec S16384x10 32) : IVec S32x40x128 32 :=
  shapeCast S32x40x128 (transpose S32x10x4x128 [1, 0, 2, 3]
    (shapeCast S10x32x4x128 (transpose S10x16384 [1, 0] x transposes_S16384x10_S10x16384_1_0) shapeCasts_S10x16384_S10x32x4x128)
    transposes_S10x32x4x128_S32x10x4x128_1_0_2_3) shapeCasts_S32x10x4x128_S32x40x128

/-- The first table's rows, eight of the argument's to one, -/
theorem V1_v0 : V₁ m d (Proc.devRef .tc main_v0) = shapeCast S125000x128 (arg3 m d) shapeCasts_S1000000x16_S125000x128 := by
  unfold V₁ hostOps; after_reads_simp; rfl
/-- and the second's. -/
theorem V1_v1 : V₁ m d (Proc.devRef .tc main_v1) = shapeCast S125000x128 (arg4 m d) shapeCasts_S1000000x16_S125000x128 := by
  unfold V₁ hostOps; after_reads_simp; rfl

/-- The centres' row numbers, as the host leaves them. -/
theorem V1_v5 : V₁ m d (Proc.devRef .tc main_v5) = rowOf bcast_S_S32x4x128 (deal (arg0 m d)) := by
  unfold V₁ hostOps; after_reads_simp; rfl
/-- The contexts' row numbers. -/
theorem V1_v12 : V₁ m d (Proc.devRef .tc main_v12) = rowOf bcast_S_S32x4x128 (deal (arg1 m d)) := by
  unfold V₁ hostOps; after_reads_simp; rfl
/-- The negatives' row numbers. -/
theorem V1_v21 : V₁ m d (Proc.devRef .tc main_v21) = rowOf bcast_S_S32x40x128 (dealN (arg2 m d)) := by
  unfold V₁ hostOps; after_reads_simp; rfl
/-- The centres' first columns. -/
theorem V1_v9 : V₁ m d (Proc.devRef .tc main_v9) = colOf bcast_S_S32x4x128 (deal (arg0 m d)) := by
  unfold V₁ hostOps; after_reads_simp; rfl
/-- The contexts' first columns. -/
theorem V1_v16 : V₁ m d (Proc.devRef .tc main_v16) = colOf bcast_S_S32x4x128 (deal (arg1 m d)) := by
  unfold V₁ hostOps; after_reads_simp; rfl
/-- The negatives' first columns. -/
theorem V1_v25 : V₁ m d (Proc.devRef .tc main_v25) = colOf bcast_S_S32x40x128 (dealN (arg2 m d)) := by
  unfold V₁ hostOps; after_reads_simp; rfl

/-- All the rows to be gathered, -/
theorem V1_v26 : V₁ m d (Proc.devRef .tc main_v26)
    = cat3 (rowOf bcast_S_S32x4x128 (deal (arg0 m d))) (rowOf bcast_S_S32x4x128 (deal (arg1 m d))) (rowOf bcast_S_S32x40x128 (dealN (arg2 m d))) := by
  rw [← V1_v5, ← V1_v12, ← V1_v21]
  have h := StableHlo.after_last_write (ops := hostOps (F := F)) (i := 35) (r := main_v26) [main_v27] rfl rfl (by decide) (StableHlo.launchContents m d)
  refine h.trans ((StableHlo.nary_result _ _ _ _ _ _).trans ?_)
  have e5 : StableHlo.upto hostOps (StableHlo.launchContents m d) 35 (Proc.devRef .tc main_v5) = V₁ m d (Proc.devRef .tc main_v5) := by
    unfold V₁ hostOps; after_reads_simp
  have e12 : StableHlo.upto hostOps (StableHlo.launchContents m d) 35 (Proc.devRef .tc main_v12) = V₁ m d (Proc.devRef .tc main_v12) := by
    unfold V₁ hostOps; after_reads_simp
  have e21 : StableHlo.upto hostOps (StableHlo.launchContents m d) 35 (Proc.devRef .tc main_v21) = V₁ m d (Proc.devRef .tc main_v21) := by
    unfold V₁ hostOps; after_reads_simp
  rw [← e5, ← e12, ← e21]; rfl
/-- and all the columns. -/
theorem V1_v27 : V₁ m d (Proc.devRef .tc main_v27)
    = cat3 (colOf bcast_S_S32x4x128 (deal (arg0 m d))) (colOf bcast_S_S32x4x128 (deal (arg1 m d))) (colOf bcast_S_S32x40x128 (dealN (arg2 m d))) := by
  rw [← V1_v9, ← V1_v16, ← V1_v25]
  have h := StableHlo.after_last_write (ops := hostOps (F := F)) (i := 36) (r := main_v27) [] rfl rfl (by decide) (StableHlo.launchContents m d)
  refine h.trans ((StableHlo.nary_result _ _ _ _ _ _).trans ?_)
  have e5 : StableHlo.upto hostOps (StableHlo.launchContents m d) 36 (Proc.devRef .tc main_v9) = V₁ m d (Proc.devRef .tc main_v9) := by
    unfold V₁ hostOps; after_reads_simp
  have e12 : StableHlo.upto hostOps (StableHlo.launchContents m d) 36 (Proc.devRef .tc main_v16) = V₁ m d (Proc.devRef .tc main_v16) := by
    unfold V₁ hostOps; after_reads_simp
  have e21 : StableHlo.upto hostOps (StableHlo.launchContents m d) 36 (Proc.devRef .tc main_v25) = V₁ m d (Proc.devRef .tc main_v25) := by
    unfold V₁ hostOps; after_reads_simp
  rw [← e5, ← e12, ← e21]; rfl

/-- A buffer that only the launch fills is at the end as it began. -/
theorem V4_arg (r : Ref sig .tc) (h1 : r ≠ main_v30) (h2 : r ≠ main_v28 ∧ r ≠ main_v29)
    (h3 : V₁ m d (Proc.devRef .tc r) = m (d, Proc.devRef .tc r)) : V₄ m d (Proc.devRef .tc r) = m (d, Proc.devRef .tc r) := by
  have e : V₄ m d (Proc.devRef .tc r) = Xend 8 (V₂ m) d (Proc.devRef .tc r) :=
    StableHlo.after_unwritten (ops := lastOps (F := F)) [main_v30] rfl (by simpa using h1) _
  refine e.trans ((Xend_other 8 (V₂ m) d r h2).trans (Eq.trans ?_ h3))
  exact Function.update_of_ne (fun e => h2.1 (Proc.devRef_injective _ e)) _ _

/-- At the end the centres' indices are as they began, -/
theorem V4_arg0 : V₄ m d (Proc.devRef .tc main_arg0) = m (d, Proc.devRef .tc main_arg0) :=
  V4_arg m d main_arg0 (by decide) (by decide) (by unfold V₁ hostOps; after_reads_simp)
/-- the contexts' indices too, -/
theorem V4_arg1 : V₄ m d (Proc.devRef .tc main_arg1) = m (d, Proc.devRef .tc main_arg1) :=
  V4_arg m d main_arg1 (by decide) (by decide) (by unfold V₁ hostOps; after_reads_simp)
/-- the negatives' indices too, -/
theorem V4_arg2 : V₄ m d (Proc.devRef .tc main_arg2) = m (d, Proc.devRef .tc main_arg2) :=
  V4_arg m d main_arg2 (by decide) (by decide) (by unfold V₁ hostOps; after_reads_simp)
/-- the first table too, -/
theorem V4_arg3 : V₄ m d (Proc.devRef .tc main_arg3) = m (d, Proc.devRef .tc main_arg3) :=
  V4_arg m d main_arg3 (by decide) (by decide) (by unfold V₁ hostOps; after_reads_simp)
/-- and the second. -/
theorem V4_arg4 : V₄ m d (Proc.devRef .tc main_arg4) = m (d, Proc.devRef .tc main_arg4) :=
  V4_arg m d main_arg4 (by decide) (by decide) (by unfold V₁ hostOps; after_reads_simp)

/-- The result: the loss of the products. -/
theorem V4_v30 : V₄ m d (Proc.devRef .tc main_v30) = fun _ : S_.Idx => k1_pay1 (prods (ins m) d : FVec F S32x44x128 .f32) := by
  unfold V₄ lastOps; after_reads_simp
  rw [Xend_v29]
  funext i
  show k1_pay1 (xin (V₂ m) d) = _
  unfold xin V₂
  rw [Function.update_self]

end Cert.KernelIdeal.Sc

end
-- ==== Proof.Pre.lean ====
/- The preconditions read: every index is a row of its table, every entry of the first table is finite; and the row numbers
   and columns the host deals are then in range. -/
module

public import proofs.«01_k».proof.Proof.Args
public import proofs.«01_k».proof.Proof.Gen.Pre_in_range
public import proofs.«01_k».proof.Proof.Gen.Pre_in_range_finite
public import Idealize.ShloMosaic.Lib.ReduceAll
public import Idealize.ShloMosaic.Lib.Pointwise.SelectCore
public import Idealize.ShloMosaic.PureOps.Ideal.Laws

@[expose] public section

noncomputable section

namespace Cert.KernelIdeal.Sc

open Cert.KernelIdeal.Gen
open Idealize.ShloMosaic Idealize.ShloMosaic.TcCoe
open Idealize.ShloMosaic.SparseCore (S)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Tactic Idealize.ShloMosaic.ValueIdx

variable {F : FTy → Type} [FloatOps F]

/-- Every index is a row of its table. -/
structure InRange (a0 a1 : IVec S16384 32) (a2 : IVec S16384x10 32) : Prop where
  h0 : ∀ i, (a0 i).toNat < 1000000
  h1 : ∀ i, (a1 i).toNat < 1000000
  h2 : ∀ i, (a2 i).toNat < 1000000

/-- Both bits of a conjunction are set. -/
theorem andi_one {a b : BitVec 1} (h : IntOp.andi a b = 1#1) : a = 1#1 ∧ b = 1#1 := by
  revert h; revert a b; decide

/-- A word from zero on, and below a million, as signed words, is so as a natural number. -/
theorem word_range (v : BitVec 32) (h : IntOp.andi (IntOp.cmpi .sge v 0#32) (IntOp.cmpi .slt v 1000000#32) = 1#1) :
    v.toNat < 1000000 := by
  have hp : ∀ p : Bool, (BitVec.ofBool p = 1#1) ↔ p = true := by decide
  obtain ⟨h1, h2⟩ := andi_one h
  simp only [IntOp.cmpi, hp, BitVec.sle_eq_decide, BitVec.slt_eq_decide, decide_eq_true_eq, BitVec.toInt_eq_toNat_cond,
    BitVec.toNat_ofNat, Nat.reducePow, Nat.reduceMod] at h1 h2
  omega

/-- `in_range` says that every index is a row. -/
theorem inRange_of {a0 a1 : IVec S16384 32} {a2 : IVec S16384x10 32} {a3 a4 : FVec F S1000000x16 .f32}
    (h : Cert.Pre_in_range.fn (F := F) a0 a1 a2 a3 a4 = fun _ => 1#1) : InRange a0 a1 a2 := by
  have e := congrFun h (ValueIdx.ix0 : S_.Idx)
  unfold Cert.Pre_in_range.fn Cert.Pre_in_range.fn_part1 at e
  dsimp only at e
  obtain ⟨e1, e2⟩ := andi_one e
  obtain ⟨e3, e4⟩ := andi_one e1
  exact ⟨fun i => word_range _ (Host.reduce_andi_all _ _ _ _ _ e3 i), fun i => word_range _ (Host.reduce_andi_all _ _ _ _ _ e4 i),
    fun i => word_range _ (Host.reduce_andi_all _ _ _ _ _ e2 i)⟩

/-- `in_range_finite` says it too, -/
theorem inRange_of_finite {a0 a1 : IVec S16384 32} {a2 : IVec S16384x10 32} {a3 a4 : FVec F S1000000x16 .f32}
    (h : Cert.Pre_in_range_finite.fn (F := F) a0 a1 a2 a3 a4 = fun _ => 1#1) : InRange a0 a1 a2 := by
  have e := congrFun h (ValueIdx.ix0 : S_.Idx)
  unfold Cert.Pre_in_range_finite.fn Cert.Pre_in_range_finite.fn_part1 at e
  dsimp only at e
  obtain ⟨e0, -⟩ := andi_one e
  obtain ⟨e1, e2⟩ := andi_one e0
  obtain ⟨e3, e4⟩ := andi_one e1
  exact ⟨fun i => word_range _ (Host.reduce_andi_all _ _ _ _ _ e3 i), fun i => word_range _ (Host.reduce_andi_all _ _ _ _ _ e4 i),
    fun i => word_range _ (Host.reduce_andi_all _ _ _ _ _ e2 i)⟩

/-- and that every entry of the first table is finite. -/
theorem finite_of {a0 a1 : IVec S16384 32} {a2 : IVec S16384x10 32} {a3 a4 : FVec Ideal S1000000x16 .f32}
    (h : Cert.Pre_in_range_finite.fn (F := Ideal) a0 a1 a2 a3 a4 = fun _ => 1#1) (i : S1000000x16.Idx) :
    (a3 i : EReal) ≠ ⊤ ∧ (a3 i : EReal) ≠ ⊥ := by
  have e := congrFun h (ValueIdx.ix0 : S_.Idx)
  unfold Cert.Pre_in_range_finite.fn Cert.Pre_in_range_finite.fn_part1 at e
  dsimp only at e
  obtain ⟨-, e1⟩ := andi_one e
  have e2 := Host.reduce_andi_all _ _ _ _ _ e1 i
  have e3 : Ideal.cmp .olt (max (a3 i : EReal) (-(a3 i : EReal))) (Ideal.ofBits .f32 0x7F800000#32) = 1#1 := e2
  have htop : Ideal.ofBits .f32 0x7F800000#32 = ⊤ := by simp [Ideal.ofBits, Ideal.ieee]
  have hp : ∀ p : Bool, (BitVec.ofBool p = 1#1) ↔ p = true := by decide
  rw [htop] at e3
  simp only [Ideal.cmp, hp, decide_eq_true_eq] at e3
  constructor
  · intro ht; rw [ht] at e3; simp at e3
  · intro ht; rw [ht] at e3; simp at e3

/-- An index shifted: the row of the regrouped table, -/
theorem shr3 (v : BitVec 32) (h : v.toNat < 1000000) : (IntOp.shrsi .host v 3#32).toNat = v.toNat / 8 := by
  have hm : v.msb = false := by rw [BitVec.msb_eq_false_iff_two_mul_lt]; omega
  unfold IntOp.shrsi
  rw [if_pos (by decide)]
  show (v.sshiftRight 3).toNat = _
  rw [BitVec.sshiftRight_eq_of_msb_false hm, BitVec.toNat_ushiftRight]
  show v.toNat >>> 3 = _
  rw [Nat.shiftRight_eq_div_pow]

/-- and the place in it. -/
theorem shl4 (v : BitVec 32) : (IntOp.shli .host (IntOp.andi v 7#32) 4#32).toNat = v.toNat % 8 * 16 := by
  have h7 : (v &&& 7#32).toNat = v.toNat % 8 := by
    rw [BitVec.toNat_and]; exact Nat.and_two_pow_sub_one_eq_mod v.toNat 3
  unfold IntOp.shli IntOp.andi
  rw [if_pos (by decide), BitVec.shiftLeft_eq', BitVec.toNat_shiftLeft, h7]
  show (v.toNat % 8) <<< 4 % 2 ^ 32 = _
  rw [Nat.shiftLeft_eq]; omega

/-- An index's row of the regrouped table is its eighth, -/
theorem rowOf_apply {s : Shape} (hs : S_.BroadcastsInDim s (![] : Fin 0 → Fin s.rank)) (x : IVec s 32) (i : s.Idx)
    (h : (x i).toNat < 1000000) : (rowOf hs x i).toNat = (x i).toNat / 8 := shr3 (x i) h
/-- and its first column is sixteen times the remainder. -/
theorem colOf_apply {s : Shape} (hs : S_.BroadcastsInDim s (![] : Fin 0 → Fin s.rank)) (x : IVec s 32) (i : s.Idx) :
    (colOf hs x i).toNat = (x i).toNat % 8 * 16 := shl4 (x i)

section
variable [∀ e, Nonempty (Elt F e)] (m : (ℓ : Loc nD τ sig) → Buf (Elt F) ℓ)

/-- The row numbers and columns that the SparseCore call finds are in range. -/
theorem ins_ok (h : ∀ d, InRange (arg0 m d) (arg1 m d) (arg2 m d)) : (ins m).Ok where
  rows d j := by
    show (V₁ m d (Proc.devRef .tc main_v26) j : BitVec 32).toNat < 125000
    rw [V1_v26]
    refine concatenate_forall (P := fun v : BitVec 32 => v.toNat < 125000) _ _ _ _ (fun p hp => ?_) j
    simp only [List.mem_cons, List.not_mem_nil, _root_.or_false] at hp
    rcases hp with rfl | rfl | rfl <;> intro i
    · have := (h d).h0 (Shape.reshapeEquiv shapeCasts_S16384_S32x4x128 i)
      exact (rowOf_apply _ (deal (arg0 m d)) i this).trans_lt (by unfold deal shapeCast; omega)
    · have := (h d).h1 (Shape.reshapeEquiv shapeCasts_S16384_S32x4x128 i)
      exact (rowOf_apply _ (deal (arg1 m d)) i this).trans_lt (by unfold deal shapeCast; omega)
    · have := (h d).h2 (transposes_S16384x10_S10x16384_1_0.src (Shape.reshapeEquiv shapeCasts_S10x16384_S10x32x4x128
        (transposes_S10x32x4x128_S32x10x4x128_1_0_2_3.src (Shape.reshapeEquiv shapeCasts_S32x10x4x128_S32x40x128 i))))
      exact (rowOf_apply _ (dealN (arg2 m d)) i this).trans_lt (by exact (Nat.div_lt_iff_lt_mul (by decide)).mpr this)
  offs d j := by
    show (V₁ m d (Proc.devRef .tc main_v27) j : BitVec 32).toNat ≤ 112
    rw [V1_v27]
    refine concatenate_forall (P := fun v : BitVec 32 => v.toNat ≤ 112) _ _ _ _ (fun p hp => ?_) j
    simp only [List.mem_cons, List.not_mem_nil, _root_.or_false] at hp
    rcases hp with rfl | rfl | rfl <;> intro i
    · exact (colOf_apply _ (deal (arg0 m d)) i).trans_le (by omega)
    · exact (colOf_apply _ (deal (arg1 m d)) i).trans_le (by omega)
    · exact (colOf_apply _ (dealN (arg2 m d)) i).trans_le (by omega)

variable (ρ : Dev nD → PrngReg)

/-- The program's run: it ends, its arguments as they began, every semaphore at zero, the result the loss of the products. -/
theorem run_args (h : ∀ d, InRange (arg0 m d) (arg1 m d) (arg2 m d)) :
    θ_run (Cert.KernelIdeal.defs (F := F)) (Cert.KernelIdeal.threads (F := F)) ⟨m, fun _ => 0, ρ⟩ (fun r =>
      (∀ d : Dev nD, r.2.mem ((d.tc : Thread nD τ).loc main_v30) = (fun _ : S_.Idx => k1_pay1 (prods (ins m) d : FVec F S32x44x128 .f32))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)) ∧ r.2.sem = fun _ => 0) :=
  (θ_run Cert.KernelIdeal.defs _ _).mono (fun r hr => ⟨fun d =>
    ⟨(hr.1 d _ (Pipeline.devRef_mem_ucRefs (b := main_v30) (by decide))).trans (V4_v30 m d),
      (hr.1 d _ (Pipeline.devRef_mem_ucRefs (b := main_arg0) (by decide))).trans (V4_arg0 m d),
      (hr.1 d _ (Pipeline.devRef_mem_ucRefs (b := main_arg1) (by decide))).trans (V4_arg1 m d),
      (hr.1 d _ (Pipeline.devRef_mem_ucRefs (b := main_arg2) (by decide))).trans (V4_arg2 m d),
      (hr.1 d _ (Pipeline.devRef_mem_ucRefs (b := main_arg3) (by decide))).trans (V4_arg3 m d),
      (hr.1 d _ (Pipeline.devRef_mem_ucRefs (b := main_arg4) (by decide))).trans (V4_arg4 m d)⟩, hr.2⟩)
    (run_main m ρ (ins_ok m h))
end

end Cert.KernelIdeal.Sc

end
-- ==== Proof.SameText.lean ====
/- The two printings of the kernel have one text: their body tables and their threads, at machine floats, are equal, so that a
   run of the one is a run of the other. -/
module

public import proofs.«01_k».proof.Defs
public import proofs.«01_k».proof.Proof.Gen.Kernel
public import proofs.«01_k».proof.Proof.Gen.KernelIdeal

@[expose] public section

noncomputable section

namespace Cert.Proof

open Idealize.ShloMosaic Idealize.SL.Sem

set_option maxRecDepth 8192
set_option maxHeartbeats 2000000

/-- The kernels' bodies, label by label. -/
theorem bodies_same : Cert.Kernel.defs₀ (F := Bits) = Cert.KernelIdeal.defs₀ (F := Bits) := by
  funext p ℓ a
  rcases ℓ with ⟨_ | _ | n, h⟩
  · rcases p with _ | _ | _ <;> rfl
  · rcases p with _ | _ | _ <;> rfl
  · exact absurd h (by omega)

/-- The whole tables: the same dispatch over the same bodies. -/
theorem defs_same : Cert.Kernel.defs (F := Bits) = Cert.KernelIdeal.defs (F := Bits) := by
  unfold Cert.Kernel.defs Cert.KernelIdeal.defs
  rw [bodies_same]
  rfl

/-- The host programs. -/
theorem main_same : Cert.Kernel.main (F := Bits) = Cert.KernelIdeal.main (F := Bits) := rfl

/-- The threads: each processor's part of the same calls, around the same host program. -/
theorem threads_same : Cert.Kernel.threads (F := Bits) = Cert.KernelIdeal.threads (F := Bits) := by
  unfold Cert.Kernel.threads Cert.KernelIdeal.threads
  rw [main_same]
  rfl

end Cert.Proof

end
-- ==== Proof.Frames.lean ====
/- The frames: the two readings of the kernel and the reference run to their ends, leave their arguments and the counters
   as they were. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Pre
public import proofs.«01_k».proof.Proof.SameText

@[expose] public section

noncomputable section

namespace Cert.Proof

open Idealize.ShloMosaic Idealize.SL.Sem
open Cert.KernelIdeal.Sc (run_args inRange_of inRange_of_finite)

/-- The kernel at machine floats, under its index ranges: the run written once, at `Bits`. -/
theorem frame_kernel : Cert.quiescent_Kernel := by
  intro m ρ hp
  rw [defs_same, threads_same]
  exact (θ_run (Cert.KernelIdeal.defs (F := Bits)) _ _).mono (fun _ h => ⟨fun c => (h.1 c).2, h.2⟩)
    (run_args (F := Bits) m ρ fun d => inRange_of (F := Bits) (hp d))

/-- The kernel at ideal floats, under its index ranges. -/
theorem frame_ideal : Cert.quiescent_KernelIdeal := fun m ρ hp =>
  (θ_run Cert.KernelIdeal.defs _ _).mono (fun _ h => ⟨fun c => (h.1 c).2, h.2⟩)
    (run_args (F := Ideal) m ρ fun d => inRange_of (F := Ideal) (hp d))

/-- The kernel at ideal floats, under its index ranges and a finite centre table. -/
theorem frame_ideal_finite : Cert.quiescent_KernelIdeal_pre_in_range_finite := fun m ρ hp =>
  (θ_run Cert.KernelIdeal.defs _ _).mono (fun _ h => ⟨fun c => (h.1 c).2, h.2⟩)
    (run_args (F := Ideal) m ρ fun d => inRange_of_finite (F := Ideal) (hp d))

/-- The reference runs from every memory; it declares no semaphore, so its counters are zero throughout. -/
theorem frame_ref : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)

/-- The reference under the precondition of the value claim: the same run. -/
theorem frame_ref_finite : Cert.quiescent_ReferenceIdeal_pre_in_range_finite := fun m ρ _ => frame_ref m ρ trivial

end Cert.Proof

end
-- ==== Proof.Sums.lean ====
/-
The mathematics of the value claim, with no program in it: the soft-plus term over the extended reals, the
signs the two programs move through their sums, and the order in which each of them adds the batch up.
-/
module

public import Idealize.ShloMosaic.PureOps.Ideal.Laws
public import Idealize.ShloMosaic.Lib.ValueIdxCore

@[expose] public section

noncomputable section
open Idealize.ShloMosaic

namespace Cert.Skip

/-- The soft plus `log (1 + eˣ)` in the stable form both programs compute. -/
def sp (x : EReal) : EReal := max x 0 + Ideal.log1p (Ideal.exp (-max x (-x)))

/-- An ideal exponential is never negative. -/
theorem exp_nonneg (x : EReal) : 0 ≤ Ideal.exp x := by
  induction x with
  | bot => exact le_refl _
  | top => exact le_top
  | coe r =>
    show (0 : EReal) ≤ ((Real.exp r : ℝ) : EReal)
    exact_mod_cast (Real.exp_pos r).le

/-- `log (1 + x)` is never negative when `x` is not. -/
theorem log1p_nonneg {x : EReal} (h : 0 ≤ x) : 0 ≤ Ideal.log1p x := by
  induction x with
  | bot => exact absurd h (by simp)
  | top => exact le_top
  | coe r =>
    have hr : (0 : ℝ) ≤ r := by exact_mod_cast h
    show 0 ≤ Ideal.log (((1 : ℝ) : EReal) + (r : EReal))
    rw [← EReal.coe_add]
    show (0 : EReal) ≤ if 1 + r ≤ 0 then ⊥ else ((Real.log (1 + r) : ℝ) : EReal)
    rw [if_neg (by linarith)]
    exact_mod_cast Real.log_nonneg (by linarith)

/-- The soft plus is never negative. -/
theorem sp_nonneg (x : EReal) : 0 ≤ sp x :=
  add_nonneg (le_max_right _ _) (log1p_nonneg (exp_nonneg _))

/-- The soft plus is not `-∞`. -/
theorem sp_ne_bot (x : EReal) : sp x ≠ ⊥ := fun h => absurd (sp_nonneg x) (by rw [h]; simp)

/-- A sum with no term `-∞` is not `-∞`. -/
theorem sum_ne_bot {ι : Type} (s : Finset ι) (a : ι → EReal) (h : ∀ i, a i ≠ ⊥) : ∑ i ∈ s, a i ≠ ⊥ := by
  classical
  induction s using Finset.induction_on with
  | empty => simp
  | insert i s hi ih =>
    rw [Finset.sum_insert hi]
    exact fun hb => (EReal.add_eq_bot_iff.mp hb).elim (h i) ih

/-- A sign moves out of a sum with no term `-∞`. -/
theorem sum_neg {ι : Type} (s : Finset ι) (a : ι → EReal) (h : ∀ i, a i ≠ ⊥) : ∑ i ∈ s, -a i = -∑ i ∈ s, a i := by
  classical
  induction s using Finset.induction_on with
  | empty => simp
  | insert i s hi ih =>
    rw [Finset.sum_insert hi, Finset.sum_insert hi, ih,
      EReal.neg_add (Or.inl (h i)) (Or.inr (sum_ne_bot s a h)), sub_eq_add_neg]

/-- Minus the sum of the negated soft pluses is the sum of the soft pluses. -/
theorem neg_sum_neg_sp {ι : Type} (s : Finset ι) (x : ι → EReal) : -∑ i ∈ s, -sp (x i) = ∑ i ∈ s, sp (x i) := by
  rw [sum_neg s _ fun i => sp_ne_bot _, neg_neg]

/-- A finite number times a finite number is not `-∞`. -/
theorem mul_ne_bot {x y : EReal} (hx : x ≠ ⊤ ∧ x ≠ ⊥) (hy : y ≠ ⊤ ∧ y ≠ ⊥) : x * y ≠ ⊥ := by
  lift x to ℝ using hx
  lift y to ℝ using hy
  rw [← EReal.coe_mul]
  exact EReal.coe_ne_bot _

/-- The dot product with a negated row, negated again, is the dot product: both rows are finite. -/
theorem neg_dot_neg {ι : Type} (s : Finset ι) (n o : ι → EReal) (hn : ∀ i, n i ≠ ⊤ ∧ n i ≠ ⊥)
    (ho : ∀ i, o i ≠ ⊤ ∧ o i ≠ ⊥) : -∑ i ∈ s, -n i * o i = ∑ i ∈ s, n i * o i := by
  simp only [EReal.neg_mul]
  rw [sum_neg s _ fun i => mul_ne_bot (hn i) (ho i), neg_neg]

/-- Rows `0 … 3` of 44, then rows `4 + 4 k + q`: the sum over 44 rows. -/
theorem sum44 (f : Fin 44 → EReal) :
    ∑ r, f r = ∑ q : Fin 4, (f ⟨q.val, by omega⟩ + ∑ k : Fin 10, f ⟨4 + 4 * k.val + q.val, by omega⟩) := by
  rw [Finset.sum_add_distrib, Finset.sum_comm]
  have e : ∑ r, f r = ∑ r : Fin (4 + 40), f r := rfl
  rw [e, Fin.sum_univ_add, ← (finProdFinEquiv : Fin 10 × Fin 4 ≃ Fin 40).sum_comp, Fintype.sum_prod_type]
  refine congrArg _ (Finset.sum_congr rfl fun k _ => Finset.sum_congr rfl fun q _ => congrArg f (Fin.ext ?_))
  show 4 + (q.val + 4 * k.val) = 4 + 4 * k.val + q.val
  omega

/-- The batch element `512 w + 128 q + n`: tile, group of 128 and place in it. -/
theorem sum_batch (T : Fin 16384 → EReal) :
    ∑ b, T b = ∑ w : Fin 32, ∑ q : Fin 4, ∑ n : Fin 128, T ⟨512 * w.val + 128 * q.val + n.val, by omega⟩ := by
  have e : ∑ b, T b = ∑ b : Fin (128 * 128), T b := rfl
  rw [e, ← (finProdFinEquiv : Fin 128 × Fin 128 ≃ Fin (128 * 128)).sum_comp, Fintype.sum_prod_type,
    ← (finProdFinEquiv : Fin 32 × Fin 4 ≃ Fin 128).sum_comp, Fintype.sum_prod_type]
  refine Finset.sum_congr rfl fun w _ => Finset.sum_congr rfl fun q _ => Finset.sum_congr rfl fun n _ =>
    congrArg T (Fin.ext ?_)
  show n.val + 128 * (q.val + 4 * w.val) = 512 * w.val + 128 * q.val + n.val
  omega

/-- The sum over tiles, rows and places is the sum over the batch of an element's own terms. -/
theorem regroup (f : Fin 32 → Fin 44 → Fin 128 → EReal) (T : Fin 16384 → EReal) (N : Fin 16384 → Fin 10 → EReal)
    (hT : ∀ (w : Fin 32) (q : Fin 4) (n : Fin 128),
      f w ⟨q.val, by omega⟩ n = T ⟨512 * w.val + 128 * q.val + n.val, by omega⟩)
    (hN : ∀ (w : Fin 32) (q : Fin 4) (n : Fin 128) (k : Fin 10),
      f w ⟨4 + 4 * k.val + q.val, by omega⟩ n = N ⟨512 * w.val + 128 * q.val + n.val, by omega⟩ k) :
    ∑ w, ∑ r, ∑ n, f w r n = ∑ b, (T b + ∑ k, N b k) := by
  rw [sum_batch]
  refine Finset.sum_congr rfl fun w _ => ?_
  rw [sum44]
  refine Finset.sum_congr rfl fun q _ => ?_
  rw [Finset.sum_comm, ← Finset.sum_add_distrib]
  refine Finset.sum_congr rfl fun n _ => ?_
  rw [hT]
  exact congrArg _ (Finset.sum_congr rfl fun k _ => hN w q n k)

/-- The row of a table that a word names. -/
def rowAt {α : Type} (x : (⟨2, ![1000000, 16]⟩ : Shape).Idx → α) (v : BitVec 32) (k : Fin 16) : α :=
  x (ValueIdx.ix2 ⟨min v.toNat 999999, by omega⟩ k)

/-- In range, it is the row of that number. -/
theorem rowAt_eq {α : Type} (x : (⟨2, ![1000000, 16]⟩ : Shape).Idx → α) (v : BitVec 32) (h : v.toNat < 1000000) (k : Fin 16) :
    x (ValueIdx.ix2 ⟨v.toNat, h⟩ k) = rowAt x v k :=
  congrArg x (congrArg (fun a => ValueIdx.ix2 a k) (Fin.ext (show v.toNat = min v.toNat 999999 by omega)))

end Cert.Skip
-- ==== Proof.KerValue.lean ====
/- What the kernel's products are, entry by entry, as dot products of rows of the argument tables; and what its loss body
   makes of them. -/
module

public import proofs.«01_k».proof.Proof.Pre
public import proofs.«01_k».proof.Proof.Sums
public import Idealize.ShloMosaic.Lib.Pipeline.Value

@[expose] public section

noncomputable section

namespace Cert.KernelIdeal.Sc

open Cert.KernelIdeal.Gen Cert.Skip
open Idealize.ShloMosaic hiding ix0 ix1 ix2 ix3 ix4
open Idealize.ShloMosaic.TcCoe Idealize.ShloMosaic.ValueIdx

variable {F : FTy → Type} [FloatOps F] [∀ e, Nonempty (Elt F e)]

/-! ## The lists -/

/-- Rows `0 … 3` of three pieces of lists are the first piece's, -/
theorem cat3_0 (a b : IVec S32x4x128 32) (c : IVec S32x40x128 32) (w : Fin 32) (q : Fin 4) (n : Fin 128) (h : q.val < 48) :
    cat3 a b c (ix3 w ⟨q.val, h⟩ n) = a (ix3 w q n) :=
  concatenate_apply_piece (t := S32x48x128) 1 [⟨S32x4x128, a⟩, ⟨S32x4x128, b⟩, ⟨S32x40x128, c⟩] _ _ 0 (by show 0 < 3; omega) S32x4x128 a rfl rfl 0 rfl
    (ix3 w q n) (fun b hb => by fin_cases b <;> first | rfl | exact absurd rfl hb) (Nat.zero_add _)
/-- rows `4 … 7` the second's, -/
theorem cat3_1 (a b : IVec S32x4x128 32) (c : IVec S32x40x128 32) (w : Fin 32) (q : Fin 4) (n : Fin 128) (h : q.val + 4 < 48) :
    cat3 a b c (ix3 w ⟨q.val + 4, h⟩ n) = b (ix3 w q n) :=
  concatenate_apply_piece (t := S32x48x128) 1 [⟨S32x4x128, a⟩, ⟨S32x4x128, b⟩, ⟨S32x40x128, c⟩] _ _ 1 (by show 1 < 3; omega) S32x4x128 b rfl rfl 4 rfl
    (ix3 w q n) (fun b hb => by fin_cases b <;> first | rfl | exact absurd rfl hb) (Nat.add_comm _ _)
/-- and the last 40 the third's. -/
theorem cat3_2 (a b : IVec S32x4x128 32) (c : IVec S32x40x128 32) (w : Fin 32) (j : Fin 40) (n : Fin 128) (h : 8 + j.val < 48) :
    cat3 a b c (ix3 w ⟨8 + j.val, h⟩ n) = c (ix3 w j n) :=
  concatenate_apply_piece (t := S32x48x128) 1 [⟨S32x4x128, a⟩, ⟨S32x4x128, b⟩, ⟨S32x40x128, c⟩] _ _ 2 (by show 2 < 3; omega) S32x40x128 c rfl rfl 8 rfl
    (ix3 w j n) (fun b hb => by fin_cases b <;> first | rfl | exact absurd rfl hb) rfl

/-- The batch element at place `n` of group `q` of tile `w`. -/
def elt (w : Fin 32) (q : Fin 4) (n : Fin 128) : Fin 16384 := ⟨512 * w.val + 128 * q.val + n.val, by omega⟩

/-- An index dealt is the element's own, -/
theorem deal_apply (x : IVec S16384 32) (w : Fin 32) (q : Fin 4) (n : Fin 128) : deal x (ix3 w q n) = x (ix1 (elt w q n)) :=
  shapeCast_apply _ _ _ _ (by
    rw [Shape.rowMajor_val_one, Shape.rowMajor_val_three]
    show 512 * w.val + 128 * q.val + n.val = (w.val * 4 + q.val) * 128 + n.val
    omega)

/-- and so is a negative. -/
theorem dealN_apply (x : IVec S16384x10 32) (w : Fin 32) (q : Fin 4) (n : Fin 128) (k : Fin 10) (j : Fin 40)
    (hj : j.val = 4 * k.val + q.val) : dealN x (ix3 w j n) = x (ix2 (elt w q n) k) := by
  unfold dealN
  rw [shapeCast_apply _ _ _ (ix4 w k q n : S32x10x4x128.Idx) (by
      rw [Shape.rowMajor_val_four, Shape.rowMajor_val_three]
      show ((w.val * 10 + k.val) * 4 + q.val) * 128 + n.val = (w.val * 40 + j.val) * 128 + n.val
      omega),
    transpose_apply _ _ _ _ (ix4 k w q n : S10x32x4x128.Idx) (fun b => by fin_cases b <;> rfl),
    shapeCast_apply _ _ _ (ix2 k (elt w q n) : S10x16384.Idx) (by
      rw [Shape.rowMajor_val_two, Shape.rowMajor_val_four]
      show k.val * 16384 + (512 * w.val + 128 * q.val + n.val) = ((k.val * 32 + w.val) * 4 + q.val) * 128 + n.val
      omega)]
  exact transpose_apply _ _ _ _ (ix2 (elt w q n) k : S16384x10.Idx) (fun b => by fin_cases b <;> rfl)

/-! ## The tables -/

/-- The regrouped table's row `a / 8` from column `16 (a % 8)` on is the table's row `a`. -/
theorem regroup_apply (x : FVec F S1000000x16 .f32) (a : ℕ) (ha : a < 1000000) (k : Fin 16) (h1 : a / 8 < 125000)
    (h2 : a % 8 * 16 + k.val < 128) :
    shapeCast S125000x128 x shapeCasts_S1000000x16_S125000x128 (ix2 ⟨a / 8, h1⟩ ⟨a % 8 * 16 + k.val, h2⟩) = x (ix2 ⟨a, ha⟩ k) :=
  shapeCast_apply _ _ _ _ (by
    rw [Shape.rowMajor_val_two, Shape.rowMajor_val_two]
    show a * 16 + k.val = a / 8 * 128 + (a % 8 * 16 + k.val)
    omega)

/-- A looked-up feature, the lists' entry known to name the row `a` of a table of 16 columns. -/
theorem emb_at (I : Ins F) (d : Dev nD) (t : Bool) (w : Fin 32) (r : Fin 48) (n : Fin 128) (k : Fin 16) (a : ℕ) (ha : a < 1000000)
    (h4 : (I.f4 d (ix3 w r n) : BitVec 32).toNat = a / 8) (h5 : (I.f5 d (ix3 w r n) : BitVec 32).toNat = a % 8 * 16)
    (x : FVec F S1000000x16 .f32) (hx : I.tab d t = shapeCast S125000x128 x shapeCasts_S1000000x16_S125000x128) :
    (I.dat d w.val).emb t r.val n.val k.val = x (ix2 ⟨a, ha⟩ k) := by
  have hL : (I.dat d w.val).Lb r.val n.val = a / 8 := by
    show (if h : w.val < 32 ∧ r.val < 48 ∧ n.val < 128 then min (I.f4 d (ix3 w r n) : BitVec 32).toNat 124999 else 0) = _
    rw [dif_pos ⟨w.isLt, r.isLt, n.isLt⟩, h4]; omega
  have hS : (I.dat d w.val).Sb r.val n.val = a % 8 * 16 := by
    show (if h : w.val < 32 ∧ r.val < 48 ∧ n.val < 128 then min (I.f5 d (ix3 w r n) : BitVec 32).toNat 112 else 0) = _
    rw [dif_pos ⟨w.isLt, r.isLt, n.isLt⟩, h5]; omega
  show (I.dat d w.val).Tab t ((I.dat d w.val).Lb r.val n.val) ((I.dat d w.val).Sb r.val n.val + k.val) = _
  rw [hL, hS]
  show (if h : a / 8 < 125000 ∧ a % 8 * 16 + k.val < 128 then I.tab d t (ix2 ⟨a / 8, h.1⟩ ⟨a % 8 * 16 + k.val, h.2⟩)
    else Scalar.ofBits .f32 0x00000000#32) = _
  rw [dif_pos ⟨by omega, by omega⟩, hx]
  exact regroup_apply x a ha k _ _

variable (m : (ℓ : Loc nD τ sig) → Buf (Elt F) ℓ) (d : Dev nD)

variable (h : InRange (arg0 m d) (arg1 m d) (arg2 m d))
include h

/-- The centre's row, feature by feature, -/
theorem emb_centre (w : Fin 32) (q : Fin 4) (n : Fin 128) (k : Fin 16) :
    ((ins m).dat d w.val).emb false q.val n.val k.val = rowAt (arg3 m d) (arg0 m d (ix1 (elt w q n))) k := by
  have hv := h.h0 (ix1 (elt w q n))
  rw [← rowAt_eq _ _ hv]
  refine emb_at (ins m) d false w ⟨q.val, by omega⟩ n k _ hv ?_ ?_ _ (V1_v0 m d)
  · show (V₁ m d (Proc.devRef .tc main_v26) (ix3 w ⟨q.val, _⟩ n) : BitVec 32).toNat = _
    rw [V1_v26, cat3_0, rowOf_apply _ _ _ (by rw [deal_apply]; exact hv), deal_apply]
  · show (V₁ m d (Proc.devRef .tc main_v27) (ix3 w ⟨q.val, _⟩ n) : BitVec 32).toNat = _
    rw [V1_v27, cat3_0, colOf_apply, deal_apply]
/-- the context's, -/
theorem emb_context (w : Fin 32) (q : Fin 4) (n : Fin 128) (k : Fin 16) :
    ((ins m).dat d w.val).emb true (q.val + 4) n.val k.val = rowAt (arg4 m d) (arg1 m d (ix1 (elt w q n))) k := by
  have hv := h.h1 (ix1 (elt w q n))
  rw [← rowAt_eq _ _ hv]
  refine emb_at (ins m) d true w ⟨q.val + 4, by omega⟩ n k _ hv ?_ ?_ _ (V1_v1 m d)
  · show (V₁ m d (Proc.devRef .tc main_v26) (ix3 w ⟨q.val + 4, _⟩ n) : BitVec 32).toNat = _
    rw [V1_v26, cat3_1, rowOf_apply _ _ _ (by rw [deal_apply]; exact hv), deal_apply]
  · show (V₁ m d (Proc.devRef .tc main_v27) (ix3 w ⟨q.val + 4, _⟩ n) : BitVec 32).toNat = _
    rw [V1_v27, cat3_1, colOf_apply, deal_apply]
/-- and a negative's. -/
theorem emb_negative (w : Fin 32) (q : Fin 4) (n : Fin 128) (j : Fin 10) (k : Fin 16) :
    ((ins m).dat d w.val).emb false (8 + (4 * j.val + q.val)) n.val k.val = rowAt (arg3 m d) (arg2 m d (ix2 (elt w q n) j)) k := by
  have hv := h.h2 (ix2 (elt w q n) j)
  have e := dealN_apply (arg2 m d) w q n j ⟨4 * j.val + q.val, by omega⟩ rfl
  rw [← rowAt_eq _ _ hv]
  refine emb_at (ins m) d false w ⟨8 + (4 * j.val + q.val), by omega⟩ n k _ hv ?_ ?_ _ (V1_v0 m d)
  · show (V₁ m d (Proc.devRef .tc main_v26) (ix3 w ⟨8 + (⟨4 * j.val + q.val, by omega⟩ : Fin 40).val, _⟩ n) : BitVec 32).toNat = _
    rw [V1_v26, cat3_2, rowOf_apply _ _ _ (by rw [e]; exact hv), e]
  · show (V₁ m d (Proc.devRef .tc main_v27) (ix3 w ⟨8 + (⟨4 * j.val + q.val, by omega⟩ : Fin 40).val, _⟩ n) : BitVec 32).toNat = _
    rw [V1_v27, cat3_2, colOf_apply, e]

omit h in
/-- A tile's centre table holds the centres' rows. -/
theorem CT_eq (Z : Dat F) (k q n : ℕ) (hn : n < 128) : Z.CT k (128 * q + n) = Z.emb false q n k := by
  unfold Dat.CT
  rw [show (128 * q + n) / 128 = q by omega, show (128 * q + n) % 128 = n by omega]

end Cert.KernelIdeal.Sc

namespace Cert.KernelIdeal.Sc

open Cert.KernelIdeal.Gen Cert.Skip
open Idealize.ShloMosaic hiding ix0 ix1 ix2 ix3 ix4
open Idealize.ShloMosaic.TcCoe Idealize.ShloMosaic.ValueIdx

/-! ## The products over the extended reals -/

/-- The chain of sixteen fused terms is their sum. -/
theorem accF_ideal (n c : ℕ → Ideal .f32) (N : ℕ) : accF n c N = (∑ k ∈ Finset.range N, (n k : EReal) * c k : EReal) := by
  induction N with
  | zero => exact Ideal.ofBits_zero_f32
  | succ N ih =>
    rw [Finset.sum_range_succ, ← ih]
    rfl

variable (m : (ℓ : Loc nD τ sig) → Buf (Elt Ideal) ℓ) (d : Dev nD) (h : InRange (arg0 m d) (arg1 m d) (arg2 m d))
include h

/-- The first four rows of the products: minus the dot product of the centre and its context, -/
theorem prods_true (w : Fin 32) (q : Fin 4) (n : Fin 128) :
    (prods (ins m) d (ix3 w ⟨q.val, by omega⟩ n : S32x44x128.Idx) : EReal)
      = -∑ k : Fin 16, (rowAt (arg3 m d) (arg0 m d (ix1 (elt w q n))) k : EReal) * rowAt (arg4 m d) (arg1 m d (ix1 (elt w q n))) k := by
  show ((ins m).dat d w.val).X q.val n.val = _
  unfold Dat.X
  rw [decide_eq_true q.isLt, Nat.mod_eq_of_lt q.isLt]
  show (Ideal.ofBits .f32 0x00000000#32 : EReal) - accF _ _ 16 = _
  rw [Ideal.ofBits_zero_f32, zero_sub, accF_ideal, Finset.sum_range]
  refine congrArg _ (Finset.sum_congr rfl fun k _ => ?_)
  rw [CT_eq _ _ _ _ n.isLt, emb_context m d h, emb_centre m d h, mul_comm]
/-- and the rest: the dot product of the centre and a negative. -/
theorem prods_neg (w : Fin 32) (q : Fin 4) (n : Fin 128) (j : Fin 10) :
    (prods (ins m) d (ix3 w ⟨4 + 4 * j.val + q.val, by omega⟩ n : S32x44x128.Idx) : EReal)
      = ∑ k : Fin 16, (rowAt (arg3 m d) (arg2 m d (ix2 (elt w q n) j)) k : EReal) * rowAt (arg3 m d) (arg0 m d (ix1 (elt w q n))) k := by
  show ((ins m).dat d w.val).X (4 + 4 * j.val + q.val) n.val = _
  unfold Dat.X
  rw [decide_eq_false (by omega), show (4 + 4 * j.val + q.val) % 4 = q.val by omega,
    show 4 + 4 * j.val + q.val + 4 = 8 + (4 * j.val + q.val) by omega]
  show accF (F := Ideal) _ _ 16 = _
  rw [accF_ideal, Finset.sum_range]
  refine Finset.sum_congr rfl fun k _ => ?_
  rw [CT_eq _ _ _ _ n.isLt, emb_negative m d h, emb_centre m d h]

omit h in
/-- The loss body: the sum of the soft pluses of the products, over the size of the batch. -/
theorem loss_ideal (x : S32x44x128.Idx → EReal) :
    k1_pay1 (F := Ideal) x = Ideal.div (∑ y, sp (x y)) (Ideal.ofBits .f32 0x46800000#32) := by
  unfold k1_pay1
  dsimp only
  refine congrArg (fun v => Ideal.div v _) ((Ideal.multiReduction_add_total (φ := .f32) (s := S1x32x44x128) (t := S1) _ 0x00000000#32
    reduces_S1x32x44x128_S1 (fun b => by fin_cases b; rfl) (.inl rfl) rfl _).trans ?_)
  refine (Equiv.sum_comp (Shape.reshapeEquiv shapeCasts_S32x44x128_S1x32x44x128) _).trans ?_
  refine Finset.sum_congr rfl fun y _ => ?_
  show (max (shapeCast S32x44x128 x shapeCasts_S32x44x128_S32x44x128 y) (Ideal.ofBits .f32 0x00000000#32) : EReal)
    + Ideal.log1p (Ideal.exp (Ideal.ofBits .f32 0x00000000#32
        - max (shapeCast S32x44x128 x shapeCasts_S32x44x128_S32x44x128 y) (-shapeCast S32x44x128 x shapeCasts_S32x44x128_S32x44x128 y))) = sp (x y)
  rw [shapeCast_apply x shapeCasts_S32x44x128_S32x44x128 y y rfl, Ideal.ofBits_zero_f32, zero_sub]
  rfl

end Cert.KernelIdeal.Sc
end
-- ==== Proof.RefValue.lean ====
/- What the reference computes, entry by entry: its three table look-ups read at an index, its soft pluses, its dot
   products and its sums. -/
module

public import proofs.«01_k».proof.Proof.Gen.ReferenceIdeal.Run
public import proofs.«01_k».proof.Proof.Sums
public import Idealize.ShloMosaic.Lib.Pipeline.Value
public import Idealize.ShloMosaic.Lib.ReduceAll
public import Idealize.ShloMosaic.Lib.ValueIdxRank1
public import Idealize.ShloMosaic.Lib.ValueIdx

@[expose] public section

noncomputable section

namespace Cert.ReferenceIdeal.Sc

open Cert.ReferenceIdeal.Gen Cert.Skip
open Idealize.ShloMosaic
open Idealize.ShloMosaic.TcCoe Idealize.ShloMosaic.ValueIdx

/-! ## One word -/

/-- A word in range is not negative: the wrap of negative indices leaves it. -/
theorem wrap_word (v : BitVec 32) (h : v.toNat < 1000000) :
    Scalar.select (IntOp.cmpi .slt v 0#32) (IntOp.addi v 1000000#32) v = v := by
  have e : IntOp.cmpi .slt v 0#32 = 0#1 := by
    have hp : ∀ p : Bool, (BitVec.ofBool p = 0#1) ↔ p = false := by decide
    simp only [IntOp.cmpi, hp, BitVec.slt_eq_decide, decide_eq_false_iff_not, BitVec.toInt_eq_toNat_cond, BitVec.toNat_ofNat,
      Nat.reducePow, Nat.reduceMod]
    omega
  rw [e]; rfl

/-- It passes the look-up's test of range. -/
theorem mask_word (v : BitVec 32) (h : v.toNat < 1000000) :
    IntOp.andi (IntOp.cmpi .sge v 0#32) (IntOp.cmpi .sle v 999999#32) = 1#1 := by
  have hp : ∀ p : Bool, (BitVec.ofBool p = 1#1) ↔ p = true := by decide
  have e1 : IntOp.cmpi .sge v 0#32 = 1#1 := by
    simp only [IntOp.cmpi, hp, BitVec.sle_eq_decide, decide_eq_true_eq, BitVec.toInt_eq_toNat_cond, BitVec.toNat_ofNat,
      Nat.reducePow, Nat.reduceMod]
    omega
  have e2 : IntOp.cmpi .sle v 999999#32 = 1#1 := by
    simp only [IntOp.cmpi, hp, BitVec.sle_eq_decide, decide_eq_true_eq, BitVec.toInt_eq_toNat_cond, BitVec.toNat_ofNat,
      Nat.reducePow, Nat.reduceMod]
    omega
  rw [e1, e2]; rfl

/-- Read signed and clamped to the table, it is the word. -/
theorem clamp_word (v : BitVec 32) (h : v.toNat < 1000000) : min v.toInt.toNat (1000000 - 1) = min v.toNat 999999 := by
  rw [BitVec.toInt_eq_toNat_cond]
  omega

/-! ## A look-up of one row per element of the batch -/

/-- The indices, negative ones wrapped, as a column, -/
def col1 (a : IVec S16384 32) : IVec S16384x1 32 :=
  broadcastInDim S16384x1 ![0] bcast_S16384_S16384x1_0 (select (cmpi .slt a (broadcastInDim S16384 ![] bcast_S_S16384 (constantI S_ 32 0#32)))
    (addi a (broadcastInDim S16384 ![] bcast_S_S16384 (constantI S_ 32 1000000#32))) a)
/-- and the rows looked up, an index out of range giving a not-a-number. -/
def take1 (W : FVec Ideal S1000000x16 .f32) (a : IVec S16384 32) : FVec Ideal S16384x16 .f32 :=
  select (broadcastInDim S16384x16 ![0] bcast_S16384_S16384x16_0 (Host.reduce IntOp.andi
      (andi (cmpi .sge (col1 a) (broadcastInDim S16384x1 ![] bcast_S_S16384x1 (constantI S_ 32 0#32)))
        (cmpi .sle (col1 a) (broadcastInDim S16384x1 ![0, 1] bcast_S1x1_S16384x1_0_1 (broadcastInDim S1x1 ![1] bcast_S1_S1x1_1 (constantI S1 32 999999#32)))))
      (constantI S_ 1 1#1) reducesTo_S16384x1_S16384_d1 h_S_))
    (Host.gather gather_S1000000x16_S16384x1_S16384x16_1_0_n_n_0_1_116 W (col1 a))
    (broadcastInDim S16384x16 ![] bcast_S_S16384x16 (constant S_ .f32 0x7FC00000#32))

section
variable (W : FVec Ideal S1000000x16 .f32) (a : IVec S16384 32) (h : ∀ i, (a i).toNat < 1000000)
include h

/-- In range, the column holds the indices themselves. -/
theorem col1_apply (i : S16384x1.Idx) : col1 a i = a (ix1 (i 0)) := by
  unfold col1
  rw [broadcastInDim_apply _ _ _ i (ix1 (i 0) : S16384.Idx) (fun b => by fin_cases b; rfl)]
  exact wrap_word _ (h _)

omit h in
/-- The gather alone: the row the column's word names, clamped to the table. -/
theorem gather1_apply (I : IVec S16384x1 32) (b : Fin 16384) (k : Fin 16) :
    Host.gather gather_S1000000x16_S16384x1_S16384x16_1_0_n_n_0_1_116 W I (ix2 b k)
      = W (ix2 ⟨min (I (ix2 b (0 : Fin 1))).toInt.toNat (1000000 - 1), by omega⟩ k) := by
  let G := gather_S1000000x16_S16384x1_S16384x16_1_0_n_n_0_1_116
  unfold Host.gather
  refine congrArg W (funext fun c => Fin.ext ?_)
  show G.start (ix2 b k) I c + G.batchCoord (ix2 b k) c + G.offCoord (ix2 b k) c = _
  rw [GatherDims.batchCoord_eq_zero _ _ _ List.not_mem_nil]
  fin_cases c
  · have e : G.offCoord (ix2 b k) 0 = 0 :=
      GatherDims.offCoord_eq_zero _ _ _ (fun hc => ((GatherDims.mem_sKept _ _).mp hc).1 (List.mem_singleton.mpr rfl))
    have hm : (0 : Fin 2) ∈ G.startIndexMap := List.mem_singleton.mpr rfl
    have hs : G.siIdx (ix2 b k) ⟨List.idxOf (0 : Fin 2) G.startIndexMap, List.idxOf_lt_length_iff.2 hm⟩ = ix2 b (0 : Fin 1) := by
      funext x; refine Fin.ext ?_
      fin_cases x <;> rfl
    show G.start (ix2 b k) I 0 + 0 + G.offCoord (ix2 b k) 0 = _
    rw [e]
    unfold GatherDims.start
    rw [dif_pos hm, hs]
    rfl
  · show G.start (ix2 b k) I 1 + 0 + G.offCoord (ix2 b k) 1 = k.val
    have e : G.start (ix2 b k) I 1 = 0 := by
      unfold GatherDims.start
      exact dif_neg (by show (1 : Fin 2) ∉ [0]; decide)
    rw [e, Nat.zero_add]
    unfold GatherDims.offCoord
    rw [dif_pos ((GatherDims.mem_sKept _ _).mpr ⟨by show (1 : Fin 2) ∉ [0]; decide, List.not_mem_nil⟩)]
    rfl

/-- Every index in range, the look-up is of the rows the indices name. -/
theorem take1_apply (b : Fin 16384) (k : Fin 16) : take1 W a (ix2 b k) = rowAt W (a (ix1 b)) k := by
  have hm : broadcastInDim S16384x16 ![0] bcast_S16384_S16384x16_0 (Host.reduce IntOp.andi
      (andi (cmpi .sge (col1 a) (broadcastInDim S16384x1 ![] bcast_S_S16384x1 (constantI S_ 32 0#32)))
        (cmpi .sle (col1 a) (broadcastInDim S16384x1 ![0, 1] bcast_S1x1_S16384x1_0_1 (broadcastInDim S1x1 ![1] bcast_S1_S1x1_1 (constantI S1 32 999999#32)))))
      (constantI S_ 1 1#1) reducesTo_S16384x1_S16384_d1 h_S_) (ix2 b k) = 1#1 := by
    rw [broadcastInDim_apply _ _ _ _ (ix1 b : S16384.Idx) (fun c => by fin_cases c; rfl)]
    refine Host.reduce_andi_one _ _ _ _ _ rfl fun i => ?_
    show IntOp.andi (IntOp.cmpi .sge (col1 a i) 0#32) (IntOp.cmpi .sle (col1 a i) 999999#32) = 1#1
    rw [col1_apply a h]
    exact mask_word _ (h _)
  unfold take1
  show Scalar.select _ _ _ = _
  rw [hm]
  show Host.gather gather_S1000000x16_S16384x1_S16384x16_1_0_n_n_0_1_116 W (col1 a) (ix2 b k) = _
  rw [gather1_apply]
  unfold rowAt
  refine congrArg W (congrArg (fun r => ix2 r k) (Fin.ext ?_))
  show min (col1 a (ix2 b (0 : Fin 1))).toInt.toNat (1000000 - 1) = _
  rw [col1_apply a h]
  exact clamp_word _ (h _)

end

/-! ## A look-up of ten rows per element -/

/-- The indices, negative ones wrapped, with an axis of one, -/
def col3 (a : IVec S16384x10 32) : IVec S16384x10x1 32 :=
  broadcastInDim S16384x10x1 ![0, 1] bcast_S16384x10_S16384x10x1_0_1 (select (cmpi .slt a (broadcastInDim S16384x10 ![] bcast_S_S16384x10 (constantI S_ 32 0#32)))
    (addi a (broadcastInDim S16384x10 ![] bcast_S_S16384x10 (constantI S_ 32 1000000#32))) a)
/-- and the rows looked up. -/
def take3 (W : FVec Ideal S1000000x16 .f32) (a : IVec S16384x10 32) : FVec Ideal S16384x10x16 .f32 :=
  select (broadcastInDim S16384x10x16 ![0, 1] bcast_S16384x10_S16384x10x16_0_1 (Host.reduce IntOp.andi
      (andi (cmpi .sge (col3 a) (broadcastInDim S16384x10x1 ![] bcast_S_S16384x10x1 (constantI S_ 32 0#32)))
        (cmpi .sle (col3 a) (broadcastInDim S16384x10x1 ![0, 1, 2] bcast_S1x1x1_S16384x10x1_0_1_2 (broadcastInDim S1x1x1 ![2] bcast_S1_S1x1x1_2 (constantI S1 32 999999#32)))))
      (constantI S_ 1 1#1) reducesTo_S16384x10x1_S16384x10_d2 h_S_))
    (Host.gather gather_S1000000x16_S16384x10x1_S16384x10x16_2_0_n_n_0_2_116 W (col3 a))
    (broadcastInDim S16384x10x16 ![] bcast_S_S16384x10x16 (constant S_ .f32 0x7FC00000#32))

section
variable (W : FVec Ideal S1000000x16 .f32) (a : IVec S16384x10 32) (h : ∀ i, (a i).toNat < 1000000)
include h

/-- In range, it holds the indices themselves. -/
theorem col3_apply (i : S16384x10x1.Idx) : col3 a i = a (ix2 (i 0) (i 1)) := by
  unfold col3
  rw [broadcastInDim_apply _ _ _ i (ix2 (i 0) (i 1) : S16384x10.Idx) (fun b => by fin_cases b <;> rfl)]
  exact wrap_word _ (h _)

omit h in
/-- The gather alone, as for one row. -/
theorem gather3_apply (I : IVec S16384x10x1 32) (b : Fin 16384) (j : Fin 10) (k : Fin 16) :
    Host.gather gather_S1000000x16_S16384x10x1_S16384x10x16_2_0_n_n_0_2_116 W I (ix3 b j k)
      = W (ix2 ⟨min (I (ix3 b j (0 : Fin 1))).toInt.toNat (1000000 - 1), by omega⟩ k) := by
  let G := gather_S1000000x16_S16384x10x1_S16384x10x16_2_0_n_n_0_2_116
  unfold Host.gather
  refine congrArg W (funext fun c => Fin.ext ?_)
  show G.start (ix3 b j k) I c + G.batchCoord (ix3 b j k) c + G.offCoord (ix3 b j k) c = _
  rw [GatherDims.batchCoord_eq_zero _ _ _ List.not_mem_nil]
  fin_cases c
  · have e : G.offCoord (ix3 b j k) 0 = 0 :=
      GatherDims.offCoord_eq_zero _ _ _ (fun hc => ((GatherDims.mem_sKept _ _).mp hc).1 (List.mem_singleton.mpr rfl))
    have hm : (0 : Fin 2) ∈ G.startIndexMap := List.mem_singleton.mpr rfl
    have hs : G.siIdx (ix3 b j k) ⟨List.idxOf (0 : Fin 2) G.startIndexMap, List.idxOf_lt_length_iff.2 hm⟩ = ix3 b j (0 : Fin 1) := by
      funext x; refine Fin.ext ?_
      fin_cases x <;> rfl
    show G.start (ix3 b j k) I 0 + 0 + G.offCoord (ix3 b j k) 0 = _
    rw [e]
    unfold GatherDims.start
    rw [dif_pos hm, hs]
    rfl
  · show G.start (ix3 b j k) I 1 + 0 + G.offCoord (ix3 b j k) 1 = k.val
    have e : G.start (ix3 b j k) I 1 = 0 := by
      unfold GatherDims.start
      exact dif_neg (by show (1 : Fin 2) ∉ [0]; decide)
    rw [e, Nat.zero_add]
    unfold GatherDims.offCoord
    rw [dif_pos ((GatherDims.mem_sKept _ _).mpr ⟨by show (1 : Fin 2) ∉ [0]; decide, List.not_mem_nil⟩)]
    rfl

/-- Every index in range, the look-up is of the rows the indices name. -/
theorem take3_apply (b : Fin 16384) (j : Fin 10) (k : Fin 16) : take3 W a (ix3 b j k) = rowAt W (a (ix2 b j)) k := by
  have hm : broadcastInDim S16384x10x16 ![0, 1] bcast_S16384x10_S16384x10x16_0_1 (Host.reduce IntOp.andi
      (andi (cmpi .sge (col3 a) (broadcastInDim S16384x10x1 ![] bcast_S_S16384x10x1 (constantI S_ 32 0#32)))
        (cmpi .sle (col3 a) (broadcastInDim S16384x10x1 ![0, 1, 2] bcast_S1x1x1_S16384x10x1_0_1_2 (broadcastInDim S1x1x1 ![2] bcast_S1_S1x1x1_2 (constantI S1 32 999999#32)))))
      (constantI S_ 1 1#1) reducesTo_S16384x10x1_S16384x10_d2 h_S_) (ix3 b j k) = 1#1 := by
    rw [broadcastInDim_apply _ _ _ _ (ix2 b j : S16384x10.Idx) (fun c => by fin_cases c <;> rfl)]
    refine Host.reduce_andi_one _ _ _ _ _ rfl fun i => ?_
    show IntOp.andi (IntOp.cmpi .sge (col3 a i) 0#32) (IntOp.cmpi .sle (col3 a i) 999999#32) = 1#1
    rw [col3_apply a h]
    exact mask_word _ (h _)
  unfold take3
  show Scalar.select _ _ _ = _
  rw [hm]
  show Host.gather gather_S1000000x16_S16384x10x1_S16384x10x16_2_0_n_n_0_2_116 W (col3 a) (ix3 b j k) = _
  rw [gather3_apply]
  unfold rowAt
  refine congrArg W (congrArg (fun r => ix2 r k) (Fin.ext ?_))
  show min (col3 a (ix3 b j (0 : Fin 1))).toInt.toNat (1000000 - 1) = _
  rw [col3_apply a h]
  exact clamp_word _ (h _)

end

/-! ## The soft plus, the dot product, the sums -/

/-- The reference's soft plus of an array, `z` the array of zeros. -/
def soft {s : Shape} (z y : FVec Ideal s .f32) : FVec Ideal s .f32 :=
  select (cmpf .une (subf y z) (subf y z)) (addf y z)
    (addf (maximumf y z) (Host.log1p (Host.exp (Host.negf (Host.absf (subf y z))))))

/-- Entry by entry it is the soft plus: no extended real differs from itself. -/
theorem soft_apply {s : Shape} (z y : FVec Ideal s .f32) (i : s.Idx) (hz : z i = (0 : EReal)) : soft z y i = sp (y i) := by
  show Scalar.select (BitVec.ofBool (decide ((y i : EReal) - z i ≠ (y i : EReal) - z i))) ((y i : EReal) + z i : EReal)
    (max (y i : EReal) (z i) + Ideal.log1p (Ideal.exp (-max ((y i : EReal) - z i) (-((y i : EReal) - z i)))) : EReal) = _
  rw [decide_eq_false (fun hne => hne rfl), hz, sub_zero]
  rfl

/-- The dot product of a negative's row with its centre's. -/
theorem dot_apply (l : FVec Ideal S16384x10x16 .f32) (r : FVec Ideal S16384x16 .f32) (b : Fin 16384) (j : Fin 10) :
    Host.dotGeneral dot_S16384x10x16_S16384x16_S16384x10_2_1_1_n_0_0 none l r (ix2 b j)
      = (∑ k : Fin 16, (l (ix3 b j k) : EReal) * r (ix2 b k) : EReal) := by
  let D := dot_S16384x10x16_S16384x16_S16384x10_2_1_1_n_0_0
  let E : D.contr.Idx ≃ Fin 16 := contrEquiv1 D 16 rfl rfl
  refine (Ideal.dotGeneral_apply D none _ l r (ix2 b j)).trans ((Equiv.sum_comp E.symm _).symm.trans ?_)
  refine Finset.sum_congr rfl fun k _ => ?_
  have hk : ((E.symm k) ⟨0, by decide⟩ : ℕ) = k.val := contrEquiv1_symm_val D 16 rfl rfl k
  have e1 : D.lhsIdx (ix2 b j) (E.symm k) = ix3 b j k := by
    funext x; refine Fin.ext ?_
    fin_cases x
    · rfl
    · rfl
    · exact (D.lhsIdx_val_of_single rfl _ _).trans hk
  have e2 : D.rhsIdx (ix2 b j) (E.symm k) = ix2 b k := by
    funext x; refine Fin.ext ?_
    fin_cases x
    · rfl
    · exact (D.rhsIdx_val_of_single rfl _ _).trans hk
  rw [e1, e2]

/-- A sum along the features of an element, -/
theorem sum16_apply (x : FVec Ideal S16384x16 .f32) (b : Fin 16384) :
    Host.reduceAdd x (constant S_ .f32 0x00000000#32) reducesTo_S16384x16_S16384_d1 h_S_ (ix1 b) = (∑ k : Fin 16, (x (ix2 b k) : EReal) : EReal) := by
  have hr : S16384x16.Reduces [1] S16384 := by decide
  refine (Ideal.hostReduceAdd_single reducesTo_S16384x16_S16384_d1 hr x _ (ix1 b)).trans ?_
  show (Ideal.ofBits .f32 0x00000000#32 : EReal) + _ = _
  rw [Ideal.ofBits_zero_f32, zero_add]
  refine Finset.sum_congr rfl fun k _ => congrArg x (funext fun c => Fin.ext ?_)
  fin_cases c <;> rfl
/-- along its negatives, -/
theorem sum10_apply (x : FVec Ideal S16384x10 .f32) (b : Fin 16384) :
    Host.reduceAdd x (constant S_ .f32 0x00000000#32) reducesTo_S16384x10_S16384_d1 h_S_ (ix1 b) = (∑ k : Fin 10, (x (ix2 b k) : EReal) : EReal) := by
  have hr : S16384x10.Reduces [1] S16384 := by decide
  refine (Ideal.hostReduceAdd_single reducesTo_S16384x10_S16384_d1 hr x _ (ix1 b)).trans ?_
  show (Ideal.ofBits .f32 0x00000000#32 : EReal) + _ = _
  rw [Ideal.ofBits_zero_f32, zero_add]
  refine Finset.sum_congr rfl fun k _ => congrArg x (funext fun c => Fin.ext ?_)
  fin_cases c <;> rfl
/-- and over the batch. -/
theorem sumB_apply (x : FVec Ideal S16384 .f32) (i : S_.Idx) :
    Host.reduceAdd x (constant S_ .f32 0x00000000#32) reducesTo_S16384_S_d0 h_S_ i = (∑ b : Fin 16384, (x (ix1 b) : EReal) : EReal) := by
  refine (Ideal.hostReduceAdd_total reducesTo_S16384_S_d0 (fun c => c.elim0) x _ i).trans ?_
  show (Ideal.ofBits .f32 0x00000000#32 : EReal) + _ = _
  rw [Ideal.ofBits_zero_f32, zero_add]
  exact (Equiv.sum_comp idxEquiv1.symm _).symm

/-! ## The reference's result -/

section
variable (a0 a1 : IVec S16384 32) (a2 : IVec S16384x10 32) (a3 a4 : FVec Ideal S1000000x16 .f32)

/-- Minus the dot product of each centre with its context, -/
def true1 : FVec Ideal S16384 .f32 :=
  Host.negf (Host.reduceAdd (mulf (take1 a3 a0) (take1 a4 a1)) (constant S_ .f32 0x00000000#32) reducesTo_S16384x16_S16384_d1 h_S_)
/-- minus the dot product of each centre with its negated negatives, -/
def neg1 : FVec Ideal S16384x10 .f32 :=
  Host.negf (Host.dotGeneral dot_S16384x10x16_S16384x16_S16384x10_2_1_1_n_0_0 none (Host.negf (take3 a3 a2)) (take1 a3 a0))
/-- and the mean of the soft pluses, the signs as the reference has them. -/
def out : FVec Ideal S_ .f32 :=
  Host.divf (Host.reduceAdd (addf
      (Host.negf (Host.negf (soft (broadcastInDim S16384 ![] bcast_S_S16384 (constant S_ .f32 0x00000000#32)) (true1 a0 a1 a3 a4))))
      (Host.negf (Host.reduceAdd (Host.negf (soft (broadcastInDim S16384x10 ![] bcast_S_S16384x10 (constant S_ .f32 0x00000000#32)) (neg1 a0 a2 a3)))
        (constant S_ .f32 0x00000000#32) reducesTo_S16384x10_S16384_d1 h_S_)))
    (constant S_ .f32 0x00000000#32) reducesTo_S16384_S_d0 h_S_) (constant S_ .f32 0x46800000#32)

variable (h0 : ∀ i, (a0 i).toNat < 1000000) (h1 : ∀ i, (a1 i).toNat < 1000000) (h2 : ∀ i, (a2 i).toNat < 1000000)
include h0

include h1 in
/-- The first, spelt out over the features. -/
theorem true1_apply (b : Fin 16384) :
    (true1 a0 a1 a3 a4 (ix1 b) : EReal) = -∑ k : Fin 16, (rowAt a3 (a0 (ix1 b)) k : EReal) * rowAt a4 (a1 (ix1 b)) k := by
  unfold true1
  refine congrArg (fun v : EReal => -v) ((sum16_apply _ b).trans (Finset.sum_congr rfl fun k _ => ?_))
  show (take1 a3 a0 (ix2 b k) : EReal) * take1 a4 a1 (ix2 b k) = _
  rw [take1_apply a3 a0 h0, take1_apply a4 a1 h1]

include h2 in
/-- The second, spelt out over the features. -/
theorem neg1_apply (b : Fin 16384) (j : Fin 10) :
    (neg1 a0 a2 a3 (ix2 b j) : EReal) = -∑ k : Fin 16, -(rowAt a3 (a2 (ix2 b j)) k : EReal) * rowAt a3 (a0 (ix1 b)) k := by
  unfold neg1
  refine congrArg (fun v : EReal => -v) ((dot_apply _ _ b j).trans (Finset.sum_congr rfl fun k _ => ?_))
  show -(take3 a3 a2 (ix3 b j k) : EReal) * take1 a3 a0 (ix2 b k) = _
  rw [take1_apply a3 a0 h0, take3_apply a3 a2 h2]

include h1 h2 in
/-- The first table finite, the result is the mean over the batch of the soft pluses of minus the true pair's dot product
    and of the negatives' dot products. -/
theorem out_apply (hf : ∀ i, (a3 i : EReal) ≠ ⊤ ∧ (a3 i : EReal) ≠ ⊥) (i : S_.Idx) :
    out a0 a1 a2 a3 a4 i = Ideal.div (∑ b : Fin 16384,
        (sp (-∑ k : Fin 16, (rowAt a3 (a0 (ix1 b)) k : EReal) * rowAt a4 (a1 (ix1 b)) k)
          + ∑ j : Fin 10, sp (∑ k : Fin 16, (rowAt a3 (a2 (ix2 b j)) k : EReal) * rowAt a3 (a0 (ix1 b)) k)))
      (Ideal.ofBits .f32 0x46800000#32) := by
  unfold out
  refine congrArg (fun v : EReal => Ideal.div v _) ((sumB_apply _ i).trans (Finset.sum_congr rfl fun b _ => ?_))
  refine congrArg₂ (fun v w : EReal => v + w) ?_ ?_
  · show (- -soft _ (true1 a0 a1 a3 a4) (ix1 b) : EReal) = _
    rw [neg_neg, soft_apply _ _ _ Ideal.ofBits_zero_f32, true1_apply a0 a1 a3 a4 h0 h1]
  · refine (congrArg (fun v : EReal => -v) ((sum10_apply _ b).trans (Finset.sum_congr rfl fun j _ => ?_))).trans
      (neg_sum_neg_sp Finset.univ fun j : Fin 10 => ∑ k : Fin 16, (rowAt a3 (a2 (ix2 b j)) k : EReal) * rowAt a3 (a0 (ix1 b)) k)
    show (-soft _ (neg1 a0 a2 a3) (ix2 b j) : EReal) = _
    rw [soft_apply _ _ _ Ideal.ofBits_zero_f32, neg1_apply a0 a2 a3 h0 h2]
    exact congrArg (fun v : EReal => -sp v) (neg_dot_neg _ (rowAt a3 (a2 (ix2 b j))) (rowAt a3 (a0 (ix1 b))) (fun k => hf _) fun k => hf _)

end

/-- The reference's result is that function of its arguments. -/
theorem res_eq (m : (ℓ : Loc nD τ sig) → Buf (Elt Ideal) ℓ) (c : Dev nD) :
    Value.res_main_v14 m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v14
  rfl

end Cert.ReferenceIdeal.Sc
end
-- ==== Proof.Algebraic.lean ====
/- The value claim: over the extended reals the kernel and the reference leave the same loss. -/
module

public import proofs.«01_k».proof.Defs
public import proofs.«01_k».proof.Proof.KerValue
public import proofs.«01_k».proof.Proof.RefValue

@[expose] public section

noncomputable section

namespace Cert.Proof

open Idealize.ShloMosaic hiding ix0 ix1 ix2 ix3 ix4
open Idealize.ShloMosaic.TcCoe Idealize.ShloMosaic.ValueIdx Idealize.SL.Sem
open Cert.Skip
open Cert.KernelIdeal.Sc (arg0 arg1 arg2 arg3 arg4 ins prods InRange elt run_args inRange_of_finite finite_of prods_true prods_neg loss_ideal)
open Cert.KernelIdeal.Gen (k1_pay1)

/-- The kernel's sum over tiles, rows and places of the soft pluses of its products is the sum over the batch of each
    element's own: one for its true pair, one for each of its negatives. -/
theorem sum_prods (m : (ℓ : Loc Cert.KernelIdeal.nD Cert.KernelIdeal.τ Cert.KernelIdeal.sig) → Buf (Elt Ideal) ℓ)
    (d : Dev Cert.KernelIdeal.nD) (h : InRange (arg0 m d) (arg1 m d) (arg2 m d)) :
    ∑ y : Cert.KernelIdeal.S32x44x128.Idx, sp (prods (ins m) d y)
      = ∑ b : Fin 16384,
        (sp (-∑ k : Fin 16, (rowAt (arg3 m d) (arg0 m d (ix1 b)) k : EReal) * rowAt (arg4 m d) (arg1 m d (ix1 b)) k)
          + ∑ j : Fin 10, sp (∑ k : Fin 16, (rowAt (arg3 m d) (arg2 m d (ix2 b j)) k : EReal) * rowAt (arg3 m d) (arg0 m d (ix1 b)) k)) := by
  rw [← regroup (fun w r n => sp (prods (ins m) d (ix3 w r n : Cert.KernelIdeal.S32x44x128.Idx)))
    (fun b => sp (-∑ k : Fin 16, (rowAt (arg3 m d) (arg0 m d (ix1 b)) k : EReal) * rowAt (arg4 m d) (arg1 m d (ix1 b)) k))
    (fun b j => sp (∑ k : Fin 16, (rowAt (arg3 m d) (arg2 m d (ix2 b j)) k : EReal) * rowAt (arg3 m d) (arg0 m d (ix1 b)) k))
    (fun w q n => congrArg sp (prods_true m d h w q n)) (fun w q n j => congrArg sp (prods_neg m d h w q n j))]
  have e : Function.Bijective fun p : Fin 32 × Fin 44 × Fin 128 => (ix3 p.1 p.2.1 p.2.2 : Cert.KernelIdeal.S32x44x128.Idx) :=
    ⟨fun p p' hp => Prod.ext (congrFun hp 0) (Prod.ext (congrFun hp 1) (congrFun hp 2)), fun y => ⟨(y 0, y 1, y 2), (ValueIdx.eq_ix3 y).symm⟩⟩
  rw [← e.sum_comp, Fintype.sum_prod_type]
  exact Finset.sum_congr rfl fun w _ => Fintype.sum_prod_type _

/-- From memories that agree on the arguments, the indices in range and the first table finite, the two programs end with
    the same result: the kernel's dealing to tiles and its own order of the sum make no difference. -/
theorem algebraic : algebraic_KernelIdeal_ReferenceIdeal_pre_in_range_finite := by
  intro m g m' g' hp ha
  have hin := fun d => inRange_of_finite (hp d)
  refine ⟨fun c => fun _ : Cert.KernelIdeal.S_.Idx => k1_pay1 (prods (ins m) c : FVec Ideal Cert.KernelIdeal.S32x44x128 .f32), ?_, ?_⟩
  · exact (θ_run _ _ _).mono (fun _ hr => hr.1) (run_args m g hin)
  · refine (θ_run _ _ _).mono (fun r hr c => ⟨?_, (hr c).2⟩) (Cert.ReferenceIdeal.Value.run m' g')
    obtain ⟨e0, e1, e2, e3, e4⟩ := ha c
    refine (hr c).1.trans ((Cert.ReferenceIdeal.Sc.res_eq m' c).trans ?_)
    rw [e0, e1, e2, e3, e4]
    funext i
    refine (Cert.ReferenceIdeal.Sc.out_apply _ _ _ _ _ (hin c).h0 (hin c).h1 (hin c).h2 (fun x => finite_of (hp c) x) i).trans ?_
    refine ((loss_ideal _).trans ?_).symm
    rw [sum_prods m c (hin c)]
    rfl

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Gen.Pre_in_range_finite
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_in_range_finite.Gen.facts, frame_kernel, frame_ideal, frame_ideal_finite, frame_ref, frame_ref_finite, trivial, algebraic⟩

end Cert.Proof

end
